-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x20x64 : Shape := ⟨3, ![32, 20, 64]⟩
abbrev S1x32x128 : Shape := ⟨3, ![1, 32, 128]⟩
abbrev S128x64 : Shape := ⟨2, ![128, 64]⟩
abbrev S128 : Shape := ⟨1, ![128]⟩
abbrev S512x128 : Shape := ⟨2, ![512, 128]⟩
abbrev S512 : Shape := ⟨1, ![512]⟩
abbrev S64x128 : Shape := ⟨2, ![64, 128]⟩
abbrev S64 : Shape := ⟨1, ![64]⟩
abbrev S100000x64 : Shape := ⟨2, ![100000, 64]⟩
abbrev S20x32x64 : Shape := ⟨3, ![20, 32, 64]⟩
abbrev S640x64 : Shape := ⟨2, ![640, 64]⟩
abbrev S32x64 : Shape := ⟨2, ![32, 64]⟩
abbrev S64x32 : Shape := ⟨2, ![64, 32]⟩
abbrev S_ : Shape := ⟨0, ![]⟩
abbrev S32x128 : Shape := ⟨2, ![32, 128]⟩
abbrev S1x128 : Shape := ⟨2, ![1, 128]⟩
abbrev S1x512 : Shape := ⟨2, ![1, 512]⟩
abbrev S1x64 : Shape := ⟨2, ![1, 64]⟩
abbrev S64x100000 : Shape := ⟨2, ![64, 100000]⟩
abbrev S608x64 : Shape := ⟨2, ![608, 64]⟩
abbrev S608x128 : Shape := ⟨2, ![608, 128]⟩
abbrev S4x64x6400 : Shape := ⟨3, ![4, 64, 6400]⟩
abbrev S4x72x6400 : Shape := ⟨3, ![4, 72, 6400]⟩
abbrev S4x2 : Shape := ⟨2, ![4, 2]⟩
abbrev S8x6400 : Shape := ⟨2, ![8, 6400]⟩
abbrev S1x8x6400 : Shape := ⟨3, ![1, 8, 6400]⟩
abbrev S1x1 : Shape := ⟨2, ![1, 1]⟩
abbrev S1x64x6400 : Shape := ⟨3, ![1, 64, 6400]⟩
abbrev S64x6400 : Shape := ⟨2, ![64, 6400]⟩
abbrev S640x128 : Shape := ⟨2, ![640, 128]⟩
abbrev S640x512 : Shape := ⟨2, ![640, 512]⟩
abbrev S32x512 : Shape := ⟨2, ![32, 512]⟩
abbrev S32 : Shape := ⟨1, ![32]⟩
abbrev S32x1 : Shape := ⟨2, ![32, 1]⟩
abbrev S8x64 : Shape := ⟨2, ![8, 64]⟩
abbrev S1x6400 : Shape := ⟨2, ![1, 6400]⟩
abbrev S608x6400 : Shape := ⟨2, ![608, 6400]⟩
abbrev S1x72x6400 : Shape := ⟨3, ![1, 72, 6400]⟩
abbrev S72x6400 : Shape := ⟨2, ![72, 6400]⟩
abbrev S608x72 : Shape := ⟨2, ![608, 72]⟩
abbrev S1x64x3968 : Shape := ⟨3, ![1, 64, 3968]⟩
abbrev S64x3968 : Shape := ⟨2, ![64, 3968]⟩
abbrev S1x64x128 : Shape := ⟨3, ![1, 64, 128]⟩
abbrev S1x64x4096 : Shape := ⟨3, ![1, 64, 4096]⟩
abbrev S64x4096 : Shape := ⟨2, ![64, 4096]⟩
abbrev S8x4096 : Shape := ⟨2, ![8, 4096]⟩
abbrev S1x4096 : Shape := ⟨2, ![1, 4096]⟩
abbrev S608x4096 : Shape := ⟨2, ![608, 4096]⟩
abbrev S1x72x4096 : Shape := ⟨3, ![1, 72, 4096]⟩
abbrev S72x4096 : Shape := ⟨2, ![72, 4096]⟩
abbrev S608x1 : Shape := ⟨2, ![608, 1]⟩

abbrev nBuf : Space → Nat
  | .hbm => 39
  | .vmem => 20
  | .smem => 0
  | _ => 0

abbrev bufTy : (tb : Table) → Fin (tcTables nBuf tb) → BufTy
  | .hbm, ⟨0, _⟩ => ⟨S32x20x64, .f32⟩
  | .hbm, ⟨1, _⟩ => ⟨S32x20x64, .f32⟩
  | .hbm, ⟨2, _⟩ => ⟨S1x32x128, .f32⟩
  | .hbm, ⟨3, _⟩ => ⟨S1x32x128, .f32⟩
  | .hbm, ⟨4, _⟩ => ⟨S128x64, .f32⟩
  | .hbm, ⟨5, _⟩ => ⟨S128, .f32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S64x128, .f32⟩
  | .hbm, ⟨11, _⟩ => ⟨S64, .f32⟩
  | .hbm, ⟨12, _⟩ => ⟨S100000x64, .f32⟩
  | .hbm, ⟨13, _⟩ => ⟨S100000x64, .f32⟩
  | .hbm, ⟨14, _⟩ => ⟨S20x32x64, .f32⟩
  | .hbm, ⟨15, _⟩ => ⟨S640x64, .f32⟩
  | .hbm, ⟨16, _⟩ => ⟨S20x32x64, .f32⟩
  | .hbm, ⟨17, _⟩ => ⟨S640x64, .f32⟩
  | .hbm, ⟨18, _⟩ => ⟨S32x64, .f32⟩
  | .hbm, ⟨19, _⟩ => ⟨S64x32, .f32⟩
  | .hbm, ⟨20, _⟩ => ⟨S_, .i32⟩
  | .hbm, ⟨21, _⟩ => ⟨S_, .f32⟩
  | .hbm, ⟨22, _⟩ => ⟨S64x128, .f32⟩
  | .hbm, ⟨23, _⟩ => ⟨S32x64, .f32⟩
  | .hbm, ⟨24, _⟩ => ⟨S64x32, .f32⟩
  | .hbm, ⟨25, _⟩ => ⟨S_, .i32⟩
  | .hbm, ⟨26, _⟩ => ⟨S_, .f32⟩
  | .hbm, ⟨27, _⟩ => ⟨S64x128, .f32⟩
  | .hbm, ⟨28, _⟩ => ⟨S32x128, .f32⟩
  | .hbm, ⟨29, _⟩ => ⟨S32x128, .f32⟩
  | .hbm, ⟨30, _⟩ => ⟨S1x128, .f32⟩
  | .hbm, ⟨31, _⟩ => ⟨S1x512, .f32⟩
  | .hbm, ⟨32, _⟩ => ⟨S1x512, .f32⟩
  | .hbm, ⟨33, _⟩ => ⟨S1x64, .f32⟩
  | .hbm, ⟨34, _⟩ => ⟨S64x100000, .f32⟩
  | .hbm, ⟨35, _⟩ => ⟨S64x100000, .f32⟩
  | .hbm, ⟨36, _⟩ => ⟨S640x64, .f32⟩
  | .hbm, ⟨37, _⟩ => ⟨S20x32x64, .f32⟩
  | .hbm, ⟨38, _⟩ => ⟨S32x20x64, .f32⟩
  | .local _ .vmem, ⟨0, _⟩ => ⟨S640x64, .f32⟩
  | .local _ .vmem, ⟨1, _⟩ => ⟨S640x64, .f32⟩
  | .local _ .vmem, ⟨2, _⟩ => ⟨S32x128, .f32⟩
  | .local _ .vmem, ⟨3, _⟩ => ⟨S32x128, .f32⟩
  | .local _ .vmem, ⟨4, _⟩ => ⟨S128x64, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S64x128, .f32⟩
  | .local _ .vmem, ⟨11, _⟩ => ⟨S1x64, .f32⟩
  | .local _ .vmem, ⟨12, _⟩ => ⟨S64x128, .f32⟩
  | .local _ .vmem, ⟨13, _⟩ => ⟨S64x128, .f32⟩
  | .local _ .vmem, ⟨14, _⟩ => ⟨S640x64, .f32⟩
  | .local _ .vmem, ⟨15, _⟩ => ⟨S608x64, .f32⟩
  | .local _ .vmem, ⟨16, _⟩ => ⟨S640x64, .f32⟩
  | .local _ .vmem, ⟨17, _⟩ => ⟨S608x128, .f32⟩
  | .local _ .vmem, ⟨18, _⟩ => ⟨S4x64x6400, .f32⟩
  | .local _ .vmem, ⟨19, _⟩ => ⟨S4x72x6400, .f32⟩
  | _, _ => ⟨S32x20x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S640x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S640x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32x20x64 : Shape := ⟨3, ![32, 20, 64]⟩
abbrev S1x32x128 : Shape := ⟨3, ![1, 32, 128]⟩
abbrev S128x64 : Shape := ⟨2, ![128, 64]⟩
abbrev S128 : Shape := ⟨1, ![128]⟩
abbrev S512x128 : Shape := ⟨2, ![512, 128]⟩
abbrev S512 : Shape := ⟨1, ![512]⟩
abbrev S64x128 : Shape := ⟨2, ![64, 128]⟩
abbrev S64 : Shape := ⟨1, ![64]⟩
abbrev S100000x64 : Shape := ⟨2, ![100000, 64]⟩
abbrev S32x20x128 : Shape := ⟨3, ![32, 20, 128]⟩
abbrev S1x1x128 : Shape := ⟨3, ![1, 1, 128]⟩
abbrev S_ : Shape := ⟨0, ![]⟩
abbrev S100000 : Shape := ⟨1, ![100000]⟩
abbrev S20x32x128 : Shape := ⟨3, ![20, 32, 128]⟩
abbrev S20x32x64 : Shape := ⟨3, ![20, 32, 64]⟩
abbrev S32x128 : Shape := ⟨2, ![32, 128]⟩
abbrev S32x1x64 : Shape := ⟨3, ![32, 1, 64]⟩
abbrev S32x64 : Shape := ⟨2, ![32, 64]⟩
abbrev S1x32x64 : Shape := ⟨3, ![1, 32, 64]⟩
abbrev S128x512 : Shape := ⟨2, ![128, 512]⟩
abbrev S32x512 : Shape := ⟨2, ![32, 512]⟩
abbrev S1x512 : Shape := ⟨2, ![1, 512]⟩
abbrev S1x64 : Shape := ⟨2, ![1, 64]⟩
abbrev S32 : Shape := ⟨1, ![32]⟩
abbrev S32x1 : Shape := ⟨2, ![32, 1]⟩
abbrev S64x100000 : Shape := ⟨2, ![64, 100000]⟩
abbrev S32x100000 : Shape := ⟨2, ![32, 100000]⟩
abbrev S1x100000 : Shape := ⟨2, ![1, 100000]⟩

abbrev nBuf : Space → Nat
  | .hbm => 160
  | .vmem => 0
  | .smem => 0
  | _ => 0

abbrev hbmTy0_0 (i : Nat) : BufTy := match i % 128 with
  | 0 => ⟨S32x20x64, .f32⟩
  | 1 => ⟨S32x20x64, .f32⟩
  | 2 => ⟨S1x32x128, .f32⟩
  | 3 => ⟨S1x32x128, .f32⟩
  | 4 => ⟨S128x64, .f32⟩
  | 5 => ⟨S128, .f32⟩
  | 6 => ⟨S512x128, .f32⟩
  | 7 => ⟨S512x128, .f32⟩
  | 8 => ⟨S512, .f32⟩
  | 9 => ⟨S512, .f32⟩
  | 10 => ⟨S64x128, .f32⟩
  | 11 => ⟨S64, .f32⟩
  | 12 => ⟨S100000x64, .f32⟩
  | 13 => ⟨S100000x64, .f32⟩
  | 14 => ⟨S64x128, .f32⟩
  | 15 => ⟨S32x20x128, .f32⟩
  | 16 => ⟨S1x1x128, .f32⟩
  | 17 => ⟨S32x20x128, .f32⟩
  | 18 => ⟨S32x20x128, .f32⟩
  | 19 => ⟨S100000x64, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S20x32x128, .f32⟩
  | 27 => ⟨S20x32x64, .f32⟩
  | 28 => ⟨S32x128, .f32⟩
  | 29 => ⟨S32x128, .f32⟩
  | 30 => ⟨S32x1x64, .f32⟩
  | 31 => ⟨S32x64, .f32⟩
  | 32 => ⟨S_, .f32⟩
  | 33 => ⟨S32x64, .f32⟩
  | 34 => ⟨S_, .f32⟩
  | 35 => ⟨S20x32x64, .f32⟩
  | 36 => ⟨S_, .i32⟩
  | 37 => ⟨S20x32x128, .f32⟩
  | 38 => ⟨S20x32x64, .f32⟩
  | 39 => ⟨S512x128, .f32⟩
  | 40 => ⟨S512, .f32⟩
  | 41 => ⟨S512x128, .f32⟩
  | 42 => ⟨S512, .f32⟩
  | 43 => ⟨S64x128, .f32⟩
  | 44 => ⟨S64, .f32⟩
  | 45 => ⟨S100000x64, .f32⟩
  | 46 => ⟨S100000, .f32⟩
  | 47 => ⟨S100000x64, .f32⟩
  | 48 => ⟨S_, .i32⟩
  | 49 => ⟨S32x128, .f32⟩
  | 50 => ⟨S32x128, .f32⟩
  | 51 => ⟨S32x64, .f32⟩
  | 52 => ⟨S20x32x64, .f32⟩
  | 53 => ⟨S_, .i32⟩
  | 54 => ⟨S_, .i1⟩
  | 55 => ⟨S_, .i32⟩
  | 56 => ⟨S_, .i32⟩
  | 57 => ⟨S1x32x128, .f32⟩
  | 58 => ⟨S32x128, .f32⟩
  | 59 => ⟨S_, .i32⟩
  | 60 => ⟨S_, .i32⟩
  | 61 => ⟨S1x32x64, .f32⟩
  | 62 => ⟨S32x64, .f32⟩
  | 63 => ⟨S128x512, .f32⟩
  | 64 => ⟨S32x512, .f32⟩
  | 65 => ⟨S1x512, .f32⟩
  | 66 => ⟨S32x512, .f32⟩
  | 67 => ⟨S32x512, .f32⟩
  | 68 => ⟨S128x512, .f32⟩
  | 69 => ⟨S32x512, .f32⟩
  | 70 => ⟨S32x512, .f32⟩
  | 71 => ⟨S1x512, .f32⟩
  | 72 => ⟨S32x512, .f32⟩
  | 73 => ⟨S32x512, .f32⟩
  | 74 => ⟨S32x128, .f32⟩
  | 75 => ⟨S32x128, .f32⟩
  | 76 => ⟨S32x128, .f32⟩
  | 77 => ⟨S32x128, .f32⟩
  | 78 => ⟨S32x128, .f32⟩
  | 79 => ⟨S32x128, .f32⟩
  | 80 => ⟨S_, .f32⟩
  | 81 => ⟨S32x128, .f32⟩
  | 82 => ⟨S32x128, .f32⟩
  | 83 => ⟨S_, .f32⟩
  | 84 => ⟨S32x128, .f32⟩
  | 85 => ⟨S32x128, .f32⟩
  | 86 => ⟨S32x128, .f32⟩
  | 87 => ⟨S32x128, .f32⟩
  | 88 => ⟨S_, .f32⟩
  | 89 => ⟨S32x128, .f32⟩
  | 90 => ⟨S32x128, .f32⟩
  | 91 => ⟨S_, .f32⟩
  | 92 => ⟨S32x128, .f32⟩
  | 93 => ⟨S32x128, .f32⟩
  | 94 => ⟨S32x128, .f32⟩
  | 95 => ⟨S32x128, .f32⟩
  | 96 => ⟨S32x128, .f32⟩
  | 97 => ⟨S_, .f32⟩
  | 98 => ⟨S32x128, .f32⟩
  | 99 => ⟨S32x128, .f32⟩
  | 100 => ⟨S_, .f32⟩
  | 101 => ⟨S32x128, .f32⟩
  | 102 => ⟨S32x128, .f32⟩
  | 103 => ⟨S32x128, .f32⟩
  | 104 => ⟨S32x128, .f32⟩
  | 105 => ⟨S32x128, .f32⟩
  | 106 => ⟨S32x128, .f32⟩
  | 107 => ⟨S32x128, .f32⟩
  | 108 => ⟨S128x64, .f32⟩
  | 109 => ⟨S32x64, .f32⟩
  | 110 => ⟨S1x64, .f32⟩
  | 111 => ⟨S32x64, .f32⟩
  | 112 => ⟨S32x64, .f32⟩
  | 113 => ⟨S32x64, .f32⟩
  | 114 => ⟨S32x64, .f32⟩
  | 115 => ⟨S_, .f32⟩
  | 116 => ⟨S32x64, .f32⟩
  | 117 => ⟨S32x64, .f32⟩
  | 118 => ⟨S_, .f32⟩
  | 119 => ⟨S32x64, .f32⟩
  | 120 => ⟨S32x64, .f32⟩
  | 121 => ⟨S32x64, .f32⟩
  | 122 => ⟨S32x64, .f32⟩
  | 123 => ⟨S_, .f32⟩
  | 124 => ⟨S32, .f32⟩
  | 125 => ⟨S32x1, .f32⟩
  | 126 => ⟨S32x1, .f32⟩
  | 127 => ⟨S_, .f32⟩
  | _ => ⟨S32x20x64, .f32⟩

abbrev hbmTy0_1 (i : Nat) : BufTy := match i % 128 with
  | 0 => ⟨S32x1, .f32⟩
  | 1 => ⟨S32x1, .f32⟩
  | 2 => ⟨S64x100000, .f32⟩
  | 3 => ⟨S32x100000, .f32⟩
  | 4 => ⟨S1x100000, .f32⟩
  | 5 => ⟨S32x100000, .f32⟩
  | 6 => ⟨S32x100000, .f32⟩
  | 7 => ⟨S32x100000, .f32⟩
  | 8 => ⟨S32x100000, .f32⟩
  | 9 => ⟨S_, .f32⟩
  | 10 => ⟨S32, .f32⟩
  | 11 => ⟨S_, .f32⟩
  | 12 => ⟨S32, .f32⟩
  | 13 => ⟨S32, .f32⟩
  | 14 => ⟨S32x1, .f32⟩
  | 15 => ⟨S32x100000, .f32⟩
  | 16 => ⟨S32x100000, .f32⟩
  | 17 => ⟨S32x100000, .f32⟩
  | 18 => ⟨S_, .f32⟩
  | 19 => ⟨S32, .f32⟩
  | 20 => ⟨S32x1, .f32⟩
  | 21 => ⟨S32x100000, .f32⟩
  | 22 => ⟨S32x100000, .f32⟩
  | 23 => ⟨S32x64, .f32⟩
  | 24 => ⟨S32x64, .f32⟩
  | 25 => ⟨S1x32x64, .f32⟩
  | 26 => ⟨S_, .i32⟩
  | 27 => ⟨S_, .i32⟩
  | 28 => ⟨S20x32x64, .f32⟩
  | 29 => ⟨S_, .i32⟩
  | 30 => ⟨S_, .i32⟩
  | 31 => ⟨S32x20x64, .f32⟩
  | _ => ⟨S32x20x64, .f32⟩

abbrev hbmTy (i : Nat) : BufTy := match i / 128 with
  | 0 => hbmTy0_0 i
  | 1 => hbmTy0_1 i
  | _ => ⟨S32x20x64, .f32⟩

abbrev bufTy : (tb : Table) → Fin (tcTables nBuf tb) → BufTy
  | .hbm, ⟨i, _⟩ => hbmTy i
  | _, _ => ⟨S32x20x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_c : Ref sig .tc := ⟨.hbm, 36, rfl⟩
abbrev main_v16_0 : Ref sig .tc := ⟨.hbm, 37, rfl⟩
abbrev main_v16_1 : Ref sig .tc := ⟨.hbm, 38, rfl⟩
abbrev main_v16_2 : Ref sig .tc := ⟨.hbm, 39, rfl⟩
abbrev main_v16_3 : Ref sig .tc := ⟨.hbm, 40, rfl⟩
abbrev main_v16_4 : Ref sig .tc := ⟨.hbm, 41, rfl⟩
abbrev main_v16_5 : Ref sig .tc := ⟨.hbm, 42, rfl⟩
abbrev main_v16_6 : Ref sig .tc := ⟨.hbm, 43, rfl⟩
abbrev main_v16_7 : Ref sig .tc := ⟨.hbm, 44, rfl⟩
abbrev main_v16_8 : Ref sig .tc := ⟨.hbm, 45, rfl⟩
abbrev main_v16_9 : Ref sig .tc := ⟨.hbm, 46, rfl⟩
abbrev main_v16_10 : Ref sig .tc := ⟨.hbm, 47, rfl⟩
abbrev main_v16_11 : Ref sig .tc := ⟨.hbm, 48, rfl⟩
abbrev main_v16_12 : Ref sig .tc := ⟨.hbm, 49, rfl⟩
abbrev main_v16_13 : Ref sig .tc := ⟨.hbm, 50, rfl⟩
abbrev main_v16_14 : Ref sig .tc := ⟨.hbm, 51, rfl⟩
abbrev main_v16_15 : Ref sig .tc := ⟨.hbm, 52, rfl⟩
abbrev main_while0c_c_17 : Ref sig .tc := ⟨.hbm, 53, rfl⟩
abbrev main_while0c_v18 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_v0 : Ref sig .tc := ⟨.hbm, 57, rfl⟩
abbrev main_while0b_v18 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_v0 : Ref sig .tc := ⟨.hbm, 61, rfl⟩
abbrev main_while0b_v19 : Ref sig .tc := ⟨.hbm, 62, rfl⟩
abbrev main_while0b_v20 : Ref sig .tc := ⟨.hbm, 63, rfl⟩
abbrev main_while0b_v21 : Ref sig .tc := ⟨.hbm, 64, rfl⟩
abbrev main_while0b_v22 : Ref sig .tc := ⟨.hbm, 65, rfl⟩
abbrev main_while0b_v23 : Ref sig .tc := ⟨.hbm, 66, rfl⟩
abbrev main_while0b_v24 : Ref sig .tc := ⟨.hbm, 67, rfl⟩
abbrev main_while0b_v25 : Ref sig .tc := ⟨.hbm, 68, rfl⟩
abbrev main_while0b_v26 : Ref sig .tc := ⟨.hbm, 69, rfl⟩
abbrev main_while0b_v27 : Ref sig .tc := ⟨.hbm, 70, rfl⟩
abbrev main_while0b_v28 : Ref sig .tc := ⟨.hbm, 71, rfl⟩
abbrev main_while0b_v29 : Ref sig .tc := ⟨.hbm, 72, rfl⟩
abbrev main_while0b_v30 : Ref sig .tc := ⟨.hbm, 73, rfl⟩
abbrev main_while0b_v31 : Ref sig .tc := ⟨.hbm, 74, rfl⟩
abbrev main_while0b_v32 : Ref sig .tc := ⟨.hbm, 75, rfl⟩
abbrev main_while0b_v33 : Ref sig .tc := ⟨.hbm, 76, rfl⟩
abbrev main_while0b_v34 : Ref sig .tc := ⟨.hbm, 77, rfl⟩
abbrev main_while0b_v35 : Ref sig .tc := ⟨.hbm, 78, rfl⟩
abbrev main_while0b_v36 : Ref sig .tc := ⟨.hbm, 79, rfl⟩
abbrev main_while0b_cst_17 : Ref sig .tc := ⟨.hbm, 80, rfl⟩
abbrev main_while0b_v37 : Ref sig .tc := ⟨.hbm, 81, rfl⟩
abbrev main_while0b_v38 : Ref sig .tc := ⟨.hbm, 82, rfl⟩
abbrev main_while0b_cst_18 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_cst_19 : Ref sig .tc := ⟨.hbm, 88, rfl⟩
abbrev main_while0b_v43 : Ref sig .tc := ⟨.hbm, 89, rfl⟩
abbrev main_while0b_v44 : Ref sig .tc := ⟨.hbm, 90, rfl⟩
abbrev main_while0b_cst_20 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_cst_21 : Ref sig .tc := ⟨.hbm, 97, rfl⟩
abbrev main_while0b_v50 : Ref sig .tc := ⟨.hbm, 98, rfl⟩
abbrev main_while0b_v51 : Ref sig .tc := ⟨.hbm, 99, rfl⟩
abbrev main_while0b_cst_22 : Ref sig .tc := ⟨.hbm, 100, rfl⟩
abbrev main_while0b_v52 : Ref sig .tc := ⟨.hbm, 101, rfl⟩
abbrev main_while0b_v53 : Ref sig .tc := ⟨.hbm, 102, rfl⟩
abbrev main_while0b_v54 : Ref sig .tc := ⟨.hbm, 103, rfl⟩
abbrev main_while0b_v55 : Ref sig .tc := ⟨.hbm, 104, rfl⟩
abbrev main_while0b_v56 : Ref sig .tc := ⟨.hbm, 105, rfl⟩
abbrev main_while0b_v57 : Ref sig .tc := ⟨.hbm, 106, rfl⟩
abbrev main_while0b_v58 : Ref sig .tc := ⟨.hbm, 107, rfl⟩
abbrev main_while0b_v59 : Ref sig .tc := ⟨.hbm, 108, rfl⟩
abbrev main_while0b_v60 : Ref sig .tc := ⟨.hbm, 109, rfl⟩
abbrev main_while0b_v61 : Ref sig .tc := ⟨.hbm, 110, rfl⟩
abbrev main_while0b_v62 : Ref sig .tc := ⟨.hbm, 111, rfl⟩
abbrev main_while0b_v63 : Ref sig .tc := ⟨.hbm, 112, rfl⟩
abbrev main_while0b_v64 : Ref sig .tc := ⟨.hbm, 113, rfl⟩
abbrev main_while0b_v65 : Ref sig .tc := ⟨.hbm, 114, rfl⟩
abbrev main_while0b_cst_23 : Ref sig .tc := ⟨.hbm, 115, rfl⟩
abbrev main_while0b_v66 : Ref sig .tc := ⟨.hbm, 116, rfl⟩
abbrev main_while0b_v67 : Ref sig .tc := ⟨.hbm, 117, rfl⟩
abbrev main_while0b_cst_24 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_call3_v0 : Ref sig .tc := ⟨.hbm, 122, rfl⟩
abbrev main_while0b_call3_cst : Ref sig .tc := ⟨.hbm, 123, rfl⟩
abbrev main_while0b_call3_v1 : Ref sig .tc := ⟨.hbm, 124, rfl⟩
abbrev main_while0b_call3_v2 : Ref sig .tc := ⟨.hbm, 125, rfl⟩
abbrev main_while0b_v71 : Ref sig .tc := ⟨.hbm, 126, rfl⟩
abbrev main_while0b_cst_25 : Ref sig .tc := ⟨.hbm, 127, rfl⟩
abbrev main_while0b_v72 : Ref sig .tc := ⟨.hbm, 128, rfl⟩
abbrev main_while0b_v73 : Ref sig .tc := ⟨.hbm, 129, rfl⟩
abbrev main_while0b_v74 : Ref sig .tc := ⟨.hbm, 130, rfl⟩
abbrev main_while0b_v75 : Ref sig .tc := ⟨.hbm, 131, rfl⟩
abbrev main_while0b_v76 : Ref sig .tc := ⟨.hbm, 132, rfl⟩
abbrev main_while0b_v77 : Ref sig .tc := ⟨.hbm, 133, rfl⟩
abbrev main_while0b_v78 : Ref sig .tc := ⟨.hbm, 134, rfl⟩
abbrev main_while0b_v79 : Ref sig .tc := ⟨.hbm, 135, rfl⟩
abbrev main_while0b_v80 : Ref sig .tc := ⟨.hbm, 136, rfl⟩
abbrev main_while0b_cst_26 : Ref sig .tc := ⟨.hbm, 137, rfl⟩
abbrev main_while0b_v81 : Ref sig .tc := ⟨.hbm, 138, rfl⟩
abbrev main_while0b_cst_27 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_cst_28 : Ref sig .tc := ⟨.hbm, 146, rfl⟩
abbrev main_while0b_v88 : Ref sig .tc := ⟨.hbm, 147, rfl⟩
abbrev main_while0b_v89 : Ref sig .tc := ⟨.hbm, 148, rfl⟩
abbrev main_while0b_v90 : Ref sig .tc := ⟨.hbm, 149, rfl⟩
abbrev main_while0b_v91 : Ref sig .tc := ⟨.hbm, 150, rfl⟩
abbrev main_while0b_v92 : Ref sig .tc := ⟨.hbm, 151, rfl⟩
abbrev main_while0b_v93 : Ref sig .tc := ⟨.hbm, 152, rfl⟩
abbrev main_while0b_call4_v0 : Ref sig .tc := ⟨.hbm, 153, rfl⟩
abbrev main_while0b_call4_c : Ref sig .tc := ⟨.hbm, 154, rfl⟩
abbrev main_while0b_call4_c_0 : Ref sig .tc := ⟨.hbm, 155, rfl⟩
abbrev main_while0b_v94 : Ref sig .tc := ⟨.hbm, 156, rfl⟩
abbrev main_while0b_c_29 : Ref sig .tc := ⟨.hbm, 157, rfl⟩
abbrev main_while0b_v95 : Ref sig .tc := ⟨.hbm, 158, rfl⟩
abbrev main_v17 : Ref sig .tc := ⟨.hbm, 159, rfl⟩

abbrev nD : Nat := 1
abbrev τ : Topo := Topo.v7x

variable {F : FTy → Type} [FloatOps F]

abbrev main_while0_count : Scf.Loop 32 := ⟨0#32, 20#32, 1#32⟩
-- ==== Proof.KernelFrame.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

/-! The launch of the kernel's one region: the host operations before and after it, what each array holds at its start, and the blocks the pipeline stages. -/

set_option maxRecDepth 16384

noncomputable section

namespace Cert.Kernel.Unnamed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v19, main_v20}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg8`: it ends as launched. -/
theorem W_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (Pipeline.UD sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg11`: it ends as launched. -/
theorem W_main_arg11 (dats : (p : Fin _) → (c : Dev nD) → Dat τ (Elt F) Unit ℕ (Pipeline.UD sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (Pipeline.UD sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (Pipeline.UD sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      (Pipeline.RDat.FramePostR.arr_in h c 7 rfl).trans ((hA c 7).trans (V_main_arg7 m c)),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      (Pipeline.RDat.FramePostR.arr_in h c 10 rfl).trans ((hA c 10).trans (V_main_arg10 m c)),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S640x64 .f32 := win0_0.stage (cfg0.slots t 0)
abbrev hs0_0 (t : Fin cfg0.N) : (ms0_0 t).IsWhole := hstage0_0 0
abbrev ms0_1 (t : Fin cfg0.N) : Memref sig .tc .vmem S640x64 .f32 := win0_1.stage (cfg0.slots t 1)
abbrev hs0_1 (t : Fin cfg0.N) : (ms0_1 t).IsWhole := hstage0_1 0
abbrev ms0_2 (t : Fin cfg0.N) : Memref sig .tc .vmem S32x128 .f32 := win0_2.stage (cfg0.slots t 2)
abbrev hs0_2 (t : Fin cfg0.N) : (ms0_2 t).IsWhole := hstage0_2 0
abbrev ms0_3 (t : Fin cfg0.N) : Memref sig .tc .vmem S32x128 .f32 := win0_3.stage (cfg0.slots t 3)
abbrev hs0_3 (t : Fin cfg0.N) : (ms0_3 t).IsWhole := hstage0_3 0
abbrev ms0_4 (t : Fin cfg0.N) : Memref sig .tc .vmem S128x64 .f32 := win0_4.stage (cfg0.slots t 4)
abbrev hs0_4 (t : Fin cfg0.N) : (ms0_4 t).IsWhole := hstage0_4 0
abbrev ms0_5 (t : Fin cfg0.N) : Memref sig .tc .vmem S1x128 .f32 := win0_5.stage (cfg0.slots t 5)
abbrev hs0_5 (t : Fin cfg0.N) : (ms0_5 t).IsWhole := hstage0_5 0
abbrev ms0_6 (t : Fin cfg0.N) : Memref sig .tc .vmem S512x128 .f32 := win0_6.stage (cfg0.slots t 6)
abbrev hs0_6 (t : Fin cfg0.N) : (ms0_6 t).IsWhole := hstage0_6 0
abbrev ms0_7 (t : Fin cfg0.N) : Memref sig .tc .vmem S512x128 .f32 := win0_7.stage (cfg0.slots t 7)
abbrev hs0_7 (t : Fin cfg0.N) : (ms0_7 t).IsWhole := hstage0_7 0
abbrev ms0_8 (t : Fin cfg0.N) : Memref sig .tc .vmem S1x512 .f32 := win0_8.stage (cfg0.slots t 8)
abbrev hs0_8 (t : Fin cfg0.N) : (ms0_8 t).IsWhole := hstage0_8 0
abbrev ms0_9 (t : Fin cfg0.N) : Memref sig .tc .vmem S1x512 .f32 := win0_9.stage (cfg0.slots t 9)
abbrev hs0_9 (t : Fin cfg0.N) : (ms0_9 t).IsWhole := hstage0_9 0
abbrev ms0_10 (t : Fin cfg0.N) : Memref sig .tc .vmem S64x128 .f32 := win0_10.stage (cfg0.slots t 10)
abbrev hs0_10 (t : Fin cfg0.N) : (ms0_10 t).IsWhole := hstage0_10 0
abbrev ms0_11 (t : Fin cfg0.N) : Memref sig .tc .vmem S1x64 .f32 := win0_11.stage (cfg0.slots t 11)
abbrev hs0_11 (t : Fin cfg0.N) : (ms0_11 t).IsWhole := hstage0_11 0
abbrev ms0_12 (t : Fin cfg0.N) : Memref sig .tc .vmem S64x128 .f32 := win0_12.stage (cfg0.slots t 12)
abbrev hs0_12 (t : Fin cfg0.N) : (ms0_12 t).IsWhole := hstage0_12 0
abbrev ms0_13 (t : Fin cfg0.N) : Memref sig .tc .vmem S64x128 .f32 := win0_13.stage (cfg0.slots t 13)
abbrev hs0_13 (t : Fin cfg0.N) : (ms0_13 t).IsWhole := hstage0_13 0
abbrev ms0_14 (t : Fin cfg0.N) : Memref sig .tc .vmem S640x64 .f32 := win0_14.stage (cfg0.slots t 14)
abbrev hs0_14 (t : Fin cfg0.N) : (ms0_14 t).IsWhole := hstage0_14 0
/-- The scratch operands: whole scoped buffers of the kernel's own, passed beside the windows. -/
abbrev scM0_0 : Memref sig .tc .vmem S608x64 .f32 := Memref.whole cc0_scratch0
abbrev scM0_1 : Memref sig .tc .vmem S640x64 .f32 := Memref.whole cc0_scratch1
abbrev scM0_2 : Memref sig .tc .vmem S608x128 .f32 := Memref.whole cc0_scratch2
abbrev scM0_3 : Memref sig .tc .vmem S4x64x6400 .f32 := Memref.whole cc0_scratch3
abbrev scM0_4 : Memref sig .tc .vmem S4x72x6400 .f32 := Memref.whole cc0_scratch4
/-- The operands left in HBM that the body copies into scratch itself, whole. -/
abbrev hbM0_0 : Memref sig .tc .hbm S64x100000 .f32 := Memref.whole main_v16
abbrev hbM0_1 : Memref sig .tc .hbm S64x100000 .f32 := Memref.whole main_v17
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 15, SemLoc.dma 16, SemLoc.dma 17, SemLoc.dma 18, SemLoc.dma 19, SemLoc.dma 20, SemLoc.dma 21, SemLoc.dma 22] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v16, main_v17}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v16) ∗ hbPt0 c hbM0_1 (V m c main_v17)) := by
  rw [BI.bigSep_eq_bigSepL_of_eq [main_v16, main_v17] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_v16) ∗ hbPt0 c hbM0_1 (V m c main_v17))) := by
  rw [Pipeline.ΦD_eq, scopedRest0_eq, ownSems00_eq, hbmPts0_eq]; simp only [scM0_0, scM0_1, scM0_2, scM0_3, scM0_4, owns_whole]; try rfl

end Cert.Kernel.Unnamed

end
-- ==== Proof.KernelFrame.Run.lean ====
module

public import proofs.«01_k».proof.Proof.KernelFrame.Runs

@[expose] public section

/-! The whole body of the kernel, run once over buffers of any float semantics; what it leaves in the output is not named. -/

set_option maxRecDepth 16384

noncomputable section

namespace Cert.Kernel.Unnamed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 3160000 in set_option sl_exec.dmaWindow true in set_option sl_exec.dmaWindowSet true in
/-- The body's triple: on whole staging memrefs — the inputs' at their contents,
    the FORGOTTEN outputs' (14) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S640x64 .f32) (harg0 : arg0.IsWhole) (arg1 : Memref sig .tc .vmem S640x64 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x128 .f32) (harg12 : arg12.IsWhole) (arg13 : Memref sig .tc .vmem S64x128 .f32) (harg13 : arg13.IsWhole) (arg16 : Memref sig .tc .vmem S640x64 .f32) (harg16 : arg16.IsWhole) (arg17 : Memref sig .tc .vmem S608x64 .f32) (harg17 : arg17.IsWhole) (arg18 : Memref sig .tc .vmem S640x64 .f32) (harg18 : arg18.IsWhole) (arg19 : Memref sig .tc .vmem S608x128 .f32) (harg19 : arg19.IsWhole) (arg20 : Memref sig .tc .vmem S4x64x6400 .f32) (harg20 : arg20.IsWhole) (arg21 : Memref sig .tc .vmem S4x72x6400 .f32) (harg21 : arg21.IsWhole)
    (x0 : Vec F S640x64 .f32) (x1 : Vec F S640x64 .f32) (x2 : Vec F S32x128 .f32) (x3 : Vec F S32x128 .f32) (x4 : Vec F S128x64 .f32) (x5 : Vec F S1x128 .f32) (x6 : Vec F S512x128 .f32) (x7 : Vec F S512x128 .f32) (x8 : Vec F S1x512 .f32) (x9 : Vec F S1x512 .f32) (x10 : Vec F S64x128 .f32) (x11 : Vec F S1x64 .f32) (x12 : Vec F S64x128 .f32) (x13 : Vec F S64x128 .f32) (fh0 : HbBuf0 (F := F) c hbM0_0) (fh1 : HbBuf0 (F := F) c hbM0_1) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0__fused_kernel arg0 harg0 arg1 harg1 arg2 harg2 arg3 harg3 arg4 harg4 arg5 harg5 arg6 harg6 arg7 harg7 arg8 harg8 arg9 harg9 arg10 harg10 arg11 harg11 arg12 harg12 arg13 harg13 (Memref.whole main_v16) (Memref.isWhole_whole _) (Memref.whole main_v17) (Memref.isWhole_whole _) arg16 harg16 arg17 harg17 arg18 harg18 arg19 harg19 arg20 harg20 arg21 harg21 cc0_scratch5) K := by
    intro W K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hh0, Hh1, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.Kernel.Unnamed

end
-- ==== Proof.KernelFrame.Frame.lean ====
module

public import proofs.«01_k».proof.Proof.KernelFrame.Run
public import Idealize.ShloMosaic.Lib.Claim

@[expose] public section

/-! The kernel leaves its arguments unchanged and every semaphore at zero, at any float semantics. -/

set_option maxRecDepth 16384

noncomputable section

namespace Cert.Kernel.Unnamed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (14): nothing reads what the kernel leaves in them, so nothing
    of it is named (Lib/Pipeline/Dat.lean `Dat.toRForget`). -/
def forgets0 : Fin 15 → Bool := fun w => w.val == 14

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d))

set_option maxHeartbeats 2000000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    after0_0, after0_1, after0_2, after0_3, after0_4, after0_5, after0_6, after0_7, after0_8, after0_9, after0_10, after0_11, after0_12, after0_13]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (V m c main_v16) (V m c main_v17)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [HW]; · iexact HW
  iintro ⟨H0, H1, H2, H3, H4, H5, H6, H7, H8, H9, H10, H11, H12, H13, H14, HS0, HS1, HS2, HS3, HS4, Hq0, Hq1, Hq2, Hq3, Hq4, Hq5, Hq6, Hq7, Hh0, Hh1, ⟨%W', HW'⟩⟩
  isplitl [HS0 HS1 HS2 HS3 HS4 Hg Hq0 Hq1 Hq2 Hq3 Hq4 Hq5 Hq6 Hq7 Hh0 Hh1]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 14) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel.Unnamed

end
-- ==== Proof.RefRun.lean ====
module

public import proofs.«01_k».proof.Proof.Gen.ReferenceIdeal.Run
public import proofs.«01_k».proof.Proof.Gen.ReferenceIdeal.Step

@[expose] public section

/-! The reference run step by step: a memory that holds a state of the recurrence holds the next state after one trip
of the loop, so the result is read off the state after the last trip. -/

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_12 : V0 (Proc.devRef .tc main_v16_12) = s.main_v16_12
  f_13 : V0 (Proc.devRef .tc main_v16_13) = s.main_v16_13
  f_14 : V0 (Proc.devRef .tc main_v16_14) = s.main_v16_14
  f_15 : V0 (Proc.devRef .tc main_v16_15) = s.main_v16_15
  f_0 : V0 (Proc.devRef .tc main_v16_0) = s.main_v16_0
  f_1 : V0 (Proc.devRef .tc main_v16_1) = s.main_v16_1
  f_2 : V0 (Proc.devRef .tc main_v16_2) = s.main_v16_2
  f_3 : V0 (Proc.devRef .tc main_v16_3) = s.main_v16_3
  f_4 : V0 (Proc.devRef .tc main_v16_4) = s.main_v16_4
  f_5 : V0 (Proc.devRef .tc main_v16_5) = s.main_v16_5
  f_6 : V0 (Proc.devRef .tc main_v16_6) = s.main_v16_6
  f_7 : V0 (Proc.devRef .tc main_v16_7) = s.main_v16_7
  f_8 : V0 (Proc.devRef .tc main_v16_8) = s.main_v16_8
  f_9 : V0 (Proc.devRef .tc main_v16_9) = s.main_v16_9
  f_10 : V0 (Proc.devRef .tc main_v16_10) = s.main_v16_10
  n_11 : V0 (Proc.devRef .tc main_v16_11) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x32x128 (V0 (Proc.devRef .tc main_v16_0)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x128_S1x32x128 : (Proc.devRef .tc main_while0b_call1_v0 : DevRef τ sig).ty.Contents (Elt F)) = Cert.ReferenceIdeal.Step.b2 j s := by
  unfold Cert.ReferenceIdeal.Step.b2
  rw [← al_0 h, ← al_1 h, h.f_0, h.n_11]
  try rfl
set_option maxRecDepth 8192 in
theorem al_3 (h : Holds V0 s j) : (shapeCast S32x128 (Host.dynamicSlice S1x32x128 (V0 (Proc.devRef .tc main_v16_0)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x128_S1x32x128) shapeCasts_S1x32x128_S32x128 : (Proc.devRef .tc main_while0b_v18 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x32x64 (V0 (Proc.devRef .tc main_v16_1)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x64_S1x32x64 : (Proc.devRef .tc main_while0b_call2_v0 : DevRef τ sig).ty.Contents (Elt F)) = Cert.ReferenceIdeal.Step.b6 j s := by
  unfold Cert.ReferenceIdeal.Step.b6
  rw [← al_4 h, ← al_5 h, h.f_1, h.n_11]
  try rfl
set_option maxRecDepth 8192 in
theorem al_7 (h : Holds V0 s j) : (shapeCast S32x64 (Host.dynamicSlice S1x32x64 (V0 (Proc.devRef .tc main_v16_1)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x64_S1x32x64) shapeCasts_S1x32x64_S32x64 : (Proc.devRef .tc main_while0b_v19 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (transpose S128x512 [1, 0] (V0 (Proc.devRef .tc main_v16_2)) transposes_S512x128_S128x512_1_0 : (Proc.devRef .tc main_while0b_v20 : DevRef τ sig).ty.Contents (Elt F)) = Cert.ReferenceIdeal.Step.b8 j s := by
  unfold Cert.ReferenceIdeal.Step.b8
  rw [h.f_2]
  try rfl
set_option maxRecDepth 8192 in
theorem al_9 (h : Holds V0 s j) : (Host.dotGeneral dot_S32x128_S128x512_S32x512_1_0_0_1_n_n none (shapeCast S32x128 (Host.dynamicSlice S1x32x128 (V0 (Proc.devRef .tc main_v16_0)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x128_S1x32x128) shapeCasts_S1x32x128_S32x128) (transpose S128x512 [1, 0] (V0 (Proc.devRef .tc main_v16_2)) transposes_S512x128_S128x512_1_0) : (Proc.devRef .tc main_while0b_v21 : DevRef τ sig).ty.Contents (Elt F)) = Cert.ReferenceIdeal.Step.b9 j s := by
  unfold Cert.ReferenceIdeal.Step.b9
  rw [← al_3 h, ← al_8 h]
  try rfl
set_option maxRecDepth 8192 in
theorem al_10 (h : Holds V0 s j) : (broadcastInDim S1x512 ![1] bcast_S512_S1x512_1 (V0 (Proc.devRef .tc main_v16_3)) : (Proc.devRef .tc main_while0b_v22 : DevRef τ sig).ty.Contents (Elt F)) = Cert.ReferenceIdeal.Step.b10 j s := by
  unfold Cert.ReferenceIdeal.Step.b10
  rw [h.f_3]
  try rfl
set_option maxRecDepth 8192 in
theorem al_11 (h : Holds V0 s j) : (broadcastInDim S32x512 ![0, 1] bcast_S1x512_S32x512_0_1 (broadcastInDim S1x512 ![1] bcast_S512_S1x512_1 (V0 (Proc.devRef .tc main_v16_3))) : (Proc.devRef .tc main_while0b_v23 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (addf (Host.dotGeneral dot_S32x128_S128x512_S32x512_1_0_0_1_n_n none (shapeCast S32x128 (Host.dynamicSlice S1x32x128 (V0 (Proc.devRef .tc main_v16_0)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x128_S1x32x128) shapeCasts_S1x32x128_S32x128) (transpose S128x512 [1, 0] (V0 (Proc.devRef .tc main_v16_2)) transposes_S512x128_S128x512_1_0)) (broadcastInDim S32x512 ![0, 1] bcast_S1x512_S32x512_0_1 (broadcastInDim S1x512 ![1] bcast_S512_S1x512_1 (V0 (Proc.devRef .tc main_v16_3)))) : (Proc.devRef .tc main_while0b_v24 : DevRef τ sig).ty.Contents (Elt F)) = Cert.ReferenceIdeal.Step.b12 j s := by
  unfold Cert.ReferenceIdeal.Step.b12
  rw [← al_9 h, ← al_11 h]
  try rfl
set_option maxRecDepth 8192 in
theorem al_13 (h : Holds V0 s j) : (transpose S128x512 [1, 0] (V0 (Proc.devRef .tc main_v16_4)) transposes_S512x128_S128x512_1_0 : (Proc.devRef .tc main_while0b_v25 : DevRef τ sig).ty.Contents (Elt F)) = Cert.ReferenceIdeal.Step.b13 j s := by
  unfold Cert.ReferenceIdeal.Step.b13
  rw [h.f_4]
  try rfl
set_option maxRecDepth 8192 in
theorem al_14 (h : Holds V0 s j) : (Host.dotGeneral dot_S32x128_S128x512_S32x512_1_0_0_1_n_n none (V0 (Proc.devRef .tc main_v16_12)) (transpose S128x512 [1, 0] (V0 (Proc.devRef .tc main_v16_4)) transposes_S512x128_S128x512_1_0) : (Proc.devRef .tc main_while0b_v26 : DevRef τ sig).ty.Contents (Elt F)) = Cert.ReferenceIdeal.Step.b14 j s := by
  unfold Cert.ReferenceIdeal.Step.b14
  rw [← al_13 h, h.f_12]
  try rfl
set_option maxRecDepth 8192 in
theorem al_15 (h : Holds V0 s j) : (addf (addf (Host.dotGeneral dot_S32x128_S128x512_S32x512_1_0_0_1_n_n none (shapeCast S32x128 (Host.dynamicSlice S1x32x128 (V0 (Proc.devRef .tc main_v16_0)) (fun k => (((![V0 (Proc.devRef .tc main_v16_11), constantI S_ 32 0#32, constantI S_ 32 0#32] : Fin 3 → (⟨S_, .i32⟩ : BufTy).Contents (Elt F))) k (Shape.Idx.first h_S_)).toInt) sliceFits_S20x32x128_S1x32x128) shapeCasts_S1x32x128_S32x128) (transpose S128x512 [1, 0] (V0 (Proc.devRef .tc main_v16_2)) transposes_S512x128_S128x512_1_0)) (broadcastInDim S32x512 ![0, 1] bcast_S1x512_S32x512_0_1 (broadcastInDim S1x512 ![1] bcast_S512_S1x512_1 (V0 (Proc.devRef .tc main_v16_3))))) (Host.dotGeneral dot_S32x128_S128x512_S32x512_1_0_0_1_n_n none (V0 (Proc.devRef .tc main_v16_12)) (transpose S128x512 [1, 0] (V0 (Proc.devRef .tc main_v16_4)) transposes_S512x128_S128x512_1_0)) : (Proc.devRef .tc main_while0b_v27 : DevRef τ sig).ty.Contents (Elt F)) = Cert.ReferenceIdeal.Step.b15 j s := by
  unfold Cert.ReferenceIdeal.Step.b15
  rw [← al_12 h, ← al_14 h]
  try rfl
set_option maxRecDepth 8192 in
theorem al_16 (h : Holds V0 s j) : (broadcastInDim S1x512 ![1] bcast_S512_S1x512_1 (V0 (Proc.devRef .tc main_v16_5)) : (Proc.devRef .tc main_while0b_v28 : DevRef τ sig).ty.Contents (Elt F)) = Cert.ReferenceIdeal.Step.b16 j s := by
  unfold Cert.ReferenceIdeal.Step.b16
  rw [h.f_5]
  try rfl
set_option maxRecDepth 8192 in
theorem al_17 (h : Holds V0 s j) : (broadcastInDim S32x512 ![0, 1] bcast_S1x512_S32x512_0_1 (broadcastInDim S1x512 ![1] bcast_S512_S1x512_1 (V0 (Proc.devRef .tc main_v16_5))) : (Proc.devRef .tc main_while0b_v29 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (res_main_while0b_v30 V0 : (Proc.devRef .tc main_while0b_v30 : DevRef τ sig).ty.Contents (Elt F)) = Cert.ReferenceIdeal.Step.b18 j s := by
  unfold res_main_while0b_v30 Cert.ReferenceIdeal.Step.b18
  rw [← al_15 h, ← al_17 h]
  try rfl
set_option maxRecDepth 8192 in
theorem al_19 (h : Holds V0 s j) : (extractStridedSlice S32x128 ![0, 0] (res_main_while0b_v30 V0) slices_S32x512_S32x128_0_0 : (Proc.devRef .tc main_while0b_v31 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (extractStridedSlice S32x128 ![0, 128] (res_main_while0b_v30 V0) slices_S32x512_S32x128_0_128 : (Proc.devRef .tc main_while0b_v32 : DevRef τ sig).ty.Contents (Elt F)) = Cert.ReferenceIdeal.Step.b20 j s := by
  unfold Cert.ReferenceIdeal.Step.b20
  rw [← al_18 h]
  try rfl
set_option maxRecDepth 8192 in
theorem al_21 (h : Holds V0 s j) : (extractStridedSlice S32x128 ![0, 256] (res_main_while0b_v30 V0) slices_S32x512_S32x128_0_256 : (Proc.devRef .tc main_while0b_v33 : DevRef τ sig).ty.Contents (Elt F)) = Cert.ReferenceIdeal.Step.b21 j s := by
  unfold Cert.ReferenceIdeal.Step.b21
  rw [← al_18 h]
  try rfl
set_option maxRecDepth 8192 in
theorem al_22 (h : Holds V0 s j) : (extractStridedSlice S32x128 ![0, 384] (res_main_while0b_v30 V0) slices_S32x512_S32x128_0_384 : (Proc.devRef .tc main_while0b_v34 : DevRef τ sig).ty.Contents (Elt F)) = Cert.ReferenceIdeal.Step.b22 j s := by
  unfold Cert.ReferenceIdeal.Step.b22
  rw [← al_18 h]
  try rfl
set_option maxRecDepth 8192 in
theorem al_23 (h : Holds V0 s j) : (Host.negf (extractStridedSlice S32x128 ![0, 0] (res_main_while0b_v30 V0) slices_S32x512_S32x128_0_0) : (Proc.devRef .tc main_while0b_v35 : DevRef τ sig).ty.Contents (Elt F)) = Cert.ReferenceIdeal.Step.b23 j s := by
  unfold Cert.ReferenceIdeal.Step.b23
  rw [← al_19 h]
  try rfl
set_option maxRecDepth 8192 in
theorem al_24 (h : Holds V0 s j) : (Host.exp (Host.negf (extractStridedSlice S32x128 ![0, 0] (res_main_while0b_v30 V0) slices_S32x512_S32x128_0_0)) : (Proc.devRef .tc main_while0b_v36 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constant S_ .f32 0x3F800000#32 : (Proc.devRef .tc main_while0b_cst_17 : DevRef τ sig).ty.Contents (Elt F)) = Cert.ReferenceIdeal.Step.b25 j s := by
  unfold Cert.ReferenceIdeal.Step.b25
  rfl
set_option maxRecDepth 8192 in
theorem al_26 (h : Holds V0 s j) : (broadcastInDim S32x128 ![] bcast_S_S32x128 (constant S_ .f32 0x3F800000#32) : (Proc.devRef .tc main_while0b_v37 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (addf (broadcastInDim S32x128 ![] bcast_S_S32x128 (constant S_ .f32 0x3F800000#32)) (Host.exp (Host.negf (extractStridedSlice S32x128 ![0, 0] (res_main_while0b_v30 V0) slices_S32x512_S32x128_0_0))) : (Proc.devRef .tc main_while0b_v38 : DevRef τ sig).ty.Contents (Elt F)) = Cert.ReferenceIdeal.Step.b27 j s := by
  unfold Cert.ReferenceIdeal.Step.b27
  rw [← al_26 h, ← al_24 h]
  try rfl
set_option maxRecDepth 8192 in
theorem al_28 (h : Holds V0 s j) : (constant S_ .f32 0x3F800000#32 : (Proc.devRef .tc main_while0b_cst_18 : DevRef τ sig).ty.Contents (Elt F)) = Cert.ReferenceIdeal.Step.b28 j s := by
  unfold Cert.ReferenceIdeal.Step.b28
  rfl
set_option maxRecDepth 8192 in
theorem al_29 (h : Holds V0 s j) : (broadcastInDim S32x128 ![] bcast_S_S32x128 (constant S_ .f32 0x3F800000#32) : (Proc.devRef .tc main_while0b_v39 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 0] (res_main_while0b_v30 V0) slices_S32x512_S32x128_0_0)))) : (Proc.devRef .tc main_while0b_v40 : DevRef τ sig).ty.Contents (Elt F)) = Cert.ReferenceIdeal.Step.b30 j s := by
  unfold Cert.ReferenceIdeal.Step.b30
  rw [← al_29 h, ← al_27 h]
  try rfl
set_option maxRecDepth 8192 in
theorem al_31 (h : Holds V0 s j) : (Host.negf (extractStridedSlice S32x128 ![0, 128] (res_main_while0b_v30 V0) slices_S32x512_S32x128_0_128) : (Proc.devRef .tc main_while0b_v41 : DevRef τ sig).ty.Contents (Elt F)) = Cert.ReferenceIdeal.Step.b31 j s := by
  unfold Cert.ReferenceIdeal.Step.b31
  rw [← al_20 h]
  try rfl
set_option maxRecDepth 8192 in
theorem al_32 (h : Holds V0 s j) : (Host.exp (Host.negf (extractStridedSlice S32x128 ![0, 128] (res_main_while0b_v30 V0) slices_S32x512_S32x128_0_128)) : (Proc.devRef .tc main_while0b_v42 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (constant S_ .f32 0x3F800000#32 : (Proc.devRef .tc main_while0b_cst_19 : DevRef τ sig).ty.Contents (Elt F)) = Cert.ReferenceIdeal.Step.b33 j s := by
  unfold Cert.ReferenceIdeal.Step.b33
  rfl
set_option maxRecDepth 8192 in
theorem al_34 (h : Holds V0 s j) : (broadcastInDim S32x128 ![] bcast_S_S32x128 (constant S_ .f32 0x3F800000#32) : (Proc.devRef .tc main_while0b_v43 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (addf (broadcastInDim S32x128 ![] bcast_S_S32x128 (constant S_ .f32 0x3F800000#32)) (Host.exp (Host.negf (extractStridedSlice S32x128 ![0, 128] (res_main_while0b_v30 V0) slices_S32x512_S32x128_0_128))) : (Proc.devRef .tc main_while0b_v44 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (constant S_ .f32 0x3F800000#32 : (Proc.devRef .tc main_while0b_cst_20 : DevRef τ sig).ty.Contents (Elt F)) = Cert.ReferenceIdeal.Step.b36 j s := by
  unfold Cert.ReferenceIdeal.Step.b36
  rfl
set_option maxRecDepth 8192 in
theorem al_37 (h : Holds V0 s j) : (broadcastInDim S32x128 ![] bcast_S_S32x128 (constant S_ .f32 0x3F800000#32) : (Proc.devRef .tc main_while0b_v45 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 128] (res_main_while0b_v30 V0) slices_S32x512_S32x128_0_128)))) : (Proc.devRef .tc main_while0b_v46 : DevRef τ sig).ty.Contents (Elt F)) = Cert.ReferenceIdeal.Step.b38 j s := by
  unfold Cert.ReferenceIdeal.Step.b38
  rw [← al_37 h, ← al_35 h]
  try rfl
set_option maxRecDepth 8192 in
theorem al_39 (h : Holds V0 s j) : (Host.tanh (extractStridedSlice S32x128 ![0, 256] (res_main_while0b_v30 V0) slices_S32x512_S32x128_0_256) : (Proc.devRef .tc main_while0b_v47 : DevRef τ sig).ty.Contents (Elt F)) = Cert.ReferenceIdeal.Step.b39 j s := by
  unfold Cert.ReferenceIdeal.Step.b39
  rw [← al_21 h]
  try rfl
set_option maxRecDepth 8192 in
theorem al_40 (h : Holds V0 s j) : (Host.negf (extractStridedSlice S32x128 ![0, 384] (res_main_while0b_v30 V0) slices_S32x512_S32x128_0_384) : (Proc.devRef .tc main_while0b_v48 : DevRef τ sig).ty.Contents (Elt F)) = Cert.ReferenceIdeal.Step.b40 j s := by
  unfold Cert.ReferenceIdeal.Step.b40
  rw [← al_22 h]
  try rfl
set_option maxRecDepth 8192 in
theorem al_41 (h : Holds V0 s j) : (Host.exp (Host.negf (extractStridedSlice S32x128 ![0, 384] (res_main_while0b_v30 V0) slices_S32x512_S32x128_0_384)) : (Proc.devRef .tc main_while0b_v49 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (constant S_ .f32 0x3F800000#32 : (Proc.devRef .tc main_while0b_cst_21 : DevRef τ sig).ty.Contents (Elt F)) = Cert.ReferenceIdeal.Step.b42 j s := by
  unfold Cert.ReferenceIdeal.Step.b42
  rfl
set_option maxRecDepth 8192 in
theorem al_43 (h : Holds V0 s j) : (broadcastInDim S32x128 ![] bcast_S_S32x128 (constant S_ .f32 0x3F800000#32) : (Proc.devRef .tc main_while0b_v50 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (addf (broadcastInDim S32x128 ![] bcast_S_S32x128 (constant S_ .f32 0x3F800000#32)) (Host.exp (Host.negf (extractStridedSlice S32x128 ![0, 384] (res_main_while0b_v30 V0) slices_S32x512_S32x128_0_384))) : (Proc.devRef .tc main_while0b_v51 : DevRef τ sig).ty.Contents (Elt F)) = Cert.ReferenceIdeal.Step.b44 j s := by
  unfold Cert.ReferenceIdeal.Step.b44
  rw [← al_43 h, ← al_41 h]
  try rfl
set_option maxRecDepth 8192 in
theorem al_45 (h : Holds V0 s j) : (constant S_ .f32 0x3F800000#32 : (Proc.devRef .tc main_while0b_cst_22 : DevRef τ sig).ty.Contents (Elt F)) = Cert.ReferenceIdeal.Step.b45 j s := by
  unfold Cert.ReferenceIdeal.Step.b45
  rfl
set_option maxRecDepth 8192 in
theorem al_46 (h : Holds V0 s j) : (broadcastInDim S32x128 ![] bcast_S_S32x128 (constant S_ .f32 0x3F800000#32) : (Proc.devRef .tc main_while0b_v52 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 384] (res_main_while0b_v30 V0) slices_S32x512_S32x128_0_384)))) : (Proc.devRef .tc main_while0b_v53 : DevRef τ sig).ty.Contents (Elt F)) = Cert.ReferenceIdeal.Step.b47 j s := by
  unfold Cert.ReferenceIdeal.Step.b47
  rw [← al_46 h, ← al_44 h]
  try rfl
set_option maxRecDepth 8192 in
theorem al_48 (h : Holds V0 s j) : (mulf (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 128] (res_main_while0b_v30 V0) slices_S32x512_S32x128_0_128))))) (V0 (Proc.devRef .tc main_v16_13)) : (Proc.devRef .tc main_while0b_v54 : DevRef τ sig).ty.Contents (Elt F)) = Cert.ReferenceIdeal.Step.b48 j s := by
  unfold Cert.ReferenceIdeal.Step.b48
  rw [← al_38 h, h.f_13]
  try rfl
set_option maxRecDepth 8192 in
theorem al_49 (h : Holds V0 s j) : (mulf (Host.divf (broadcastInDim S32x128 ![] bcast_S_S32x128 (constant S_ .f32 0x3F800000#32)) (addf (broadcastInDim S32x128 ![] bcast_S_S32x128 (constant S_ .f32 0x3F800000#32)) (Host.exp (Host.negf (extractStridedSlice S32x128 ![0, 0] (res_main_while0b_v30 V0) slices_S32x512_S32x128_0_0))))) (Host.tanh (extractStridedSlice S32x128 ![0, 256] (res_main_while0b_v30 V0) slices_S32x512_S32x128_0_256)) : (Proc.devRef .tc main_while0b_v55 : DevRef τ sig).ty.Contents (Elt F)) = Cert.ReferenceIdeal.Step.b49 j s := by
  unfold Cert.ReferenceIdeal.Step.b49
  rw [← al_30 h, ← al_39 h]
  try rfl
set_option maxRecDepth 8192 in
theorem al_50 (h : Holds V0 s j) : (res_main_while0b_v56 V0 : (Proc.devRef .tc main_while0b_v56 : DevRef τ sig).ty.Contents (Elt F)) = Cert.ReferenceIdeal.Step.b50 j s := by
  unfold res_main_while0b_v56 Cert.ReferenceIdeal.Step.b50
  rw [← al_48 h, ← al_49 h]
  try rfl
set_option maxRecDepth 8192 in
theorem al_51 (h : Holds V0 s j) : (Host.tanh (res_main_while0b_v56 V0) : (Proc.devRef .tc main_while0b_v57 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (res_main_while0b_v58 V0 : (Proc.devRef .tc main_while0b_v58 : DevRef τ sig).ty.Contents (Elt F)) = Cert.ReferenceIdeal.Step.b52 j s := by
  unfold res_main_while0b_v58 Cert.ReferenceIdeal.Step.b52
  rw [← al_47 h, ← al_51 h]
  try rfl
set_option maxRecDepth 8192 in
theorem al_53 (h : Holds V0 s j) : (transpose S128x64 [1, 0] (V0 (Proc.devRef .tc main_v16_6)) transposes_S64x128_S128x64_1_0 : (Proc.devRef .tc main_while0b_v59 : DevRef τ sig).ty.Contents (Elt F)) = Cert.ReferenceIdeal.Step.b53 j s := by
  unfold Cert.ReferenceIdeal.Step.b53
  rw [h.f_6]
  try rfl
set_option maxRecDepth 8192 in
theorem al_54 (h : Holds V0 s j) : (Host.dotGeneral dot_S32x128_S128x64_S32x64_1_0_0_1_n_n none (res_main_while0b_v58 V0) (transpose S128x64 [1, 0] (V0 (Proc.devRef .tc main_v16_6)) transposes_S64x128_S128x64_1_0) : (Proc.devRef .tc main_while0b_v60 : DevRef τ sig).ty.Contents (Elt F)) = Cert.ReferenceIdeal.Step.b54 j s := by
  unfold Cert.ReferenceIdeal.Step.b54
  rw [← al_52 h, ← al_53 h]
  try rfl
set_option maxRecDepth 8192 in
theorem al_55 (h : Holds V0 s j) : (broadcastInDim S1x64 ![1] bcast_S64_S1x64_1 (V0 (Proc.devRef .tc main_v16_7)) : (Proc.devRef .tc main_while0b_v61 : DevRef τ sig).ty.Contents (Elt F)) = Cert.ReferenceIdeal.Step.b55 j s := by
  unfold Cert.ReferenceIdeal.Step.b55
  rw [h.f_7]
  try rfl
set_option maxRecDepth 8192 in
theorem al_56 (h : Holds V0 s j) : (broadcastInDim S32x64 ![0, 1] bcast_S1x64_S32x64_0_1 (broadcastInDim S1x64 ![1] bcast_S64_S1x64_1 (V0 (Proc.devRef .tc main_v16_7))) : (Proc.devRef .tc main_while0b_v62 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (addf (Host.dotGeneral dot_S32x128_S128x64_S32x64_1_0_0_1_n_n none (res_main_while0b_v58 V0) (transpose S128x64 [1, 0] (V0 (Proc.devRef .tc main_v16_6)) transposes_S64x128_S128x64_1_0)) (broadcastInDim S32x64 ![0, 1] bcast_S1x64_S32x64_0_1 (broadcastInDim S1x64 ![1] bcast_S64_S1x64_1 (V0 (Proc.devRef .tc main_v16_7)))) : (Proc.devRef .tc main_while0b_v63 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (Host.negf (addf (Host.dotGeneral dot_S32x128_S128x64_S32x64_1_0_0_1_n_n none (res_main_while0b_v58 V0) (transpose S128x64 [1, 0] (V0 (Proc.devRef .tc main_v16_6)) transposes_S64x128_S128x64_1_0)) (broadcastInDim S32x64 ![0, 1] bcast_S1x64_S32x64_0_1 (broadcastInDim S1x64 ![1] bcast_S64_S1x64_1 (V0 (Proc.devRef .tc main_v16_7))))) : (Proc.devRef .tc main_while0b_v64 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (Host.exp (Host.negf (addf (Host.dotGeneral dot_S32x128_S128x64_S32x64_1_0_0_1_n_n none (res_main_while0b_v58 V0) (transpose S128x64 [1, 0] (V0 (Proc.devRef .tc main_v16_6)) transposes_S64x128_S128x64_1_0)) (broadcastInDim S32x64 ![0, 1] bcast_S1x64_S32x64_0_1 (broadcastInDim S1x64 ![1] bcast_S64_S1x64_1 (V0 (Proc.devRef .tc main_v16_7)))))) : (Proc.devRef .tc main_while0b_v65 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (constant S_ .f32 0x3F800000#32 : (Proc.devRef .tc main_while0b_cst_23 : DevRef τ sig).ty.Contents (Elt F)) = Cert.ReferenceIdeal.Step.b60 j s := by
  unfold Cert.ReferenceIdeal.Step.b60
  rfl
set_option maxRecDepth 8192 in
theorem al_61 (h : Holds V0 s j) : (broadcastInDim S32x64 ![] bcast_S_S32x64 (constant S_ .f32 0x3F800000#32) : (Proc.devRef .tc main_while0b_v66 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (addf (broadcastInDim S32x64 ![] bcast_S_S32x64 (constant S_ .f32 0x3F800000#32)) (Host.exp (Host.negf (addf (Host.dotGeneral dot_S32x128_S128x64_S32x64_1_0_0_1_n_n none (res_main_while0b_v58 V0) (transpose S128x64 [1, 0] (V0 (Proc.devRef .tc main_v16_6)) transposes_S64x128_S128x64_1_0)) (broadcastInDim S32x64 ![0, 1] bcast_S1x64_S32x64_0_1 (broadcastInDim S1x64 ![1] bcast_S64_S1x64_1 (V0 (Proc.devRef .tc main_v16_7))))))) : (Proc.devRef .tc main_while0b_v67 : DevRef τ sig).ty.Contents (Elt F)) = Cert.ReferenceIdeal.Step.b62 j s := by
  unfold Cert.ReferenceIdeal.Step.b62
  rw [← al_61 h, ← al_59 h]
  try rfl
set_option maxRecDepth 8192 in
theorem al_63 (h : Holds V0 s j) : (constant S_ .f32 0x3F800000#32 : (Proc.devRef .tc main_while0b_cst_24 : DevRef τ sig).ty.Contents (Elt F)) = Cert.ReferenceIdeal.Step.b63 j s := by
  unfold Cert.ReferenceIdeal.Step.b63
  rfl
set_option maxRecDepth 8192 in
theorem al_64 (h : Holds V0 s j) : (broadcastInDim S32x64 ![] bcast_S_S32x64 (constant S_ .f32 0x3F800000#32) : (Proc.devRef .tc main_while0b_v68 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (res_main_while0b_v69 V0 : (Proc.devRef .tc main_while0b_v69 : DevRef τ sig).ty.Contents (Elt F)) = Cert.ReferenceIdeal.Step.b65 j s := by
  unfold res_main_while0b_v69 Cert.ReferenceIdeal.Step.b65
  rw [← al_64 h, ← al_62 h]
  try rfl
set_option maxRecDepth 8192 in
theorem al_66 (h : Holds V0 s j) : (res_main_while0b_v70 V0 : (Proc.devRef .tc main_while0b_v70 : DevRef τ sig).ty.Contents (Elt F)) = Cert.ReferenceIdeal.Step.b66 j s := by
  unfold res_main_while0b_v70 Cert.ReferenceIdeal.Step.b66
  rw [← al_7 h, ← al_65 h]
  try rfl
set_option maxRecDepth 8192 in
theorem al_67 (h : Holds V0 s j) : (mulf (res_main_while0b_v70 V0) (res_main_while0b_v70 V0) : (Proc.devRef .tc main_while0b_call3_v0 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (constant S_ .f32 0x00000000#32 : (Proc.devRef .tc main_while0b_call3_cst : DevRef τ sig).ty.Contents (Elt F)) = Cert.ReferenceIdeal.Step.b68 j s := by
  unfold Cert.ReferenceIdeal.Step.b68
  rfl
set_option maxRecDepth 8192 in
theorem al_69 (h : Holds V0 s j) : (Host.reduceAdd (mulf (res_main_while0b_v70 V0) (res_main_while0b_v70 V0)) (constant S_ .f32 0x00000000#32) reducesTo_S32x64_S32_d1 h_S_ : (Proc.devRef .tc main_while0b_call3_v1 : DevRef τ sig).ty.Contents (Elt F)) = Cert.ReferenceIdeal.Step.b69 j s := by
  unfold Cert.ReferenceIdeal.Step.b69
  rw [← al_67 h, ← al_68 h]
  try rfl
set_option maxRecDepth 8192 in
theorem al_70 (h : Holds V0 s j) : (broadcastInDim S32x1 ![0] bcast_S32_S32x1_0 (Host.reduceAdd (mulf (res_main_while0b_v70 V0) (res_main_while0b_v70 V0)) (constant S_ .f32 0x00000000#32) reducesTo_S32x64_S32_d1 h_S_) : (Proc.devRef .tc main_while0b_call3_v2 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (Host.sqrt (broadcastInDim S32x1 ![0] bcast_S32_S32x1_0 (Host.reduceAdd (mulf (res_main_while0b_v70 V0) (res_main_while0b_v70 V0)) (constant S_ .f32 0x00000000#32) reducesTo_S32x64_S32_d1 h_S_)) : (Proc.devRef .tc main_while0b_v71 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (constant S_ .f32 0x322BCC77#32 : (Proc.devRef .tc main_while0b_cst_25 : DevRef τ sig).ty.Contents (Elt F)) = Cert.ReferenceIdeal.Step.b72 j s := by
  unfold Cert.ReferenceIdeal.Step.b72
  rfl
set_option maxRecDepth 8192 in
theorem al_73 (h : Holds V0 s j) : (broadcastInDim S32x1 ![] bcast_S_S32x1 (constant S_ .f32 0x322BCC77#32) : (Proc.devRef .tc main_while0b_v72 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (maximumf (Host.sqrt (broadcastInDim S32x1 ![0] bcast_S32_S32x1_0 (Host.reduceAdd (mulf (res_main_while0b_v70 V0) (res_main_while0b_v70 V0)) (constant S_ .f32 0x00000000#32) reducesTo_S32x64_S32_d1 h_S_))) (broadcastInDim S32x1 ![] bcast_S_S32x1 (constant S_ .f32 0x322BCC77#32)) : (Proc.devRef .tc main_while0b_v73 : DevRef τ sig).ty.Contents (Elt F)) = Cert.ReferenceIdeal.Step.b74 j s := by
  unfold Cert.ReferenceIdeal.Step.b74
  rw [← al_71 h, ← al_73 h]
  try rfl
set_option maxRecDepth 8192 in
theorem al_75 (h : Holds V0 s j) : (transpose S64x100000 [1, 0] (V0 (Proc.devRef .tc main_v16_8)) transposes_S100000x64_S64x100000_1_0 : (Proc.devRef .tc main_while0b_v74 : DevRef τ sig).ty.Contents (Elt F)) = Cert.ReferenceIdeal.Step.b75 j s := by
  unfold Cert.ReferenceIdeal.Step.b75
  rw [h.f_8]
  try rfl
set_option maxRecDepth 8192 in
theorem al_76 (h : Holds V0 s j) : (Host.dotGeneral dot_S32x64_S64x100000_S32x100000_1_0_0_1_n_n none (res_main_while0b_v70 V0) (transpose S64x100000 [1, 0] (V0 (Proc.devRef .tc main_v16_8)) transposes_S100000x64_S64x100000_1_0) : (Proc.devRef .tc main_while0b_v75 : DevRef τ sig).ty.Contents (Elt F)) = Cert.ReferenceIdeal.Step.b76 j s := by
  unfold Cert.ReferenceIdeal.Step.b76
  rw [← al_66 h, ← al_75 h]
  try rfl
set_option maxRecDepth 8192 in
theorem al_77 (h : Holds V0 s j) : (broadcastInDim S1x100000 ![1] bcast_S100000_S1x100000_1 (V0 (Proc.devRef .tc main_v16_9)) : (Proc.devRef .tc main_while0b_v76 : DevRef τ sig).ty.Contents (Elt F)) = Cert.ReferenceIdeal.Step.b77 j s := by
  unfold Cert.ReferenceIdeal.Step.b77
  rw [h.f_9]
  try rfl
set_option maxRecDepth 8192 in
theorem al_78 (h : Holds V0 s j) : (broadcastInDim S32x100000 ![0, 1] bcast_S32x1_S32x100000_0_1 (maximumf (Host.sqrt (broadcastInDim S32x1 ![0] bcast_S32_S32x1_0 (Host.reduceAdd (mulf (res_main_while0b_v70 V0) (res_main_while0b_v70 V0)) (constant S_ .f32 0x00000000#32) reducesTo_S32x64_S32_d1 h_S_))) (broadcastInDim S32x1 ![] bcast_S_S32x1 (constant S_ .f32 0x322BCC77#32))) : (Proc.devRef .tc main_while0b_v77 : DevRef τ sig).ty.Contents (Elt F)) = Cert.ReferenceIdeal.Step.b78 j s := by
  unfold Cert.ReferenceIdeal.Step.b78
  rw [← al_74 h]
  try rfl
set_option maxRecDepth 8192 in
theorem al_79 (h : Holds V0 s j) : (broadcastInDim S32x100000 ![0, 1] bcast_S1x100000_S32x100000_0_1 (broadcastInDim S1x100000 ![1] bcast_S100000_S1x100000_1 (V0 (Proc.devRef .tc main_v16_9))) : (Proc.devRef .tc main_while0b_v78 : DevRef τ sig).ty.Contents (Elt F)) = Cert.ReferenceIdeal.Step.b79 j s := by
  unfold Cert.ReferenceIdeal.Step.b79
  rw [← al_77 h]
  try rfl
set_option maxRecDepth 8192 in
theorem al_80 (h : Holds V0 s j) : (mulf (broadcastInDim S32x100000 ![0, 1] bcast_S32x1_S32x100000_0_1 (maximumf (Host.sqrt (broadcastInDim S32x1 ![0] bcast_S32_S32x1_0 (Host.reduceAdd (mulf (res_main_while0b_v70 V0) (res_main_while0b_v70 V0)) (constant S_ .f32 0x00000000#32) reducesTo_S32x64_S32_d1 h_S_))) (broadcastInDim S32x1 ![] bcast_S_S32x1 (constant S_ .f32 0x322BCC77#32)))) (broadcastInDim S32x100000 ![0, 1] bcast_S1x100000_S32x100000_0_1 (broadcastInDim S1x100000 ![1] bcast_S100000_S1x100000_1 (V0 (Proc.devRef .tc main_v16_9)))) : (Proc.devRef .tc main_while0b_v79 : DevRef τ sig).ty.Contents (Elt F)) = Cert.ReferenceIdeal.Step.b80 j s := by
  unfold Cert.ReferenceIdeal.Step.b80
  rw [← al_78 h, ← al_79 h]
  try rfl
set_option maxRecDepth 8192 in
theorem al_81 (h : Holds V0 s j) : (res_main_while0b_v80 V0 : (Proc.devRef .tc main_while0b_v80 : DevRef τ sig).ty.Contents (Elt F)) = Cert.ReferenceIdeal.Step.b81 j s := by
  unfold res_main_while0b_v80 Cert.ReferenceIdeal.Step.b81
  rw [← al_76 h, ← al_80 h]
  try rfl
set_option maxRecDepth 8192 in
theorem al_82 (h : Holds V0 s j) : (constant S_ .f32 0xFF800000#32 : (Proc.devRef .tc main_while0b_cst_26 : DevRef τ sig).ty.Contents (Elt F)) = Cert.ReferenceIdeal.Step.b82 j s := by
  unfold Cert.ReferenceIdeal.Step.b82
  rfl
set_option maxRecDepth 8192 in
theorem al_83 (h : Holds V0 s j) : (Host.reduce FloatOps.maximumf (res_main_while0b_v80 V0) (constant S_ .f32 0xFF800000#32) reducesTo_S32x100000_S32_d1 h_S_ : (Proc.devRef .tc main_while0b_v81 : DevRef τ sig).ty.Contents (Elt F)) = Cert.ReferenceIdeal.Step.b83 j s := by
  unfold Cert.ReferenceIdeal.Step.b83
  rw [← al_81 h, ← al_82 h]
  try rfl
set_option maxRecDepth 8192 in
theorem al_84 (h : Holds V0 s j) : (constant S_ .f32 0xFF800000#32 : (Proc.devRef .tc main_while0b_cst_27 : DevRef τ sig).ty.Contents (Elt F)) = Cert.ReferenceIdeal.Step.b84 j s := by
  unfold Cert.ReferenceIdeal.Step.b84
  rfl
set_option maxRecDepth 8192 in
theorem al_85 (h : Holds V0 s j) : (broadcastInDim S32 ![] bcast_S_S32 (constant S_ .f32 0xFF800000#32) : (Proc.devRef .tc main_while0b_v82 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (maximumf (broadcastInDim S32 ![] bcast_S_S32 (constant S_ .f32 0xFF800000#32)) (Host.reduce FloatOps.maximumf (res_main_while0b_v80 V0) (constant S_ .f32 0xFF800000#32) reducesTo_S32x100000_S32_d1 h_S_) : (Proc.devRef .tc main_while0b_v83 : DevRef τ sig).ty.Contents (Elt F)) = Cert.ReferenceIdeal.Step.b86 j s := by
  unfold Cert.ReferenceIdeal.Step.b86
  rw [← al_85 h, ← al_83 h]
  try rfl
set_option maxRecDepth 8192 in
theorem al_87 (h : Holds V0 s j) : (broadcastInDim S32x1 ![0] bcast_S32_S32x1_0 (maximumf (broadcastInDim S32 ![] bcast_S_S32 (constant S_ .f32 0xFF800000#32)) (Host.reduce FloatOps.maximumf (res_main_while0b_v80 V0) (constant S_ .f32 0xFF800000#32) reducesTo_S32x100000_S32_d1 h_S_)) : (Proc.devRef .tc main_while0b_v84 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (broadcastInDim S32x100000 ![0, 1] bcast_S32x1_S32x100000_0_1 (broadcastInDim S32x1 ![0] bcast_S32_S32x1_0 (maximumf (broadcastInDim S32 ![] bcast_S_S32 (constant S_ .f32 0xFF800000#32)) (Host.reduce FloatOps.maximumf (res_main_while0b_v80 V0) (constant S_ .f32 0xFF800000#32) reducesTo_S32x100000_S32_d1 h_S_))) : (Proc.devRef .tc main_while0b_v85 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (subf (res_main_while0b_v80 V0) (broadcastInDim S32x100000 ![0, 1] bcast_S32x1_S32x100000_0_1 (broadcastInDim S32x1 ![0] bcast_S32_S32x1_0 (maximumf (broadcastInDim S32 ![] bcast_S_S32 (constant S_ .f32 0xFF800000#32)) (Host.reduce FloatOps.maximumf (res_main_while0b_v80 V0) (constant S_ .f32 0xFF800000#32) reducesTo_S32x100000_S32_d1 h_S_)))) : (Proc.devRef .tc main_while0b_v86 : DevRef τ sig).ty.Contents (Elt F)) = Cert.ReferenceIdeal.Step.b89 j s := by
  unfold Cert.ReferenceIdeal.Step.b89
  rw [← al_81 h, ← al_88 h]
  try rfl
set_option maxRecDepth 8192 in
theorem al_90 (h : Holds V0 s j) : (res_main_while0b_v87 V0 : (Proc.devRef .tc main_while0b_v87 : DevRef τ sig).ty.Contents (Elt F)) = Cert.ReferenceIdeal.Step.b90 j s := by
  unfold res_main_while0b_v87 Cert.ReferenceIdeal.Step.b90
  rw [← al_89 h]
  try rfl
set_option maxRecDepth 8192 in
theorem al_91 (h : Holds V0 s j) : (constant S_ .f32 0x00000000#32 : (Proc.devRef .tc main_while0b_cst_28 : DevRef τ sig).ty.Contents (Elt F)) = Cert.ReferenceIdeal.Step.b91 j s := by
  unfold Cert.ReferenceIdeal.Step.b91
  rfl
set_option maxRecDepth 8192 in
theorem al_92 (h : Holds V0 s j) : (Host.reduceAdd (res_main_while0b_v87 V0) (constant S_ .f32 0x00000000#32) reducesTo_S32x100000_S32_d1 h_S_ : (Proc.devRef .tc main_while0b_v88 : DevRef τ sig).ty.Contents (Elt F)) = Cert.ReferenceIdeal.Step.b92 j s := by
  unfold Cert.ReferenceIdeal.Step.b92
  rw [← al_90 h, ← al_91 h]
  try rfl
set_option maxRecDepth 8192 in
theorem al_93 (h : Holds V0 s j) : (broadcastInDim S32x1 ![0] bcast_S32_S32x1_0 (Host.reduceAdd (res_main_while0b_v87 V0) (constant S_ .f32 0x00000000#32) reducesTo_S32x100000_S32_d1 h_S_) : (Proc.devRef .tc main_while0b_v89 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (broadcastInDim S32x100000 ![0, 1] bcast_S32x1_S32x100000_0_1 (broadcastInDim S32x1 ![0] bcast_S32_S32x1_0 (Host.reduceAdd (res_main_while0b_v87 V0) (constant S_ .f32 0x00000000#32) reducesTo_S32x100000_S32_d1 h_S_)) : (Proc.devRef .tc main_while0b_v90 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (Host.divf (res_main_while0b_v87 V0) (broadcastInDim S32x100000 ![0, 1] bcast_S32x1_S32x100000_0_1 (broadcastInDim S32x1 ![0] bcast_S32_S32x1_0 (Host.reduceAdd (res_main_while0b_v87 V0) (constant S_ .f32 0x00000000#32) reducesTo_S32x100000_S32_d1 h_S_))) : (Proc.devRef .tc main_while0b_v91 : DevRef τ sig).ty.Contents (Elt F)) = Cert.ReferenceIdeal.Step.b95 j s := by
  unfold Cert.ReferenceIdeal.Step.b95
  rw [← al_90 h, ← al_94 h]
  try rfl
set_option maxRecDepth 8192 in
theorem al_96 (h : Holds V0 s j) : (Host.dotGeneral dot_S32x100000_S100000x64_S32x64_1_0_0_1_n_n none (Host.divf (res_main_while0b_v87 V0) (broadcastInDim S32x100000 ![0, 1] bcast_S32x1_S32x100000_0_1 (broadcastInDim S32x1 ![0] bcast_S32_S32x1_0 (Host.reduceAdd (res_main_while0b_v87 V0) (constant S_ .f32 0x00000000#32) reducesTo_S32x100000_S32_d1 h_S_)))) (V0 (Proc.devRef .tc main_v16_10)) : (Proc.devRef .tc main_while0b_v92 : DevRef τ sig).ty.Contents (Elt F)) = Cert.ReferenceIdeal.Step.b96 j s := by
  unfold Cert.ReferenceIdeal.Step.b96
  rw [← al_95 h, h.f_10]
  try rfl
set_option maxRecDepth 8192 in
theorem al_97 (h : Holds V0 s j) : (addf (res_main_while0b_v69 V0) (V0 (Proc.devRef .tc main_v16_14)) : (Proc.devRef .tc main_while0b_v93 : DevRef τ sig).ty.Contents (Elt F)) = Cert.ReferenceIdeal.Step.b97 j s := by
  unfold Cert.ReferenceIdeal.Step.b97
  rw [← al_65 h, h.f_14]
  try rfl
set_option maxRecDepth 8192 in
theorem al_98 (h : Holds V0 s j) : (broadcastInDim S1x32x64 ![1, 2] bcast_S32x64_S1x32x64_1_2 (addf (res_main_while0b_v69 V0) (V0 (Proc.devRef .tc main_v16_14))) : (Proc.devRef .tc main_while0b_call4_v0 : DevRef τ sig).ty.Contents (Elt F)) = Cert.ReferenceIdeal.Step.b98 j s := by
  unfold Cert.ReferenceIdeal.Step.b98
  rw [← al_97 h]
  try rfl
set_option maxRecDepth 8192 in
theorem al_99 (h : Holds V0 s j) : (constantI S_ 32 0#32 : (Proc.devRef .tc main_while0b_call4_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call4_c_0 : DevRef τ sig).ty.Contents (Elt F)) = Cert.ReferenceIdeal.Step.b100 j s := by
  unfold Cert.ReferenceIdeal.Step.b100
  rfl
set_option maxRecDepth 8192 in
theorem al_101 (h : Holds V0 s j) : (Host.dynamicUpdateSlice (V0 (Proc.devRef .tc main_v16_15)) (broadcastInDim S1x32x64 ![1, 2] bcast_S32x64_S1x32x64_1_2 (addf (res_main_while0b_v69 V0) (V0 (Proc.devRef .tc main_v16_14)))) (fun k => (((![V0 (Proc.devRef .tc main_v16_11), constantI S_ 32 0#32, constantI S_ 32 0#32] : Fin 3 → (⟨S_, .i32⟩ : BufTy).Contents (Elt F))) k (Shape.Idx.first h_S_)).toInt) updateFits_S20x32x64_S1x32x64 : (Proc.devRef .tc main_while0b_v94 : DevRef τ sig).ty.Contents (Elt F)) = Cert.ReferenceIdeal.Step.b101 j s := by
  unfold Cert.ReferenceIdeal.Step.b101
  rw [← al_98 h, ← al_99 h, ← al_100 h, h.f_15, h.n_11]
  try rfl

/-! One trip's step of the carried values is `step`, field by field; a counter steps to the next number. -/

theorem step_12 (h : Holds V0 s j) : step_main_v16_12 V0 = (step j s).main_v16_12 := by
  unfold step_main_v16_12 Cert.ReferenceIdeal.Step.step
  show id (res_main_while0b_v58 V0) = _
  rw [al_52 h]
  try rfl
theorem step_13 (h : Holds V0 s j) : step_main_v16_13 V0 = (step j s).main_v16_13 := by
  unfold step_main_v16_13 Cert.ReferenceIdeal.Step.step
  show id (res_main_while0b_v56 V0) = _
  rw [al_50 h]
  try rfl
theorem step_14 (h : Holds V0 s j) : step_main_v16_14 V0 = (step j s).main_v16_14 := by
  unfold step_main_v16_14 Cert.ReferenceIdeal.Step.step
  show id (Host.dotGeneral dot_S32x100000_S100000x64_S32x64_1_0_0_1_n_n none (Host.divf (res_main_while0b_v87 V0) (broadcastInDim S32x100000 ![0, 1] bcast_S32x1_S32x100000_0_1 (broadcastInDim S32x1 ![0] bcast_S32_S32x1_0 (Host.reduceAdd (res_main_while0b_v87 V0) (constant S_ .f32 0x00000000#32) reducesTo_S32x100000_S32_d1 h_S_)))) (V0 (Proc.devRef .tc main_v16_10))) = _
  rw [al_96 h]
  try rfl
theorem step_15 (h : Holds V0 s j) : step_main_v16_15 V0 = (step j s).main_v16_15 := by
  unfold step_main_v16_15 Cert.ReferenceIdeal.Step.step
  show id (Host.dynamicUpdateSlice (V0 (Proc.devRef .tc main_v16_15)) (broadcastInDim S1x32x64 ![1, 2] bcast_S32x64_S1x32x64_1_2 (addf (res_main_while0b_v69 V0) (V0 (Proc.devRef .tc main_v16_14)))) (fun k => (((![V0 (Proc.devRef .tc main_v16_11), constantI S_ 32 0#32, constantI S_ 32 0#32] : Fin 3 → (⟨S_, .i32⟩ : BufTy).Contents (Elt F))) k (Shape.Idx.first h_S_)).toInt) updateFits_S20x32x64_S1x32x64) = _
  exact al_101 h
theorem step_11 (h : Holds V0 s j) : step_main_v16_11 V0 = constantI S_ 32 (BitVec.ofNat 32 (j + 1)) := by
  unfold step_main_v16_11
  rw [h.n_11]
  funext i
  show BitVec.ofNat 32 j + 1#32 = BitVec.ofNat 32 (j + 1)
  simp only [BitVec.ofNat_add]

set_option maxRecDepth 8192 in
theorem out_main_v17_holds (h : Holds V0 s j) : out_main_v17 V0 = Cert.ReferenceIdeal.Step.R_main_v17 s := by
  unfold out_main_v17 Cert.ReferenceIdeal.Step.R_main_v17
  rw [h.f_15]
  try rfl

/-- One trip keeps the valuation holding: `step` of the state, the same set-up values, the next number. -/
theorem holds_step (h : Holds V0 s j) : Holds (STEP V0) (step j s) (j + 1) where
  f_12 := (STEP_main_v16_12 V0).trans (step_12 h)
  f_13 := (STEP_main_v16_13 V0).trans (step_13 h)
  f_14 := (STEP_main_v16_14 V0).trans (step_14 h)
  f_15 := (STEP_main_v16_15 V0).trans (step_15 h)
  n_11 := (STEP_main_v16_11 V0).trans (step_11 h)
  f_0 := (STEP_main_v16_0 V0).trans h.f_0
  f_1 := (STEP_main_v16_1 V0).trans h.f_1
  f_2 := (STEP_main_v16_2 V0).trans h.f_2
  f_3 := (STEP_main_v16_3 V0).trans h.f_3
  f_4 := (STEP_main_v16_4 V0).trans h.f_4
  f_5 := (STEP_main_v16_5 V0).trans h.f_5
  f_6 := (STEP_main_v16_6 V0).trans h.f_6
  f_7 := (STEP_main_v16_7 V0).trans h.f_7
  f_8 := (STEP_main_v16_8 V0).trans h.f_8
  f_9 := (STEP_main_v16_9 V0).trans h.f_9
  f_10 := (STEP_main_v16_10 V0).trans h.f_10

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg8)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 20 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v17) = Cert.ReferenceIdeal.Step.R_main_v17 (it c 20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 20
    ⟨(h c).1.trans (out_main_v17_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.ReferenceIdeal.Trips

end
-- ==== Proof.Claims.lean ====
module

public import proofs.«01_k».proof.Defs
public import proofs.«01_k».proof.Proof.RefRun

@[expose] public section

/-! The reference leaves its arguments unchanged, and the one named constant keeps the bits of the printed one. -/

noncomputable section

namespace Cert.Claims

open Idealize.ShloMosaic Idealize.SL.Sem

theorem preserves : Cert.preserves_Kernel_KernelIdeal :=
  IdealRules.named_const.statement Cert.KernelIdeal.κ "log2e" .f32 0x3FB8AA3B#32 (((Real.log 2)⁻¹ : ℝ) : EReal) rfl

/-- The sequence of states the scan of the reference goes through on one core. -/
def states (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.ReferenceIdeal.Trips.initState m c
  | n + 1 => Cert.ReferenceIdeal.Step.step n (states m c n)

theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Trips.run_iter (F := Ideal) m ρ (states m) (fun _ => rfl) (fun _ _ => rfl))

end Cert.Claims

end
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg8`: it ends as launched. -/
theorem W_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (Pipeline.UD sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg11`: it ends as launched. -/
theorem W_main_arg11 (dats : (p : Fin _) → (c : Dev nD) → Dat τ (Elt F) Unit ℕ (Pipeline.UD sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (Pipeline.UD sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (Pipeline.UD sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .vmem S640x64 .f32 := win0_0.stage (cfg0.slots t 0)
abbrev hs0_0 (t : Fin cfg0.N) : (ms0_0 t).IsWhole := hstage0_0 0
abbrev ms0_1 (t : Fin cfg0.N) : Memref sig .tc .vmem S640x64 .f32 := win0_1.stage (cfg0.slots t 1)
abbrev hs0_1 (t : Fin cfg0.N) : (ms0_1 t).IsWhole := hstage0_1 0
abbrev ms0_2 (t : Fin cfg0.N) : Memref sig .tc .vmem S32x128 .f32 := win0_2.stage (cfg0.slots t 2)
abbrev hs0_2 (t : Fin cfg0.N) : (ms0_2 t).IsWhole := hstage0_2 0
abbrev ms0_3 (t : Fin cfg0.N) : Memref sig .tc .vmem S32x128 .f32 := win0_3.stage (cfg0.slots t 3)
abbrev hs0_3 (t : Fin cfg0.N) : (ms0_3 t).IsWhole := hstage0_3 0
abbrev ms0_4 (t : Fin cfg0.N) : Memref sig .tc .vmem S128x64 .f32 := win0_4.stage (cfg0.slots t 4)
abbrev hs0_4 (t : Fin cfg0.N) : (ms0_4 t).IsWhole := hstage0_4 0
abbrev ms0_5 (t : Fin cfg0.N) : Memref sig .tc .vmem S1x128 .f32 := win0_5.stage (cfg0.slots t 5)
abbrev hs0_5 (t : Fin cfg0.N) : (ms0_5 t).IsWhole := hstage0_5 0
abbrev ms0_6 (t : Fin cfg0.N) : Memref sig .tc .vmem S512x128 .f32 := win0_6.stage (cfg0.slots t 6)
abbrev hs0_6 (t : Fin cfg0.N) : (ms0_6 t).IsWhole := hstage0_6 0
abbrev ms0_7 (t : Fin cfg0.N) : Memref sig .tc .vmem S512x128 .f32 := win0_7.stage (cfg0.slots t 7)
abbrev hs0_7 (t : Fin cfg0.N) : (ms0_7 t).IsWhole := hstage0_7 0
abbrev ms0_8 (t : Fin cfg0.N) : Memref sig .tc .vmem S1x512 .f32 := win0_8.stage (cfg0.slots t 8)
abbrev hs0_8 (t : Fin cfg0.N) : (ms0_8 t).IsWhole := hstage0_8 0
abbrev ms0_9 (t : Fin cfg0.N) : Memref sig .tc .vmem S1x512 .f32 := win0_9.stage (cfg0.slots t 9)
abbrev hs0_9 (t : Fin cfg0.N) : (ms0_9 t).IsWhole := hstage0_9 0
abbrev ms0_10 (t : Fin cfg0.N) : Memref sig .tc .vmem S64x128 .f32 := win0_10.stage (cfg0.slots t 10)
abbrev hs0_10 (t : Fin cfg0.N) : (ms0_10 t).IsWhole := hstage0_10 0
abbrev ms0_11 (t : Fin cfg0.N) : Memref sig .tc .vmem S1x64 .f32 := win0_11.stage (cfg0.slots t 11)
abbrev hs0_11 (t : Fin cfg0.N) : (ms0_11 t).IsWhole := hstage0_11 0
abbrev ms0_12 (t : Fin cfg0.N) : Memref sig .tc .vmem S64x128 .f32 := win0_12.stage (cfg0.slots t 12)
abbrev hs0_12 (t : Fin cfg0.N) : (ms0_12 t).IsWhole := hstage0_12 0
abbrev ms0_13 (t : Fin cfg0.N) : Memref sig .tc .vmem S64x128 .f32 := win0_13.stage (cfg0.slots t 13)
abbrev hs0_13 (t : Fin cfg0.N) : (ms0_13 t).IsWhole := hstage0_13 0
abbrev ms0_14 (t : Fin cfg0.N) : Memref sig .tc .vmem S640x64 .f32 := win0_14.stage (cfg0.slots t 14)
abbrev hs0_14 (t : Fin cfg0.N) : (ms0_14 t).IsWhole := hstage0_14 0
/-- The scratch operands: whole scoped buffers of the kernel's own, passed beside the windows. -/
abbrev scM0_0 : Memref sig .tc .vmem S608x64 .f32 := Memref.whole cc0_scratch0
abbrev scM0_1 : Memref sig .tc .vmem S640x64 .f32 := Memref.whole cc0_scratch1
abbrev scM0_2 : Memref sig .tc .vmem S608x128 .f32 := Memref.whole cc0_scratch2
abbrev scM0_3 : Memref sig .tc .vmem S4x64x6400 .f32 := Memref.whole cc0_scratch3
abbrev scM0_4 : Memref sig .tc .vmem S4x72x6400 .f32 := Memref.whole cc0_scratch4
/-- The operands left in HBM that the body copies into scratch itself, whole. -/
abbrev hbM0_0 : Memref sig .tc .hbm S64x100000 .f32 := Memref.whole main_v16
abbrev hbM0_1 : Memref sig .tc .hbm S64x100000 .f32 := Memref.whole main_v17
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 15, SemLoc.dma 16, SemLoc.dma 17, SemLoc.dma 18, SemLoc.dma 19, SemLoc.dma 20, SemLoc.dma 21, SemLoc.dma 22] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v16, main_v17}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v16) ∗ hbPt0 c hbM0_1 (V m c main_v17)) := by
  rw [BI.bigSep_eq_bigSepL_of_eq [main_v16, main_v17] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_v16) ∗ hbPt0 c hbM0_1 (V m c main_v17))) := by
  rw [Pipeline.ΦD_eq, scopedRest0_eq, ownSems00_eq, hbmPts0_eq]; simp only [scM0_0, scM0_1, scM0_2, scM0_3, scM0_4, owns_whole]; try rfl

end Cert.KernelIdeal.Launch

end
-- ==== Proof.BodyRun.lean ====
module

public import proofs.«01_k».proof.Proof.Setup

@[expose] public section

set_option maxRecDepth 16384

noncomputable section

namespace Cert.KernelIdeal.Body

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 4160000 in set_option sl_exec.dmaWindow true in set_option sl_exec.dmaWindowSet true in
/-- The body of the kernel over whole buffers holding `x0 … x13` and the two tables in main memory: it runs to its end,
    leaves its inputs as they were, the scratch at some contents, every counter at zero, and the output
    written by the pieces this definition finds. The pieces may mention what the two ring buffers held at the start. -/
def run (c : Dev nD) (arg0 : Memref sig .tc .vmem S640x64 .f32) (harg0 : arg0.IsWhole) (arg1 : Memref sig .tc .vmem S640x64 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S64x128 .f32) (harg10 : arg10.IsWhole) (arg11 : Memref sig .tc .vmem S1x64 .f32) (harg11 : arg11.IsWhole) (arg12 : Memref sig .tc .vmem S64x128 .f32) (harg12 : arg12.IsWhole) (arg13 : Memref sig .tc .vmem S64x128 .f32) (harg13 : arg13.IsWhole) (arg16 : Memref sig .tc .vmem S640x64 .f32) (harg16 : arg16.IsWhole) (arg17 : Memref sig .tc .vmem S608x64 .f32) (harg17 : arg17.IsWhole) (arg18 : Memref sig .tc .vmem S640x64 .f32) (harg18 : arg18.IsWhole) (arg19 : Memref sig .tc .vmem S608x128 .f32) (harg19 : arg19.IsWhole) (arg20 : Memref sig .tc .vmem S4x64x6400 .f32) (harg20 : arg20.IsWhole) (arg21 : Memref sig .tc .vmem S4x72x6400 .f32) (harg21 : arg21.IsWhole)
    (x0 : Vec F S640x64 .f32) (x1 : Vec F S640x64 .f32) (x2 : Vec F S32x128 .f32) (x3 : Vec F S32x128 .f32) (x4 : Vec F S128x64 .f32) (x5 : Vec F S1x128 .f32) (x6 : Vec F S512x128 .f32) (x7 : Vec F S512x128 .f32) (x8 : Vec F S1x512 .f32) (x9 : Vec F S1x512 .f32) (x10 : Vec F S64x128 .f32) (x11 : Vec F S1x64 .f32) (x12 : Vec F S64x128 .f32) (x13 : Vec F S64x128 .f32) (fh0 : HbBuf0 (F := F) c hbM0_0) (fh1 : HbBuf0 (F := F) c hbM0_1) :
    { L : Buf (Elt F) (arg20.view.loc (c : Thread nD τ)) → Buf (Elt F) (arg21.view.loc (c : Thread nD τ)) → List (View.Piece (Elt F) S640x64 .f32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f3 f4 f14, arg16.view.loc (c : Thread nD τ) ↦[arg16.view.set]{fullShare} arg16.view.writes (Elt F) f14 (L f3 f4)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0__fused_kernel arg0 harg0 arg1 harg1 arg2 harg2 arg3 harg3 arg4 harg4 arg5 harg5 arg6 harg6 arg7 harg7 arg8 harg8 arg9 harg9 arg10 harg10 arg11 harg11 arg12 harg12 arg13 harg13 (Memref.whole main_v16) (Memref.isWhole_whole _) (Memref.whole main_v17) (Memref.isWhole_whole _) arg16 harg16 arg17 harg17 arg18 harg18 arg19 harg19 arg20 harg20 arg21 harg21 cc0_scratch5) K } := by
    refine ⟨?L, fun W K => ?run⟩
    rotate_left
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hh0, Hh1, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec_parts!
    sl_step
    case L => exact fun f3 f4 => run.sl.H14_2 c arg0 harg0 arg1 harg1 arg2 harg2 arg3 harg3 arg4 harg4 arg5 harg5 arg6 harg6 arg7 harg7 arg8 harg8 arg9 harg9 arg10 harg10 arg11 harg11 arg12 harg12 arg13 harg13 arg17 arg18 arg19 arg20 arg21 x0 x1 x2 x3 x4 x5 x6 x7 x8 x9 x10 x11 x12 x13 fh0 fh1 f3 f4
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists fs3, fs4, arg16.view.junk
      iexact H14
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelIdeal.Body
end
-- ==== Proof.Math.lean ====
/- The mathematics of the two programs on extended reals, without any program: a cosine similarity whose key is scaled
   first equals the one divided last, a softmax taken without subtracting the maximum equals the one with it, and a sum
   over blocks is the sum over all positions. -/
module

public import Idealize.ShloMosaic.PureOps.Ideal
public import Idealize.ShloMosaic.PureOps.Ideal.Laws
public import Mathlib.Analysis.SpecialFunctions.Pow.Real

@[expose] public section

noncomputable section

namespace Cert.Math

open Idealize.ShloMosaic

/-! ## Extended reals -/

/-- The floor both programs put under a norm. -/
def eps : EReal := Ideal.ofBits .f32 0x322BCC77#32

/-- That floor as a real number. -/
def epsR : ℝ := (2 ^ 23 + 2870391 : ℕ) * (2 : ℝ) ^ ((100 : ℤ) - 127 - 23)

theorem eps_coe : eps = (epsR : EReal) := by
  unfold eps epsR Ideal.ofBits Ideal.ieee
  norm_num [Nat.shiftRight_eq_div_pow, show ¬ BitVec.extractLsb' 31 1 841731191#32 = 1#1 by decide]

theorem epsR_pos : 0 < epsR := by unfold epsR; positivity

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor moves into a finite sum of extended reals. -/
theorem mul_sum_of_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem mul_self_nonneg (x : EReal) : 0 ≤ x * x := by
  induction x with
  | bot => simp
  | coe r => exact_mod_cast _root_.mul_self_nonneg r
  | top => simp

theorem mul_self_eq_top {x : EReal} (h : x = ⊤ ∨ x = ⊥) : x * x = ⊤ := by
  rcases h with rfl | rfl <;> simp

/-- Either every entry of a vector is real, or one is infinite and then its sum of squares is infinite. -/
theorem real_or_top {n : ℕ} (x : Fin n → EReal) :
    (∃ y : Fin n → ℝ, x = fun i => (y i : EReal)) ∨ ∑ i, x i * x i = ⊤ := by
  by_cases h : ∃ i, x i = ⊤ ∨ x i = ⊥
  · right
    obtain ⟨i, hi⟩ := h
    refine top_unique ?_
    rw [← mul_self_eq_top hi]
    exact Finset.single_le_sum (f := fun i => x i * x i) (fun j _ => mul_self_nonneg _) (Finset.mem_univ i)
  · left
    push Not at h
    exact ⟨fun i => (x i).toReal, funext fun i => (EReal.coe_toReal (h i).1 (h i).2).symm⟩

/-- The floored norm of a vector. -/
def nrm {n : ℕ} (x : Fin n → EReal) : EReal := max (Ideal.sqrt (∑ i, x i * x i)) eps

/-- The floored norm is infinite, or a positive real number and then so are the entries. -/
theorem nrm_cases {n : ℕ} (x : Fin n → EReal) :
    nrm x = ⊤ ∨ ∃ (y : Fin n → ℝ) (r : ℝ), 0 < r ∧ nrm x = (r : EReal) ∧ x = fun i => (y i : EReal) := by
  rcases real_or_top x with ⟨y, rfl⟩ | h
  · right
    refine ⟨y, max (Real.sqrt (∑ i, y i * y i)) epsR, lt_max_of_lt_right epsR_pos, ?_, rfl⟩
    unfold nrm
    have hs : (∑ i, (y i : EReal) * (y i : EReal)) = ((∑ i, y i * y i : ℝ) : EReal) := by
      rw [coe_sum]; exact Finset.sum_congr rfl fun i _ => (EReal.coe_mul _ _).symm
    rw [hs, Ideal.sqrt_coe, if_neg (not_lt.mpr (Finset.sum_nonneg fun i _ => _root_.mul_self_nonneg _)), eps_coe]
    exact (EReal.coe_strictMono.monotone.map_max).symm
  · left
    unfold nrm
    rw [h, Ideal.sqrt_top]
    exact max_eq_left le_top

theorem div_top (x : EReal) : Ideal.div x ⊤ = 0 := by
  unfold Ideal.div; rw [if_neg (by simp), EReal.inv_top, mul_zero]

theorem div_coe_of_pos (x : EReal) {r : ℝ} (hr : 0 < r) : Ideal.div x (r : EReal) = x * ((r⁻¹ : ℝ) : EReal) := by
  unfold Ideal.div; rw [if_neg (by exact_mod_cast hr.ne'), EReal.coe_inv]

/-- The name the kernel gives the logarithm's factor. -/
def log2e : EReal := (((Real.log 2)⁻¹ : ℝ) : EReal)

/-- The cosine similarity the reference computes: the product divided by the product of the floored norms. -/
def cosR {n : ℕ} (q k : Fin n → EReal) : EReal := Ideal.div (∑ i, q i * k i) (nrm q * nrm k)

/-- The score the kernel computes: the query divided by its norm, the key scaled by the factor over its norm. -/
def scoreK {n : ℕ} (q k : Fin n → EReal) : EReal := ∑ i, Ideal.div (q i) (nrm q) * (k i * Ideal.div log2e (nrm k))

/-- The kernel's score is the reference's cosine, a real number, times the factor. -/
theorem score_eq {n : ℕ} (q k : Fin n → EReal) :
    ∃ x : ℝ, cosR q k = (x : EReal) ∧ scoreK q k = ((x * (Real.log 2)⁻¹ : ℝ) : EReal) := by
  have hpos : ∀ z : Fin n → EReal, 0 < nrm z := fun z => by
    rcases nrm_cases z with h | ⟨_, r, hr, h, _⟩ <;> rw [h]
    · simp
    · exact_mod_cast hr
  rcases nrm_cases q with hq | ⟨y, r, hr, hq, hy⟩
  · refine ⟨0, ?_, ?_⟩
    · unfold cosR; rw [hq, EReal.top_mul_of_pos (hpos k), div_top]; rfl
    · unfold scoreK; rw [hq]; simp [div_top]
  rcases nrm_cases k with hk | ⟨z, t, ht, hk, hz⟩
  · refine ⟨0, ?_, ?_⟩
    · unfold cosR; rw [hk, EReal.mul_top_of_pos (hpos q), div_top]; rfl
    · unfold scoreK; rw [hk]; simp [div_top]
  · refine ⟨(∑ i, y i * z i) * (r * t)⁻¹, ?_, ?_⟩
    · unfold cosR
      rw [hq, hk, ← EReal.coe_mul, div_coe_of_pos _ (mul_pos hr ht), hy, hz, EReal.coe_mul, coe_sum]
      simp only [EReal.coe_mul]
    · unfold scoreK
      rw [hq, hk, log2e, div_coe_of_pos _ ht, hy, hz, Finset.sum_mul, Finset.sum_mul, coe_sum]
      refine Finset.sum_congr rfl fun i _ => ?_
      rw [div_coe_of_pos _ hr, ← EReal.coe_mul, ← EReal.coe_mul, ← EReal.coe_mul, ← EReal.coe_mul]
      congr 1
      rw [mul_inv]; ring

/-- The weight the kernel gives a key is the exponential of the reference's cosine, a positive real number. -/
theorem weight_eq {n : ℕ} (q k : Fin n → EReal) :
    ∃ x : ℝ, cosR q k = (x : EReal) ∧ Ideal.exp2 (scoreK q k) = ((Real.exp x : ℝ) : EReal) := by
  obtain ⟨x, hx, hs⟩ := score_eq q k
  refine ⟨x, hx, ?_⟩
  rw [hs, Ideal.exp2_coe]
  congr 1
  show (2 : ℝ) ^ (x * (Real.log 2)⁻¹) = _
  rw [Real.rpow_def_of_pos two_pos]
  congr 1
  have : Real.log 2 ≠ 0 := (Real.log_pos one_lt_two).ne'
  field_simp

/-- The zero key has weight one. -/
theorem weight_zero {n : ℕ} (q : Fin n → EReal) : Ideal.exp2 (scoreK q fun _ => 0) = 1 := by
  unfold scoreK
  simp only [zero_mul, mul_zero, Finset.sum_const_zero]
  rw [show (0 : EReal) = ((0 : ℝ) : EReal) from rfl, Ideal.exp2_coe]
  show ((Real.rpow 2 0 : ℝ) : EReal) = 1
  rw [show Real.rpow 2 0 = (2 : ℝ) ^ (0 : ℝ) from rfl, Real.rpow_zero]; rfl

/-! ## The softmax -/

/-- The softmax with its maximum subtracted, applied to values, is the plain quotient of the two weighted sums. -/
theorem softmax_eq {ι : Type*} [Fintype ι] (s : ι → EReal) (x : ι → ℝ) (hs : ∀ j, s j = (x j : EReal)) (v : ι → EReal)
    (hne : Nonempty ι) (M : EReal) (hM : M = Finset.univ.fold max ⊥ s) :
    ∑ j, Ideal.div (Ideal.exp (s j - M)) (∑ j', Ideal.exp (s j' - M)) * v j
      = Ideal.div (∑ j, ((Real.exp (x j) : ℝ) : EReal) * v j) ((∑ j, Real.exp (x j) : ℝ) : EReal) := by
  classical
  obtain ⟨m, hm⟩ : ∃ m : ℝ, M = (m : EReal) := by
    change M = Finset.univ.sup s at hM
    obtain ⟨j, _, hj⟩ := Finset.exists_mem_eq_sup Finset.univ Finset.univ_nonempty s
    exact ⟨x j, by rw [hM, hj, hs]⟩
  have he : ∀ j, Ideal.exp (s j - M) = ((Real.exp (x j) * Real.exp (-m) : ℝ) : EReal) := fun j => by
    rw [hs, hm, ← EReal.coe_sub, Ideal.exp_coe, sub_eq_add_neg, Real.exp_add]
  have hS : (∑ j, Ideal.exp (s j - M)) = (((∑ j, Real.exp (x j)) * Real.exp (-m) : ℝ) : EReal) := by
    rw [Finset.sum_mul, coe_sum]; exact Finset.sum_congr rfl fun j _ => he j
  have hpos : 0 < ∑ j, Real.exp (x j) := Finset.sum_pos (fun j _ => Real.exp_pos _) Finset.univ_nonempty
  rw [hS, div_coe_of_pos _ hpos, mul_comm (∑ j, ((Real.exp (x j) : ℝ) : EReal) * v j), mul_sum_of_nonneg _ _ (inv_nonneg.mpr hpos.le)]
  refine Finset.sum_congr rfl fun j _ => ?_
  rw [he, div_coe_of_pos _ (mul_pos hpos (Real.exp_pos _)), ← EReal.coe_mul, ← mul_assoc, ← EReal.coe_mul]
  congr 2
  have := (Real.exp_pos (-m)).ne'
  field_simp

end Cert.Math

end
-- ==== Proof.Spec.lean ====
module

public import proofs.«01_k».proof.Proof.Math

@[expose] public section

/-! The function both programs compute, over plain indices: the recurrence over time, the prediction of each step, and
    the read of the memory with the error of the step before it. -/

noncomputable section

namespace Cert.Spec

open Idealize.ShloMosaic Cert.Math

/-- The arrays the programs take, time counted by natural numbers. -/
structure Inp where
  x : Fin 32 → ℕ → Fin 64 → EReal
  trg : Fin 32 → ℕ → Fin 64 → EReal
  h0 : Fin 32 → Fin 128 → EReal
  c0 : Fin 32 → Fin 128 → EReal
  ew : Fin 128 → Fin 64 → EReal
  eb : Fin 128 → EReal
  wi : Fin 512 → Fin 128 → EReal
  wh : Fin 512 → Fin 128 → EReal
  bi : Fin 512 → EReal
  bh : Fin 512 → EReal
  ow : Fin 64 → Fin 128 → EReal
  ob : Fin 64 → EReal
  key : Fin 100000 → Fin 64 → EReal
  val : Fin 100000 → Fin 64 → EReal

variable (I : Inp)

/-- The embedded input of row `r` at time `t`. -/
def emb (r : Fin 32) (t : ℕ) (d : Fin 128) : EReal := (∑ k, I.x r t k * I.ew d k) + I.eb d

/-- The gates before their activations, from the hidden state of the step before. -/
def gate (t : ℕ) (h : Fin 32 → Fin 128 → EReal) (r : Fin 32) (g : Fin 512) : EReal :=
  (((∑ d, emb I r t d * I.wi g d) + I.bi g) + ∑ d, h r d * I.wh g d) + I.bh g

/-- Column `d` of the gate that begins at column `o`. -/
def gcol (o : ℕ) (ho : o + 128 ≤ 512) (d : Fin 128) : Fin 512 := ⟨o + d.val, by omega⟩

/-- The next cell state. -/
def nextC (t : ℕ) (h c : Fin 32 → Fin 128 → EReal) (r : Fin 32) (d : Fin 128) : EReal :=
  Ideal.logistic (gate I t h r (gcol 128 (by decide) d)) * c r d
    + Ideal.logistic (gate I t h r (gcol 0 (by decide) d)) * Ideal.tanh (gate I t h r (gcol 256 (by decide) d))

/-- The next hidden state. -/
def nextH (t : ℕ) (h c : Fin 32 → Fin 128 → EReal) (r : Fin 32) (d : Fin 128) : EReal :=
  Ideal.logistic (gate I t h r (gcol 384 (by decide) d)) * Ideal.tanh (nextC I t h c r d)

/-- The hidden and the cell state after `t` steps. -/
def hc : ℕ → (Fin 32 → Fin 128 → EReal) × (Fin 32 → Fin 128 → EReal)
  | 0 => (I.h0, I.c0)
  | t + 1 => (nextH I t (hc t).1 (hc t).2, nextC I t (hc t).1 (hc t).2)

/-- The prediction from a hidden state. -/
def predOf (h : Fin 32 → Fin 128 → EReal) (r : Fin 32) (d : Fin 64) : EReal :=
  Ideal.logistic ((∑ e, h r e * I.ow d e) + I.ob d)

/-- The prediction of step `t`. -/
def pred (t : ℕ) : Fin 32 → Fin 64 → EReal := predOf I (hc I (t + 1)).1

/-- The error of step `t`. -/
def err (t : ℕ) (r : Fin 32) (d : Fin 64) : EReal := I.trg r t d - pred I t r d

/-- The memory read with a query: the average of the values, each weighted by the exponential of its key's cosine. -/
def read (q : Fin 64 → EReal) (d : Fin 64) : EReal :=
  ∑ j, Ideal.div (Ideal.exp (cosR q (I.key j) - Finset.univ.fold max ⊥ fun j => cosR q (I.key j)))
    (∑ j', Ideal.exp (cosR q (I.key j') - Finset.univ.fold max ⊥ fun j => cosR q (I.key j))) * I.val j d

/-- The output of step `t`: its prediction plus the error predicted at the step before. -/
def out : ℕ → Fin 32 → Fin 64 → EReal
  | 0 => pred I 0
  | t + 1 => fun r d => pred I (t + 1) r d + read I (err I t r) d

end Cert.Spec

end
-- ==== Proof.Cell.lean ====
module

public import proofs.«01_k».proof.Proof.Gen.KernelIdeal.Skeleton
public import proofs.«01_k».proof.Proof.Spec
public import Idealize.ShloMosaic.Lib.Pointwise
public import Idealize.ShloMosaic.Lib.WholeRead
public import Idealize.ShloMosaic.Lib.VecWindow

@[expose] public section

/-! One step of the recurrence as the kernel's vector operations, each read at an index and matched with the plain
    function of `Spec`. -/

set_option maxRecDepth 16384

noncomputable section

namespace Cert.Cell

open Idealize.ShloMosaic Cert.KernelIdeal Cert.KernelIdeal.Gen Cert.Spec Cert.Math

/-- An array of extended reals of a shape. -/
abbrev Arr (S : Shape) : Type := FVec Ideal S .f32

/-- A matrix as an array. -/
def mat {a b : ℕ} (f : Fin a → Fin b → EReal) : Arr ⟨2, ![a, b]⟩ := fun i => f (i 0) (i 1)

theorem mat_ix2 {a b : ℕ} (f : Fin a → Fin b → EReal) (x : Fin a) (y : Fin b) : mat f (ix2 x y) = f x y := rfl

theorem ext2 {a b : ℕ} {f g : Arr ⟨2, ![a, b]⟩} (h : ∀ x y, f (ix2 x y) = g (ix2 x y)) : f = g := by
  funext i
  rw [show i = ix2 (i 0) (i 1) from by
    funext k; match k with
    | ⟨0, _⟩ => rfl
    | ⟨1, _⟩ => rfl]
  exact h _ _

/-- The inputs of the recurrence from the arrays the kernel's body takes. -/
def inpOf (x0 x1 : Arr S640x64) (x2 x3 : Arr S32x128) (x4 : Arr S128x64) (x5 : Arr S1x128) (x6 x7 : Arr S512x128)
    (x8 x9 : Arr S1x512) (x10 : Arr S64x128) (x11 : Arr S1x64) (key val : Fin 100000 → Fin 64 → EReal) : Inp where
  x r t k := if h : t < 20 then x0 (ix2 ⟨32 * t + r.val, by omega⟩ k) else 0
  trg r t k := if h : t < 20 then x1 (ix2 ⟨32 * t + r.val, by omega⟩ k) else 0
  h0 r d := x2 (ix2 r d)
  c0 r d := x3 (ix2 r d)
  ew d k := x4 (ix2 d k)
  eb d := x5 (ix2 0 d)
  wi g d := x6 (ix2 g d)
  wh g d := x7 (ix2 g d)
  bi g := x8 (ix2 0 g)
  bh g := x9 (ix2 0 g)
  ow d e := x10 (ix2 d e)
  ob d := x11 (ix2 0 d)
  key := key
  val := val

/-! ## One step, as vector operations -/

/-- The gates of a step: the slab of the input's part at the step, plus the hidden state's part. -/
def gV (off : Fin 2 → ℕ) (hs : S640x512.Slices off S32x512) (xw : Arr S640x512) (whh : Arr S512x128) (h : Arr S32x128) : Arr S32x512 :=
  addf (extractStridedSlice S32x512 off xw hs) (matmul dot_S32x128_S512x128_S32x512_1_1_0_0_n_n none h whh (constant S32x512 .f32 0x00000000#32))

/-- The next cell state from the gates. -/
def cV (g : Arr S32x512) (c : Arr S32x128) : Arr S32x128 :=
  addf (mulf (logistic (extractStridedSlice S32x128 ![0, 128] g slices_S32x512_o0_128_S32x128)) c)
    (mulf (logistic (extractStridedSlice S32x128 ![0, 0] g slices_S32x512_o0_0_S32x128)) (tanh (extractStridedSlice S32x128 ![0, 256] g slices_S32x512_o0_256_S32x128)))

/-- The next hidden state from the gates and the next cell state. -/
def hV (g : Arr S32x512) (c' : Arr S32x128) : Arr S32x128 :=
  mulf (logistic (extractStridedSlice S32x128 ![0, 384] g slices_S32x512_o0_384_S32x128)) (tanh c')

/-- The prediction from a hidden state. -/
def pV (ow : Arr S64x128) (ob : Arr S1x64) (h : Arr S32x128) : Arr S32x64 :=
  logistic (addf (matmul dot_S32x128_S64x128_S32x64_1_1_0_0_n_n none h ow (constant S32x64 .f32 0x00000000#32)) (broadcastTo S32x64 ob broadcasts_S1x64_S32x64))

/-- The error of a prediction, each row over its norm. -/
def qV (e : Arr S32x64) : Arr S32x64 :=
  divf e (broadcastTo S32x64 (maximumf (sqrt (shapeCast S32x1 (multiReduction .add [1] S32 (mulf e e) 0x00000000#32 reduces_S32x64_S32 (.inl rfl) rfl) shapeCasts_S32_S32x1)) (broadcast S32x1 (Scalar.ofBits (F := Ideal) .f32 0x322BCC77#32))) broadcasts_S32x1_S32x64)

theorem cV_apply (g : Arr S32x512) (c : Arr S32x128) (r : Fin 32) (d : Fin 128) :
    cV g c (ix2 r d) = Ideal.logistic (g (ix2 r (gcol 128 (by decide) d))) * c (ix2 r d)
      + Ideal.logistic (g (ix2 r (gcol 0 (by decide) d))) * Ideal.tanh (g (ix2 r (gcol 256 (by decide) d))) := by
  pointwise [cV, gcol]

theorem hV_apply (g : Arr S32x512) (c : Arr S32x128) (r : Fin 32) (d : Fin 128) :
    hV g c (ix2 r d) = Ideal.logistic (g (ix2 r (gcol 384 (by decide) d))) * Ideal.tanh (c (ix2 r d)) := by
  pointwise [hV, gcol]

theorem pV_apply (ow : Arr S64x128) (ob : Arr S1x64) (h : Arr S32x128) (r : Fin 32) (d : Fin 64) :
    pV ow ob h (ix2 r d) = Ideal.logistic ((∑ e, h (ix2 r e) * ow (ix2 d e)) + ob (ix2 0 d)) := by
  pointwise [pV]

theorem qV_apply (e : Arr S32x64) (r : Fin 32) (d : Fin 64) :
    qV e (ix2 r d) = Ideal.div (e (ix2 r d)) (nrm fun k => e (ix2 r k)) := by
  pointwise [qV, nrm, eps]

theorem gV_apply (off : Fin 2 → ℕ) (hs : S640x512.Slices off S32x512) (t : ℕ) (ht : t < 20) (ho : off = ![32 * t, 0])
    (xw : Arr S640x512) (whh : Arr S512x128) (h : Arr S32x128) (r : Fin 32) (g : Fin 512) :
    gV off hs xw whh h (ix2 r g) = xw (ix2 ⟨32 * t + r.val, by omega⟩ g) + ∑ d, h (ix2 r d) * whh (ix2 g d) := by
  have he : extractStridedSlice S32x512 off xw hs (ix2 r g) = xw (ix2 ⟨32 * t + r.val, by omega⟩ g) :=
    extractStridedSlice_apply _ _ _ _ _ fun a => by
      subst ho
      match a with
      | ⟨0, _⟩ => rfl
      | ⟨1, _⟩ => simp [ix2]
  show extractStridedSlice S32x512 off xw hs (ix2 r g) + matmul dot_S32x128_S512x128_S32x512_1_1_0_0_n_n none h whh (constant S32x512 .f32 0x00000000#32) (ix2 r g) = _
  rw [he]
  congr 1
  pointwise []

theorem pay7_apply (x0 : Arr S640x64) (x4 : Arr S128x64) (x5 : Arr S1x128) (x6 : Arr S512x128) (x8 x9 : Arr S1x512) (i : Fin 640) (g : Fin 512) :
    k0_pay7 x0 x4 x5 x6 x8 x9 (ix2 i g) = (∑ d, ((∑ k, x0 (ix2 i k) * x4 (ix2 d k)) + x5 (ix2 0 d)) * x6 (ix2 g d)) + (x8 (ix2 0 g) + x9 (ix2 0 g)) := by
  pointwise [k0_pay7]

/-! ## A step matched with the plain function -/

section Step

variable (x0 x1 : Arr S640x64) (x2 x3 : Arr S32x128) (x4 : Arr S128x64) (x5 : Arr S1x128) (x6 x7 : Arr S512x128)
    (x8 x9 : Arr S1x512) (x10 : Arr S64x128) (x11 : Arr S1x64) (key val : Fin 100000 → Fin 64 → EReal)

theorem step_g (t : ℕ) (ht : t < 20) (off : Fin 2 → ℕ) (hs : S640x512.Slices off S32x512) (ho : off = ![32 * t, 0])
    (h : Fin 32 → Fin 128 → EReal) (r : Fin 32) (g : Fin 512) :
    gV off hs (k0_pay7 x0 x4 x5 x6 x8 x9) x7 (mat h) (ix2 r g)
      = gate (inpOf x0 x1 x2 x3 x4 x5 x6 x7 x8 x9 x10 x11 key val) t h r g := by
  rw [gV_apply off hs t ht ho, pay7_apply]
  simp only [gate, emb, inpOf, mat_ix2, dif_pos ht]
  rw [← add_assoc, add_right_comm]

theorem step_c (t : ℕ) (ht : t < 20) (off : Fin 2 → ℕ) (hs : S640x512.Slices off S32x512) (ho : off = ![32 * t, 0]) :
    cV (gV off hs (k0_pay7 x0 x4 x5 x6 x8 x9) x7 (mat (hc (inpOf x0 x1 x2 x3 x4 x5 x6 x7 x8 x9 x10 x11 key val) t).1))
        (mat (hc (inpOf x0 x1 x2 x3 x4 x5 x6 x7 x8 x9 x10 x11 key val) t).2)
      = mat (hc (inpOf x0 x1 x2 x3 x4 x5 x6 x7 x8 x9 x10 x11 key val) (t + 1)).2 :=
  ext2 fun r d => by
    rw [cV_apply, step_g x0 x1 x2 x3 x4 x5 x6 x7 x8 x9 x10 x11 key val t ht off hs ho,
      step_g x0 x1 x2 x3 x4 x5 x6 x7 x8 x9 x10 x11 key val t ht off hs ho,
      step_g x0 x1 x2 x3 x4 x5 x6 x7 x8 x9 x10 x11 key val t ht off hs ho]
    rfl

theorem step_h (t : ℕ) (ht : t < 20) (off : Fin 2 → ℕ) (hs : S640x512.Slices off S32x512) (ho : off = ![32 * t, 0]) :
    hV (gV off hs (k0_pay7 x0 x4 x5 x6 x8 x9) x7 (mat (hc (inpOf x0 x1 x2 x3 x4 x5 x6 x7 x8 x9 x10 x11 key val) t).1))
        (mat (hc (inpOf x0 x1 x2 x3 x4 x5 x6 x7 x8 x9 x10 x11 key val) (t + 1)).2)
      = mat (hc (inpOf x0 x1 x2 x3 x4 x5 x6 x7 x8 x9 x10 x11 key val) (t + 1)).1 :=
  ext2 fun r d => by
    rw [hV_apply, step_g x0 x1 x2 x3 x4 x5 x6 x7 x8 x9 x10 x11 key val t ht off hs ho]
    rfl

theorem step_p (t : ℕ) :
    pV x10 x11 (mat (hc (inpOf x0 x1 x2 x3 x4 x5 x6 x7 x8 x9 x10 x11 key val) (t + 1)).1)
      = mat (pred (inpOf x0 x1 x2 x3 x4 x5 x6 x7 x8 x9 x10 x11 key val) t) :=
  ext2 fun r d => by
    rw [pV_apply]
    rfl

theorem step_q (t : ℕ) (ht : t < 20) (T : Arr S32x64) (hT : ∀ (r : Fin 32) (d : Fin 64), T (ix2 r d) = x1 (ix2 ⟨32 * t + r.val, by omega⟩ d))
    (r : Fin 32) (d : Fin 64) :
    qV (subf T (mat (pred (inpOf x0 x1 x2 x3 x4 x5 x6 x7 x8 x9 x10 x11 key val) t))) (ix2 r d)
      = Ideal.div (err (inpOf x0 x1 x2 x3 x4 x5 x6 x7 x8 x9 x10 x11 key val) t r d)
        (nrm (err (inpOf x0 x1 x2 x3 x4 x5 x6 x7 x8 x9 x10 x11 key val) t r)) := by
  have he : ∀ k, subf T (mat (pred (inpOf x0 x1 x2 x3 x4 x5 x6 x7 x8 x9 x10 x11 key val) t)) (ix2 r k)
      = err (inpOf x0 x1 x2 x3 x4 x5 x6 x7 x8 x9 x10 x11 key val) t r k := fun k => by
    show T (ix2 r k) - mat (pred (inpOf x0 x1 x2 x3 x4 x5 x6 x7 x8 x9 x10 x11 key val) t) (ix2 r k) = _
    rw [hT, mat_ix2]
    simp only [err, inpOf, dif_pos ht]
  rw [qV_apply]
  simp only [he]

end Step

/-! ## Loads -/

/-- A load of all of a memref that holds `X` reads `X`. -/
theorem load_all {a b : ℕ} {m : Memref KernelIdeal.sig .tc .vmem ⟨2, ![a, b]⟩ .f32} (h : m.IsWhole) (X : Arr ⟨2, ![a, b]⟩)
    (inb : ∀ k, (![0, 0] : Fin 2 → ℕ) k + (⟨2, ![a, b]⟩ : Shape).size k ≤ (⟨2, ![a, b]⟩ : Shape).size k) :
    View.readAt (Elt Ideal) m.view (Rect.unit (s := ⟨2, ![a, b]⟩) ![0, 0] (⟨2, ![a, b]⟩ : Shape).size inb).toLoadRect (h.unread X) = X := by
  funext x
  rw [h.readAt_unread]
  exact congrArg X (Rect.emb_unit_full inb x)

/-- A load of some rows of a memref that holds `X`, at an index. -/
theorem load_rows {a b n : ℕ} {m : Memref KernelIdeal.sig .tc .vmem ⟨2, ![a, b]⟩ .f32} (h : m.IsWhole) (X : Arr ⟨2, ![a, b]⟩) (o : ℕ)
    (inb : ∀ k, (![o, 0] : Fin 2 → ℕ) k + (⟨2, ![n, b]⟩ : Shape).size k ≤ (⟨2, ![a, b]⟩ : Shape).size k) (r : Fin n) (d : Fin b)
    (hr : o + r.val < a) :
    View.readAt (Elt Ideal) m.view (Rect.unit (s := ⟨2, ![a, b]⟩) ![o, 0] (⟨2, ![n, b]⟩ : Shape).size inb).toLoadRect (h.unread X) (ix2 r d)
      = X (ix2 ⟨o + r.val, hr⟩ d) := by
  rw [h.readAt_unread]
  refine congrArg X (funext fun k => Fin.ext ?_)
  match k with
  | ⟨0, _⟩ => show o + 1 * r.val = o + r.val; omega
  | ⟨1, _⟩ => show 0 + 1 * d.val = d.val; omega

end Cert.Cell

end
-- ==== Proof.Lstm.lean ====
module

public import proofs.«01_k».proof.Proof.BodyRun
public import proofs.«01_k».proof.Proof.Cell

@[expose] public section

/-! The recurrence the kernel's body runs, step by step: each state, prediction and query it computes is that of `Spec`. -/

set_option maxRecDepth 16384

noncomputable section

namespace Cert.Lstm

open Idealize.ShloMosaic Idealize.ShloMosaic.TcCoe Cert.KernelIdeal Cert.KernelIdeal.Gen Cert.KernelIdeal.Body Cert.Spec Cert.Math Cert.Cell

/-- The query of step `t`: its error over the error's norm. -/
def query (I : Inp) (t : ℕ) (r : Fin 32) (d : Fin 64) : EReal := Ideal.div (err I t r d) (nrm (err I t r))

/-- A list of written pieces reads, in its first `k` bands of 32 rows, the function `f`. -/
def Rows {m : ℕ} (L : List (View.Piece (Elt Ideal) ⟨2, ![m, 64]⟩ .f32)) (f : ℕ → Fin 32 → Fin 64 → EReal) (k : ℕ) : Prop :=
  ∀ t, t < k → ∀ (r : Fin 32) (d : Fin 64) (h : 32 * t + r.val < m), View.canon L (ix2 ⟨32 * t + r.val, h⟩ d) = f t r d

theorem rows_nil {m : ℕ} (f : ℕ → Fin 32 → Fin 64 → EReal) : Rows (m := m) [] f 0 := fun _ h => absurd h (Nat.not_lt_zero _)

theorem rows_cons {m : ℕ} {f : ℕ → Fin 32 → Fin 64 → EReal} {k : ℕ} {L : List (View.Piece (Elt Ideal) ⟨2, ![m, 64]⟩ .f32)} (o : ℕ) (ho : o = 32 * k)
    (inb : ∀ a, (![o, 0] : Fin 2 → ℕ) a + S32x64.size a ≤ (⟨2, ![m, 64]⟩ : Shape).size a) (w : Arr S32x64) (ih : Rows L f k)
    (hw : ∀ r d, w (ix2 r d) = f k r d) : Rows (⟨Rect.unit (s := ⟨2, ![m, 64]⟩) ![o, 0] S32x64.size inb, w⟩ :: L) f (k + 1) := by
  intro t ht r d h
  by_cases htk : t = k
  · subst htk
    rw [show (ix2 ⟨32 * t + r.val, h⟩ d : (⟨2, ![m, 64]⟩ : Shape).Idx) = (Rect.unit (s := ⟨2, ![m, 64]⟩) ![o, 0] S32x64.size inb).emb (ix2 r d) from
      funext fun a => Fin.ext (by
        match a with
        | ⟨0, _⟩ => show 32 * t + r.val = o + 1 * r.val; omega
        | ⟨1, _⟩ => show d.val = 0 + 1 * d.val; omega)]
    exact (View.canon_cons_emb (Val := Elt Ideal) (Rect.unit (s := ⟨2, ![m, 64]⟩) ![o, 0] S32x64.size inb) w L (ix2 r d)).trans (hw r d)
  · rw [View.canon_cons_of_not_mem _ _ fun hm => ?_]
    · exact ih t (by omega) r d h
    · obtain ⟨x, hx⟩ := (Rect.unit (s := ⟨2, ![m, 64]⟩) ![o, 0] S32x64.size inb).exists_idx_of_mem hm
      have h0 : o + 1 * (x 0).val = 32 * t + r.val := congrArg (fun z : (⟨2, ![m, 64]⟩ : Shape).Idx => (z 0).val) hx
      have := r.isLt
      omega

variable {c : Dev nD} {arg0 : Memref sig .tc .vmem S640x64 .f32} {harg0 : arg0.IsWhole}
    {arg1 : Memref sig .tc .vmem S640x64 .f32} {harg1 : arg1.IsWhole}
    {arg2 : Memref sig .tc .vmem S32x128 .f32} {harg2 : arg2.IsWhole}
    {arg3 : Memref sig .tc .vmem S32x128 .f32} {harg3 : arg3.IsWhole}
    {arg4 : Memref sig .tc .vmem S128x64 .f32} {harg4 : arg4.IsWhole}
    {arg5 : Memref sig .tc .vmem S1x128 .f32} {harg5 : arg5.IsWhole}
    {arg6 : Memref sig .tc .vmem S512x128 .f32} {harg6 : arg6.IsWhole}
    {arg7 : Memref sig .tc .vmem S512x128 .f32} {harg7 : arg7.IsWhole}
    {arg8 : Memref sig .tc .vmem S1x512 .f32} {harg8 : arg8.IsWhole}
    {arg9 : Memref sig .tc .vmem S1x512 .f32} {harg9 : arg9.IsWhole}
    {arg10 : Memref sig .tc .vmem S64x128 .f32} {harg10 : arg10.IsWhole}
    {arg11 : Memref sig .tc .vmem S1x64 .f32} {harg11 : arg11.IsWhole}
    {x0 : Arr S640x64} {x1 : Arr S640x64} {x2 : Arr S32x128} {x3 : Arr S32x128} {x4 : Arr S128x64} {x5 : Arr S1x128} {x6 : Arr S512x128} {x7 : Arr S512x128} {x8 : Arr S1x512} {x9 : Arr S1x512} {x10 : Arr S64x128} {x11 : Arr S1x64} {key val : Fin 100000 → Fin 64 → EReal}

theorem ld0 (inb : ∀ k, (![0, 0] : Fin 2 → ℕ) k + S640x64.size k ≤ S640x64.size k) : View.readAt (Elt Ideal) arg0.view (Rect.unit ![0, 0] S640x64.size inb).toLoadRect (harg0.unread x0) = x0 :=
  load_all harg0 x0 inb

theorem ld2 (inb : ∀ k, (![0, 0] : Fin 2 → ℕ) k + S32x128.size k ≤ S32x128.size k) : View.readAt (Elt Ideal) arg2.view (Rect.unit ![0, 0] S32x128.size inb).toLoadRect (harg2.unread x2) = x2 :=
  load_all harg2 x2 inb

theorem ld3 (inb : ∀ k, (![0, 0] : Fin 2 → ℕ) k + S32x128.size k ≤ S32x128.size k) : View.readAt (Elt Ideal) arg3.view (Rect.unit ![0, 0] S32x128.size inb).toLoadRect (harg3.unread x3) = x3 :=
  load_all harg3 x3 inb

theorem ld4 (inb : ∀ k, (![0, 0] : Fin 2 → ℕ) k + S128x64.size k ≤ S128x64.size k) : View.readAt (Elt Ideal) arg4.view (Rect.unit ![0, 0] S128x64.size inb).toLoadRect (harg4.unread x4) = x4 :=
  load_all harg4 x4 inb

theorem ld5 (inb : ∀ k, (![0, 0] : Fin 2 → ℕ) k + S1x128.size k ≤ S1x128.size k) : View.readAt (Elt Ideal) arg5.view (Rect.unit ![0, 0] S1x128.size inb).toLoadRect (harg5.unread x5) = x5 :=
  load_all harg5 x5 inb

theorem ld6 (inb : ∀ k, (![0, 0] : Fin 2 → ℕ) k + S512x128.size k ≤ S512x128.size k) : View.readAt (Elt Ideal) arg6.view (Rect.unit ![0, 0] S512x128.size inb).toLoadRect (harg6.unread x6) = x6 :=
  load_all harg6 x6 inb

theorem ld7 (inb : ∀ k, (![0, 0] : Fin 2 → ℕ) k + S512x128.size k ≤ S512x128.size k) : View.readAt (Elt Ideal) arg7.view (Rect.unit ![0, 0] S512x128.size inb).toLoadRect (harg7.unread x7) = x7 :=
  load_all harg7 x7 inb

theorem ld8 (inb : ∀ k, (![0, 0] : Fin 2 → ℕ) k + S1x512.size k ≤ S1x512.size k) : View.readAt (Elt Ideal) arg8.view (Rect.unit ![0, 0] S1x512.size inb).toLoadRect (harg8.unread x8) = x8 :=
  load_all harg8 x8 inb

theorem ld9 (inb : ∀ k, (![0, 0] : Fin 2 → ℕ) k + S1x512.size k ≤ S1x512.size k) : View.readAt (Elt Ideal) arg9.view (Rect.unit ![0, 0] S1x512.size inb).toLoadRect (harg9.unread x9) = x9 :=
  load_all harg9 x9 inb

theorem ld10 (inb : ∀ k, (![0, 0] : Fin 2 → ℕ) k + S64x128.size k ≤ S64x128.size k) : View.readAt (Elt Ideal) arg10.view (Rect.unit ![0, 0] S64x128.size inb).toLoadRect (harg10.unread x10) = x10 :=
  load_all harg10 x10 inb

theorem ld11 (inb : ∀ k, (![0, 0] : Fin 2 → ℕ) k + S1x64.size k ≤ S1x64.size k) : View.readAt (Elt Ideal) arg11.view (Rect.unit ![0, 0] S1x64.size inb).toLoadRect (harg11.unread x11) = x11 :=
  load_all harg11 x11 inb

theorem r_eq : run.sl.r (F := Ideal) c arg0 harg0 x0 = x0 := by
  unfold run.sl.r k0_pay6
  rw [shapeCast_self]
  exact ld0 _

theorem r_1_eq : run.sl.r_1 (F := Ideal) c arg0 harg0 arg4 harg4 arg5 harg5 arg6 harg6 arg8 harg8 arg9 harg9 x0 x4 x5 x6 x8 x9 = (k0_pay7 x0 x4 x5 x6 x8 x9) := by
  unfold run.sl.r_1
  rw [r_eq, ld4, ld5, ld6, ld8, ld9]

theorem r_2_eq : run.sl.r_2 (F := Ideal) c arg7 harg7 x7 = x7 := by
  unfold run.sl.r_2
  exact ld7 _

theorem r_3_eq : run.sl.r_3 (F := Ideal) c arg10 harg10 x10 = x10 := by
  unfold run.sl.r_3
  exact ld10 _

theorem r_4_eq : run.sl.r_4 (F := Ideal) c arg11 harg11 x11 = x11 := by
  unfold run.sl.r_4 k0_pay8
  rw [shapeCast_self]
  exact ld11 _

theorem h_zero : mat (hc (inpOf x0 x1 x2 x3 x4 x5 x6 x7 x8 x9 x10 x11 key val) 0).1 = x2 := ext2 fun _ _ => rfl

theorem c_zero : mat (hc (inpOf x0 x1 x2 x3 x4 x5 x6 x7 x8 x9 x10 x11 key val) 0).2 = x3 := ext2 fun _ _ => rfl

theorem r_5_eq : run.sl.r_5 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 1).2) := by
  unfold run.sl.r_5
  rw [r_eq, ld4, ld5, ld6, ld8, ld9, ld2, ld3, ld7]
  show cV (gV ![0, 0] slices_S640x512_o0_0_S32x512 (k0_pay7 x0 x4 x5 x6 x8 x9) x7 (shapeCast S32x128 x2 shapeCasts_S32x128_S32x128)) (shapeCast S32x128 x3 shapeCasts_S32x128_S32x128) = _
  rw [shapeCast_self, shapeCast_self]
  have e := step_c x0 x1 x2 x3 x4 x5 x6 x7 x8 x9 x10 x11 key val 0 (by decide) ![0, 0] slices_S640x512_o0_0_S32x512 rfl
  rw [h_zero, c_zero] at e
  exact e

theorem r_6_eq : run.sl.r_6 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 1).1) := by
  unfold run.sl.r_6
  rw [r_eq, ld4, ld5, ld6, ld8, ld9, ld2, ld3, ld7]
  show hV (gV ![0, 0] slices_S640x512_o0_0_S32x512 (k0_pay7 x0 x4 x5 x6 x8 x9) x7 (shapeCast S32x128 x2 shapeCasts_S32x128_S32x128)) (cV (gV ![0, 0] slices_S640x512_o0_0_S32x512 (k0_pay7 x0 x4 x5 x6 x8 x9) x7 (shapeCast S32x128 x2 shapeCasts_S32x128_S32x128)) (shapeCast S32x128 x3 shapeCasts_S32x128_S32x128)) = _
  rw [shapeCast_self, shapeCast_self]
  have e := step_c x0 x1 x2 x3 x4 x5 x6 x7 x8 x9 x10 x11 key val 0 (by decide) ![0, 0] slices_S640x512_o0_0_S32x512 rfl
  have e1 := step_h x0 x1 x2 x3 x4 x5 x6 x7 x8 x9 x10 x11 key val 0 (by decide) ![0, 0] slices_S640x512_o0_0_S32x512 rfl
  rw [h_zero, c_zero] at e
  rw [h_zero] at e1
  rw [e]
  exact e1

theorem r_7_eq : run.sl.r_7 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 2).2) := by
  unfold run.sl.r_7
  simp only [r_1_eq, r_2_eq, r_5_eq (x1 := x1) (x10 := x10) (x11 := x11) (key := key) (val := val), r_6_eq (x1 := x1) (x10 := x10) (x11 := x11) (key := key) (val := val)]
  show (cV (gV ![32, 0] slices_S640x512_o32_0_S32x512 (k0_pay7 x0 x4 x5 x6 x8 x9) x7 (mat (hc (inpOf x0 x1 x2 x3 x4 x5 x6 x7 x8 x9 x10 x11 key val) 1).1)) (mat (hc (inpOf x0 x1 x2 x3 x4 x5 x6 x7 x8 x9 x10 x11 key val) 1).2)) = _
  rw [step_c x0 x1 x2 x3 x4 x5 x6 x7 x8 x9 x10 x11 key val 1 (by decide) ![32, 0] slices_S640x512_o32_0_S32x512 rfl]

theorem r_8_eq : run.sl.r_8 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 2).1) := by
  unfold run.sl.r_8
  simp only [r_1_eq, r_2_eq, r_5_eq (x1 := x1) (x10 := x10) (x11 := x11) (key := key) (val := val), r_6_eq (x1 := x1) (x10 := x10) (x11 := x11) (key := key) (val := val)]
  show (hV (gV ![32, 0] slices_S640x512_o32_0_S32x512 (k0_pay7 x0 x4 x5 x6 x8 x9) x7 (mat (hc (inpOf x0 x1 x2 x3 x4 x5 x6 x7 x8 x9 x10 x11 key val) 1).1)) (cV (gV ![32, 0] slices_S640x512_o32_0_S32x512 (k0_pay7 x0 x4 x5 x6 x8 x9) x7 (mat (hc (inpOf x0 x1 x2 x3 x4 x5 x6 x7 x8 x9 x10 x11 key val) 1).1)) (mat (hc (inpOf x0 x1 x2 x3 x4 x5 x6 x7 x8 x9 x10 x11 key val) 1).2))) = _
  rw [step_c x0 x1 x2 x3 x4 x5 x6 x7 x8 x9 x10 x11 key val 1 (by decide) ![32, 0] slices_S640x512_o32_0_S32x512 rfl, step_h x0 x1 x2 x3 x4 x5 x6 x7 x8 x9 x10 x11 key val 1 (by decide) ![32, 0] slices_S640x512_o32_0_S32x512 rfl]

theorem r_9_eq : run.sl.r_9 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11 = (mat (pred (inpOf x0 x1 x2 x3 x4 x5 x6 x7 x8 x9 x10 x11 key val) 1)) := by
  unfold run.sl.r_9
  simp only [r_1_eq, r_2_eq, r_3_eq, r_4_eq, r_5_eq (x1 := x1) (x10 := x10) (x11 := x11) (key := key) (val := val), r_6_eq (x1 := x1) (x10 := x10) (x11 := x11) (key := key) (val := val)]
  show (pV x10 x11 (hV (gV ![32, 0] slices_S640x512_o32_0_S32x512 (k0_pay7 x0 x4 x5 x6 x8 x9) x7 (mat (hc (inpOf x0 x1 x2 x3 x4 x5 x6 x7 x8 x9 x10 x11 key val) 1).1)) (cV (gV ![32, 0] slices_S640x512_o32_0_S32x512 (k0_pay7 x0 x4 x5 x6 x8 x9) x7 (mat (hc (inpOf x0 x1 x2 x3 x4 x5 x6 x7 x8 x9 x10 x11 key val) 1).1)) (mat (hc (inpOf x0 x1 x2 x3 x4 x5 x6 x7 x8 x9 x10 x11 key val) 1).2)))) = _
  rw [step_c x0 x1 x2 x3 x4 x5 x6 x7 x8 x9 x10 x11 key val 1 (by decide) ![32, 0] slices_S640x512_o32_0_S32x512 rfl, step_h x0 x1 x2 x3 x4 x5 x6 x7 x8 x9 x10 x11 key val 1 (by decide) ![32, 0] slices_S640x512_o32_0_S32x512 rfl, step_p x0 x1 x2 x3 x4 x5 x6 x7 x8 x9 x10 x11 key val 1]

theorem r_10_eq : run.sl.r_10 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 3).2) := by
  unfold run.sl.r_10
  simp only [r_1_eq, r_2_eq, r_7_eq (x1 := x1) (x10 := x10) (x11 := x11) (key := key) (val := val), r_8_eq (x1 := x1) (x10 := x10) (x11 := x11) (key := key) (val := val)]
  show (cV (gV ![64, 0] slices_S640x512_o64_0_S32x512 (k0_pay7 x0 x4 x5 x6 x8 x9) x7 (mat (hc (inpOf x0 x1 x2 x3 x4 x5 x6 x7 x8 x9 x10 x11 key val) 2).1)) (mat (hc (inpOf x0 x1 x2 x3 x4 x5 x6 x7 x8 x9 x10 x11 key val) 2).2)) = _
  rw [step_c x0 x1 x2 x3 x4 x5 x6 x7 x8 x9 x10 x11 key val 2 (by decide) ![64, 0] slices_S640x512_o64_0_S32x512 rfl]

theorem r_11_eq : run.sl.r_11 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 3).1) := by
  unfold run.sl.r_11
  simp only [r_1_eq, r_2_eq, r_7_eq (x1 := x1) (x10 := x10) (x11 := x11) (key := key) (val := val), r_8_eq (x1 := x1) (x10 := x10) (x11 := x11) (key := key) (val := val)]
  show (hV (gV ![64, 0] slices_S640x512_o64_0_S32x512 (k0_pay7 x0 x4 x5 x6 x8 x9) x7 (mat (hc (inpOf x0 x1 x2 x3 x4 x5 x6 x7 x8 x9 x10 x11 key val) 2).1)) (cV (gV ![64, 0] slices_S640x512_o64_0_S32x512 (k0_pay7 x0 x4 x5 x6 x8 x9) x7 (mat (hc (inpOf x0 x1 x2 x3 x4 x5 x6 x7 x8 x9 x10 x11 key val) 2).1)) (mat (hc (inpOf x0 x1 x2 x3 x4 x5 x6 x7 x8 x9 x10 x11 key val) 2).2))) = _
  rw [step_c x0 x1 x2 x3 x4 x5 x6 x7 x8 x9 x10 x11 key val 2 (by decide) ![64, 0] slices_S640x512_o64_0_S32x512 rfl, step_h x0 x1 x2 x3 x4 x5 x6 x7 x8 x9 x10 x11 key val 2 (by decide) ![64, 0] slices_S640x512_o64_0_S32x512 rfl]

theorem r_14_eq : run.sl.r_14 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 4).2) := by
  unfold run.sl.r_14
  simp only [r_1_eq, r_2_eq, r_10_eq (x1 := x1) (x10 := x10) (x11 := x11) (key := key) (val := val), r_11_eq (x1 := x1) (x10 := x10) (x11 := x11) (key := key) (val := val)]
  show (cV (gV ![96, 0] slices_S640x512_o96_0_S32x512 (k0_pay7 x0 x4 x5 x6 x8 x9) x7 (mat (hc (inpOf x0 x1 x2 x3 x4 x5 x6 x7 x8 x9 x10 x11 key val) 3).1)) (mat (hc (inpOf x0 x1 x2 x3 x4 x5 x6 x7 x8 x9 x10 x11 key val) 3).2)) = _
  rw [step_c x0 x1 x2 x3 x4 x5 x6 x7 x8 x9 x10 x11 key val 3 (by decide) ![96, 0] slices_S640x512_o96_0_S32x512 rfl]

theorem r_15_eq : run.sl.r_15 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 4).1) := by
  unfold run.sl.r_15
  simp only [r_1_eq, r_2_eq, r_10_eq (x1 := x1) (x10 := x10) (x11 := x11) (key := key) (val := val), r_11_eq (x1 := x1) (x10 := x10) (x11 := x11) (key := key) (val := val)]
  show (hV (gV ![96, 0] slices_S640x512_o96_0_S32x512 (k0_pay7 x0 x4 x5 x6 x8 x9) x7 (mat (hc (inpOf x0 x1 x2 x3 x4 x5 x6 x7 x8 x9 x10 x11 key val) 3).1)) (cV (gV ![96, 0] slices_S640x512_o96_0_S32x512 (k0_pay7 x0 x4 x5 x6 x8 x9) x7 (mat (hc (inpOf x0 x1 x2 x3 x4 x5 x6 x7 x8 x9 x10 x11 key val) 3).1)) (mat (hc (inpOf x0 x1 x2 x3 x4 x5 x6 x7 x8 x9 x10 x11 key val) 3).2))) = _
  rw [step_c x0 x1 x2 x3 x4 x5 x6 x7 x8 x9 x10 x11 key val 3 (by decide) ![96, 0] slices_S640x512_o96_0_S32x512 rfl, step_h x0 x1 x2 x3 x4 x5 x6 x7 x8 x9 x10 x11 key val 3 (by decide) ![96, 0] slices_S640x512_o96_0_S32x512 rfl]

theorem r_17_eq : run.sl.r_17 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 5).2) := by
  unfold run.sl.r_17 run.sl.r_16
  simp only [r_2_eq, r_14_eq (x1 := x1) (x10 := x10) (x11 := x11) (key := key) (val := val), r_15_eq (x1 := x1) (x10 := x10) (x11 := x11) (key := key) (val := val), r_1_eq]
  show (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)) = _
  rw [step_c x0 x1 x2 x3 x4 x5 x6 x7 x8 x9 x10 x11 key val 4 (by decide) ![128, 0] slices_S640x512_o128_0_S32x512 rfl]

theorem r_18_eq : run.sl.r_18 (F := Ideal) c arg0 harg0 arg2 harg2 arg3 harg3 arg4 harg4 arg5 harg5 arg6 harg6 arg7 harg7 arg8 harg8 arg9 harg9 x0 x2 x3 x4 x5 x6 x7 x8 x9 = logistic (extractStridedSlice S32x128 ![0, 0] (gV ![160, 0] slices_S640x512_o160_0_S32x512 (k0_pay7 x0 x4 x5 x6 x8 x9) x7 (mat (hc (inpOf x0 x1 x2 x3 x4 x5 x6 x7 x8 x9 x10 x11 key val) 5).1)) slices_S32x512_o0_0_S32x128) := by
  unfold run.sl.r_18 run.sl.r_16
  simp only [r_1_eq, r_2_eq, r_14_eq (x1 := x1) (x10 := x10) (x11 := x11) (key := key) (val := val), r_15_eq (x1 := x1) (x10 := x10) (x11 := x11) (key := key) (val := val)]
  show logistic (extractStridedSlice S32x128 ![0, 0] (gV ![160, 0] slices_S640x512_o160_0_S32x512 (k0_pay7 x0 x4 x5 x6 x8 x9) x7 (hV (gV ![128, 0] slices_S640x512_o128_0_S32x512 (k0_pay7 x0 x4 x5 x6 x8 x9) x7 (mat (hc (inpOf x0 x1 x2 x3 x4 x5 x6 x7 x8 x9 x10 x11 key val) 4).1)) (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)))) slices_S32x512_o0_0_S32x128) = _
  rw [step_c x0 x1 x2 x3 x4 x5 x6 x7 x8 x9 x10 x11 key val 4 (by decide) ![128, 0] slices_S640x512_o128_0_S32x512 rfl, step_h x0 x1 x2 x3 x4 x5 x6 x7 x8 x9 x10 x11 key val 4 (by decide) ![128, 0] slices_S640x512_o128_0_S32x512 rfl]

theorem r_19_eq : run.sl.r_19 (F := Ideal) c arg0 harg0 arg2 harg2 arg3 harg3 arg4 harg4 arg5 harg5 arg6 harg6 arg7 harg7 arg8 harg8 arg9 harg9 x0 x2 x3 x4 x5 x6 x7 x8 x9 = logistic (extractStridedSlice S32x128 ![0, 128] (gV ![160, 0] slices_S640x512_o160_0_S32x512 (k0_pay7 x0 x4 x5 x6 x8 x9) x7 (mat (hc (inpOf x0 x1 x2 x3 x4 x5 x6 x7 x8 x9 x10 x11 key val) 5).1)) slices_S32x512_o0_128_S32x128) := by
  unfold run.sl.r_19 run.sl.r_16
  simp only [r_1_eq, r_2_eq, r_14_eq (x1 := x1) (x10 := x10) (x11 := x11) (key := key) (val := val), r_15_eq (x1 := x1) (x10 := x10) (x11 := x11) (key := key) (val := val)]
  show logistic (extractStridedSlice S32x128 ![0, 128] (gV ![160, 0] slices_S640x512_o160_0_S32x512 (k0_pay7 x0 x4 x5 x6 x8 x9) x7 (hV (gV ![128, 0] slices_S640x512_o128_0_S32x512 (k0_pay7 x0 x4 x5 x6 x8 x9) x7 (mat (hc (inpOf x0 x1 x2 x3 x4 x5 x6 x7 x8 x9 x10 x11 key val) 4).1)) (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)))) slices_S32x512_o0_128_S32x128) = _
  rw [step_c x0 x1 x2 x3 x4 x5 x6 x7 x8 x9 x10 x11 key val 4 (by decide) ![128, 0] slices_S640x512_o128_0_S32x512 rfl, step_h x0 x1 x2 x3 x4 x5 x6 x7 x8 x9 x10 x11 key val 4 (by decide) ![128, 0] slices_S640x512_o128_0_S32x512 rfl]

theorem r_20_eq : run.sl.r_20 (F := Ideal) c arg0 harg0 arg2 harg2 arg3 harg3 arg4 harg4 arg5 harg5 arg6 harg6 arg7 harg7 arg8 harg8 arg9 harg9 x0 x2 x3 x4 x5 x6 x7 x8 x9 = tanh (extractStridedSlice S32x128 ![0, 256] (gV ![160, 0] slices_S640x512_o160_0_S32x512 (k0_pay7 x0 x4 x5 x6 x8 x9) x7 (mat (hc (inpOf x0 x1 x2 x3 x4 x5 x6 x7 x8 x9 x10 x11 key val) 5).1)) slices_S32x512_o0_256_S32x128) := by
  unfold run.sl.r_20 run.sl.r_16
  simp only [r_1_eq, r_2_eq, r_14_eq (x1 := x1) (x10 := x10) (x11 := x11) (key := key) (val := val), r_15_eq (x1 := x1) (x10 := x10) (x11 := x11) (key := key) (val := val)]
  show tanh (extractStridedSlice S32x128 ![0, 256] (gV ![160, 0] slices_S640x512_o160_0_S32x512 (k0_pay7 x0 x4 x5 x6 x8 x9) x7 (hV (gV ![128, 0] slices_S640x512_o128_0_S32x512 (k0_pay7 x0 x4 x5 x6 x8 x9) x7 (mat (hc (inpOf x0 x1 x2 x3 x4 x5 x6 x7 x8 x9 x10 x11 key val) 4).1)) (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)))) slices_S32x512_o0_256_S32x128) = _
  rw [step_c x0 x1 x2 x3 x4 x5 x6 x7 x8 x9 x10 x11 key val 4 (by decide) ![128, 0] slices_S640x512_o128_0_S32x512 rfl, step_h x0 x1 x2 x3 x4 x5 x6 x7 x8 x9 x10 x11 key val 4 (by decide) ![128, 0] slices_S640x512_o128_0_S32x512 rfl]

theorem r_21_eq : run.sl.r_21 (F := Ideal) c arg0 harg0 arg2 harg2 arg3 harg3 arg4 harg4 arg5 harg5 arg6 harg6 arg7 harg7 arg8 harg8 arg9 harg9 x0 x2 x3 x4 x5 x6 x7 x8 x9 = logistic (extractStridedSlice S32x128 ![0, 384] (gV ![160, 0] slices_S640x512_o160_0_S32x512 (k0_pay7 x0 x4 x5 x6 x8 x9) x7 (mat (hc (inpOf x0 x1 x2 x3 x4 x5 x6 x7 x8 x9 x10 x11 key val) 5).1)) slices_S32x512_o0_384_S32x128) := by
  unfold run.sl.r_21 run.sl.r_16
  simp only [r_1_eq, r_2_eq, r_14_eq (x1 := x1) (x10 := x10) (x11 := x11) (key := key) (val := val), r_15_eq (x1 := x1) (x10 := x10) (x11 := x11) (key := key) (val := val)]
  show logistic (extractStridedSlice S32x128 ![0, 384] (gV ![160, 0] slices_S640x512_o160_0_S32x512 (k0_pay7 x0 x4 x5 x6 x8 x9) x7 (hV (gV ![128, 0] slices_S640x512_o128_0_S32x512 (k0_pay7 x0 x4 x5 x6 x8 x9) x7 (mat (hc (inpOf x0 x1 x2 x3 x4 x5 x6 x7 x8 x9 x10 x11 key val) 4).1)) (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)))) slices_S32x512_o0_384_S32x128) = _
  rw [step_c x0 x1 x2 x3 x4 x5 x6 x7 x8 x9 x10 x11 key val 4 (by decide) ![128, 0] slices_S640x512_o128_0_S32x512 rfl, step_h x0 x1 x2 x3 x4 x5 x6 x7 x8 x9 x10 x11 key val 4 (by decide) ![128, 0] slices_S640x512_o128_0_S32x512 rfl]

theorem r_22_eq : run.sl.r_22 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 7).2) := by
  unfold run.sl.r_22
  simp only [r_1_eq, r_2_eq, r_17_eq (x1 := x1) (x10 := x10) (x11 := x11) (key := key) (val := val), r_18_eq (x1 := x1) (x10 := x10) (x11 := x11) (key := key) (val := val), r_19_eq (x1 := x1) (x10 := x10) (x11 := x11) (key := key) (val := val), r_20_eq (x1 := x1) (x10 := x10) (x11 := x11) (key := key) (val := val), r_21_eq (x1 := x1) (x10 := x10) (x11 := x11) (key := key) (val := val)]
  show (cV (gV ![192, 0] slices_S640x512_o192_0_S32x512 (k0_pay7 x0 x4 x5 x6 x8 x9) x7 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2))) = _
  rw [step_c x0 x1 x2 x3 x4 x5 x6 x7 x8 x9 x10 x11 key val 5 (by decide) ![160, 0] slices_S640x512_o160_0_S32x512 rfl, step_h x0 x1 x2 x3 x4 x5 x6 x7 x8 x9 x10 x11 key val 5 (by decide) ![160, 0] slices_S640x512_o160_0_S32x512 rfl, step_c x0 x1 x2 x3 x4 x5 x6 x7 x8 x9 x10 x11 key val 6 (by decide) ![192, 0] slices_S640x512_o192_0_S32x512 rfl]

theorem r_23_eq : run.sl.r_23 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 7).1) := by
  unfold run.sl.r_23
  simp only [r_1_eq, r_2_eq, r_17_eq (x1 := x1) (x10 := x10) (x11 := x11) (key := key) (val := val), r_18_eq (x1 := x1) (x10 := x10) (x11 := x11) (key := key) (val := val), r_19_eq (x1 := x1) (x10 := x10) (x11 := x11) (key := key) (val := val), r_20_eq (x1 := x1) (x10 := x10) (x11 := x11) (key := key) (val := val), r_21_eq (x1 := x1) (x10 := x10) (x11 := x11) (key := key) (val := val)]
  show (hV (gV ![192, 0] slices_S640x512_o192_0_S32x512 (k0_pay7 x0 x4 x5 x6 x8 x9) x7 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) (cV (gV ![192, 0] slices_S640x512_o192_0_S32x512 (k0_pay7 x0 x4 x5 x6 x8 x9) x7 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) = _
  rw [step_c x0 x1 x2 x3 x4 x5 x6 x7 x8 x9 x10 x11 key val 5 (by decide) ![160, 0] slices_S640x512_o160_0_S32x512 rfl, step_h x0 x1 x2 x3 x4 x5 x6 x7 x8 x9 x10 x11 key val 5 (by decide) ![160, 0] slices_S640x512_o160_0_S32x512 rfl, step_c x0 x1 x2 x3 x4 x5 x6 x7 x8 x9 x10 x11 key val 6 (by decide) ![192, 0] slices_S640x512_o192_0_S32x512 rfl, step_h x0 x1 x2 x3 x4 x5 x6 x7 x8 x9 x10 x11 key val 6 (by decide) ![192, 0] slices_S640x512_o192_0_S32x512 rfl]

theorem r_24_eq : run.sl.r_24 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11 = (mat (pred (inpOf x0 x1 x2 x3 x4 x5 x6 x7 x8 x9 x10 x11 key val) 6)) := by
  unfold run.sl.r_24
  simp only [r_1_eq, r_2_eq, r_3_eq, r_4_eq, r_17_eq (x1 := x1) (x10 := x10) (x11 := x11) (key := key) (val := val), r_18_eq (x1 := x1) (x10 := x10) (x11 := x11) (key := key) (val := val), r_19_eq (x1 := x1) (x10 := x10) (x11 := x11) (key := key) (val := val), r_20_eq (x1 := x1) (x10 := x10) (x11 := x11) (key := key) (val := val), r_21_eq (x1 := x1) (x10 := x10) (x11 := x11) (key := key) (val := val)]
  show (pV x10 x11 (hV (gV ![192, 0] slices_S640x512_o192_0_S32x512 (k0_pay7 x0 x4 x5 x6 x8 x9) x7 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) (cV (gV ![192, 0] slices_S640x512_o192_0_S32x512 (k0_pay7 x0 x4 x5 x6 x8 x9) x7 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2))))) = _
  rw [step_c x0 x1 x2 x3 x4 x5 x6 x7 x8 x9 x10 x11 key val 5 (by decide) ![160, 0] slices_S640x512_o160_0_S32x512 rfl, step_h x0 x1 x2 x3 x4 x5 x6 x7 x8 x9 x10 x11 key val 5 (by decide) ![160, 0] slices_S640x512_o160_0_S32x512 rfl, step_c x0 x1 x2 x3 x4 x5 x6 x7 x8 x9 x10 x11 key val 6 (by decide) ![192, 0] slices_S640x512_o192_0_S32x512 rfl, step_h x0 x1 x2 x3 x4 x5 x6 x7 x8 x9 x10 x11 key val 6 (by decide) ![192, 0] slices_S640x512_o192_0_S32x512 rfl, step_p x0 x1 x2 x3 x4 x5 x6 x7 x8 x9 x10 x11 key val 6]

theorem r_25_eq : run.sl.r_25 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 8).2) := by
  unfold run.sl.r_25
  simp only [r_1_eq, r_2_eq, r_22_eq (x1 := x1) (x10 := x10) (x11 := x11) (key := key) (val := val), r_23_eq (x1 := x1) (x10 := x10) (x11 := x11) (key := key) (val := val)]
  show (cV (gV ![224, 0] slices_S640x512_o224_0_S32x512 (k0_pay7 x0 x4 x5 x6 x8 x9) x7 (mat (hc (inpOf x0 x1 x2 x3 x4 x5 x6 x7 x8 x9 x10 x11 key val) 7).1)) (mat (hc (inpOf x0 x1 x2 x3 x4 x5 x6 x7 x8 x9 x10 x11 key val) 7).2)) = _
  rw [step_c x0 x1 x2 x3 x4 x5 x6 x7 x8 x9 x10 x11 key val 7 (by decide) ![224, 0] slices_S640x512_o224_0_S32x512 rfl]

theorem r_26_eq : run.sl.r_26 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 8).1) := by
  unfold run.sl.r_26
  simp only [r_1_eq, r_2_eq, r_22_eq (x1 := x1) (x10 := x10) (x11 := x11) (key := key) (val := val), r_23_eq (x1 := x1) (x10 := x10) (x11 := x11) (key := key) (val := val)]
  show (hV (gV ![224, 0] slices_S640x512_o224_0_S32x512 (k0_pay7 x0 x4 x5 x6 x8 x9) x7 (mat (hc (inpOf x0 x1 x2 x3 x4 x5 x6 x7 x8 x9 x10 x11 key val) 7).1)) (cV (gV ![224, 0] slices_S640x512_o224_0_S32x512 (k0_pay7 x0 x4 x5 x6 x8 x9) x7 (mat (hc (inpOf x0 x1 x2 x3 x4 x5 x6 x7 x8 x9 x10 x11 key val) 7).1)) (mat (hc (inpOf x0 x1 x2 x3 x4 x5 x6 x7 x8 x9 x10 x11 key val) 7).2))) = _
  rw [step_c x0 x1 x2 x3 x4 x5 x6 x7 x8 x9 x10 x11 key val 7 (by decide) ![224, 0] slices_S640x512_o224_0_S32x512 rfl, step_h x0 x1 x2 x3 x4 x5 x6 x7 x8 x9 x10 x11 key val 7 (by decide) ![224, 0] slices_S640x512_o224_0_S32x512 rfl]

theorem r_29_eq : run.sl.r_29 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 9).2) := by
  unfold run.sl.r_29
  simp only [r_1_eq, r_2_eq, r_25_eq (x1 := x1) (x10 := x10) (x11 := x11) (key := key) (val := val), r_26_eq (x1 := x1) (x10 := x10) (x11 := x11) (key := key) (val := val)]
  show (cV (gV ![256, 0] slices_S640x512_o256_0_S32x512 (k0_pay7 x0 x4 x5 x6 x8 x9) x7 (mat (hc (inpOf x0 x1 x2 x3 x4 x5 x6 x7 x8 x9 x10 x11 key val) 8).1)) (mat (hc (inpOf x0 x1 x2 x3 x4 x5 x6 x7 x8 x9 x10 x11 key val) 8).2)) = _
  rw [step_c x0 x1 x2 x3 x4 x5 x6 x7 x8 x9 x10 x11 key val 8 (by decide) ![256, 0] slices_S640x512_o256_0_S32x512 rfl]

theorem r_30_eq : run.sl.r_30 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 9).1) := by
  unfold run.sl.r_30
  simp only [r_1_eq, r_2_eq, r_25_eq (x1 := x1) (x10 := x10) (x11 := x11) (key := key) (val := val), r_26_eq (x1 := x1) (x10 := x10) (x11 := x11) (key := key) (val := val)]
  show (hV (gV ![256, 0] slices_S640x512_o256_0_S32x512 (k0_pay7 x0 x4 x5 x6 x8 x9) x7 (mat (hc (inpOf x0 x1 x2 x3 x4 x5 x6 x7 x8 x9 x10 x11 key val) 8).1)) (cV (gV ![256, 0] slices_S640x512_o256_0_S32x512 (k0_pay7 x0 x4 x5 x6 x8 x9) x7 (mat (hc (inpOf x0 x1 x2 x3 x4 x5 x6 x7 x8 x9 x10 x11 key val) 8).1)) (mat (hc (inpOf x0 x1 x2 x3 x4 x5 x6 x7 x8 x9 x10 x11 key val) 8).2))) = _
  rw [step_c x0 x1 x2 x3 x4 x5 x6 x7 x8 x9 x10 x11 key val 8 (by decide) ![256, 0] slices_S640x512_o256_0_S32x512 rfl, step_h x0 x1 x2 x3 x4 x5 x6 x7 x8 x9 x10 x11 key val 8 (by decide) ![256, 0] slices_S640x512_o256_0_S32x512 rfl]

theorem r_32_eq : run.sl.r_32 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 10).2) := by
  unfold run.sl.r_32
  simp only [r_1_eq, r_2_eq, r_29_eq (x1 := x1) (x10 := x10) (x11 := x11) (key := key) (val := val), r_30_eq (x1 := x1) (x10 := x10) (x11 := x11) (key := key) (val := val)]
  show (cV (gV ![288, 0] slices_S640x512_o288_0_S32x512 (k0_pay7 x0 x4 x5 x6 x8 x9) x7 (mat (hc (inpOf x0 x1 x2 x3 x4 x5 x6 x7 x8 x9 x10 x11 key val) 9).1)) (mat (hc (inpOf x0 x1 x2 x3 x4 x5 x6 x7 x8 x9 x10 x11 key val) 9).2)) = _
  rw [step_c x0 x1 x2 x3 x4 x5 x6 x7 x8 x9 x10 x11 key val 9 (by decide) ![288, 0] slices_S640x512_o288_0_S32x512 rfl]

theorem r_33_eq : run.sl.r_33 (F := Ideal) c arg0 harg0 arg2 harg2 arg3 harg3 arg4 harg4 arg5 harg5 arg6 harg6 arg7 harg7 arg8 harg8 arg9 harg9 x0 x2 x3 x4 x5 x6 x7 x8 x9 = (gV ![320, 0] slices_S640x512_o320_0_S32x512 (k0_pay7 x0 x4 x5 x6 x8 x9) x7 (mat (hc (inpOf x0 x1 x2 x3 x4 x5 x6 x7 x8 x9 x10 x11 key val) 10).1)) := by
  unfold run.sl.r_33
  simp only [r_1_eq, r_2_eq, r_29_eq (x1 := x1) (x10 := x10) (x11 := x11) (key := key) (val := val), r_30_eq (x1 := x1) (x10 := x10) (x11 := x11) (key := key) (val := val)]
  show (gV ![320, 0] slices_S640x512_o320_0_S32x512 (k0_pay7 x0 x4 x5 x6 x8 x9) x7 (hV (gV ![288, 0] slices_S640x512_o288_0_S32x512 (k0_pay7 x0 x4 x5 x6 x8 x9) x7 (mat (hc (inpOf x0 x1 x2 x3 x4 x5 x6 x7 x8 x9 x10 x11 key val) 9).1)) (cV (gV ![288, 0] slices_S640x512_o288_0_S32x512 (k0_pay7 x0 x4 x5 x6 x8 x9) x7 (mat (hc (inpOf x0 x1 x2 x3 x4 x5 x6 x7 x8 x9 x10 x11 key val) 9).1)) (mat (hc (inpOf x0 x1 x2 x3 x4 x5 x6 x7 x8 x9 x10 x11 key val) 9).2)))) = _
  rw [step_c x0 x1 x2 x3 x4 x5 x6 x7 x8 x9 x10 x11 key val 9 (by decide) ![288, 0] slices_S640x512_o288_0_S32x512 rfl, step_h x0 x1 x2 x3 x4 x5 x6 x7 x8 x9 x10 x11 key val 9 (by decide) ![288, 0] slices_S640x512_o288_0_S32x512 rfl]

theorem r_34_eq : run.sl.r_34 (F := Ideal) c arg0 harg0 arg2 harg2 arg3 harg3 arg4 harg4 arg5 harg5 arg6 harg6 arg7 harg7 arg8 harg8 arg9 harg9 x0 x2 x3 x4 x5 x6 x7 x8 x9 = logistic (extractStridedSlice S32x128 ![0, 0] (gV ![320, 0] slices_S640x512_o320_0_S32x512 (k0_pay7 x0 x4 x5 x6 x8 x9) x7 (mat (hc (inpOf x0 x1 x2 x3 x4 x5 x6 x7 x8 x9 x10 x11 key val) 10).1)) slices_S32x512_o0_0_S32x128) := by
  unfold run.sl.r_34
  simp only [r_1_eq, r_2_eq, r_29_eq (x1 := x1) (x10 := x10) (x11 := x11) (key := key) (val := val), r_30_eq (x1 := x1) (x10 := x10) (x11 := x11) (key := key) (val := val)]
  show logistic (extractStridedSlice S32x128 ![0, 0] (gV ![320, 0] slices_S640x512_o320_0_S32x512 (k0_pay7 x0 x4 x5 x6 x8 x9) x7 (hV (gV ![288, 0] slices_S640x512_o288_0_S32x512 (k0_pay7 x0 x4 x5 x6 x8 x9) x7 (mat (hc (inpOf x0 x1 x2 x3 x4 x5 x6 x7 x8 x9 x10 x11 key val) 9).1)) (cV (gV ![288, 0] slices_S640x512_o288_0_S32x512 (k0_pay7 x0 x4 x5 x6 x8 x9) x7 (mat (hc (inpOf x0 x1 x2 x3 x4 x5 x6 x7 x8 x9 x10 x11 key val) 9).1)) (mat (hc (inpOf x0 x1 x2 x3 x4 x5 x6 x7 x8 x9 x10 x11 key val) 9).2)))) slices_S32x512_o0_0_S32x128) = _
  rw [step_c x0 x1 x2 x3 x4 x5 x6 x7 x8 x9 x10 x11 key val 9 (by decide) ![288, 0] slices_S640x512_o288_0_S32x512 rfl, step_h x0 x1 x2 x3 x4 x5 x6 x7 x8 x9 x10 x11 key val 9 (by decide) ![288, 0] slices_S640x512_o288_0_S32x512 rfl]

theorem r_35_eq : run.sl.r_35 (F := Ideal) c arg0 harg0 arg2 harg2 arg3 harg3 arg4 harg4 arg5 harg5 arg6 harg6 arg7 harg7 arg8 harg8 arg9 harg9 x0 x2 x3 x4 x5 x6 x7 x8 x9 = (extractStridedSlice S32x128 ![0, 128] (gV ![320, 0] slices_S640x512_o320_0_S32x512 (k0_pay7 x0 x4 x5 x6 x8 x9) x7 (mat (hc (inpOf x0 x1 x2 x3 x4 x5 x6 x7 x8 x9 x10 x11 key val) 10).1)) slices_S32x512_o0_128_S32x128) := by
  unfold run.sl.r_35
  simp only [r_1_eq, r_2_eq, r_29_eq (x1 := x1) (x10 := x10) (x11 := x11) (key := key) (val := val), r_30_eq (x1 := x1) (x10 := x10) (x11 := x11) (key := key) (val := val)]
  show (extractStridedSlice S32x128 ![0, 128] (gV ![320, 0] slices_S640x512_o320_0_S32x512 (k0_pay7 x0 x4 x5 x6 x8 x9) x7 (hV (gV ![288, 0] slices_S640x512_o288_0_S32x512 (k0_pay7 x0 x4 x5 x6 x8 x9) x7 (mat (hc (inpOf x0 x1 x2 x3 x4 x5 x6 x7 x8 x9 x10 x11 key val) 9).1)) (cV (gV ![288, 0] slices_S640x512_o288_0_S32x512 (k0_pay7 x0 x4 x5 x6 x8 x9) x7 (mat (hc (inpOf x0 x1 x2 x3 x4 x5 x6 x7 x8 x9 x10 x11 key val) 9).1)) (mat (hc (inpOf x0 x1 x2 x3 x4 x5 x6 x7 x8 x9 x10 x11 key val) 9).2)))) slices_S32x512_o0_128_S32x128) = _
  rw [step_c x0 x1 x2 x3 x4 x5 x6 x7 x8 x9 x10 x11 key val 9 (by decide) ![288, 0] slices_S640x512_o288_0_S32x512 rfl, step_h x0 x1 x2 x3 x4 x5 x6 x7 x8 x9 x10 x11 key val 9 (by decide) ![288, 0] slices_S640x512_o288_0_S32x512 rfl]

theorem r_36_eq : run.sl.r_36 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 12).2) := by
  unfold run.sl.r_36
  simp only [r_1_eq, r_2_eq, r_32_eq (x1 := x1) (x10 := x10) (x11 := x11) (key := key) (val := val), r_33_eq (x1 := x1) (x10 := x10) (x11 := x11) (key := key) (val := val), r_34_eq (x1 := x1) (x10 := x10) (x11 := x11) (key := key) (val := val), r_35_eq (x1 := x1) (x10 := x10) (x11 := x11) (key := key) (val := val)]
  show (cV (gV ![352, 0] slices_S640x512_o352_0_S32x512 (k0_pay7 x0 x4 x5 x6 x8 x9) x7 (hV (gV ![320, 0] slices_S640x512_o320_0_S32x512 (k0_pay7 x0 x4 x5 x6 x8 x9) x7 (mat (hc (inpOf x0 x1 x2 x3 x4 x5 x6 x7 x8 x9 x10 x11 key val) 10).1)) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2)))) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2))) = _
  rw [step_c x0 x1 x2 x3 x4 x5 x6 x7 x8 x9 x10 x11 key val 10 (by decide) ![320, 0] slices_S640x512_o320_0_S32x512 rfl, step_h x0 x1 x2 x3 x4 x5 x6 x7 x8 x9 x10 x11 key val 10 (by decide) ![320, 0] slices_S640x512_o320_0_S32x512 rfl, step_c x0 x1 x2 x3 x4 x5 x6 x7 x8 x9 x10 x11 key val 11 (by decide) ![352, 0] slices_S640x512_o352_0_S32x512 rfl]

theorem r_37_eq : run.sl.r_37 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 12).1) := by
  unfold run.sl.r_37
  simp only [r_1_eq, r_2_eq, r_32_eq (x1 := x1) (x10 := x10) (x11 := x11) (key := key) (val := val), r_33_eq (x1 := x1) (x10 := x10) (x11 := x11) (key := key) (val := val), r_34_eq (x1 := x1) (x10 := x10) (x11 := x11) (key := key) (val := val), r_35_eq (x1 := x1) (x10 := x10) (x11 := x11) (key := key) (val := val)]
  show (hV (gV ![352, 0] slices_S640x512_o352_0_S32x512 (k0_pay7 x0 x4 x5 x6 x8 x9) x7 (hV (gV ![320, 0] slices_S640x512_o320_0_S32x512 (k0_pay7 x0 x4 x5 x6 x8 x9) x7 (mat (hc (inpOf x0 x1 x2 x3 x4 x5 x6 x7 x8 x9 x10 x11 key val) 10).1)) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2)))) (cV (gV ![352, 0] slices_S640x512_o352_0_S32x512 (k0_pay7 x0 x4 x5 x6 x8 x9) x7 (hV (gV ![320, 0] slices_S640x512_o320_0_S32x512 (k0_pay7 x0 x4 x5 x6 x8 x9) x7 (mat (hc (inpOf x0 x1 x2 x3 x4 x5 x6 x7 x8 x9 x10 x11 key val) 10).1)) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2)))) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2)))) = _
  rw [step_c x0 x1 x2 x3 x4 x5 x6 x7 x8 x9 x10 x11 key val 10 (by decide) ![320, 0] slices_S640x512_o320_0_S32x512 rfl, step_h x0 x1 x2 x3 x4 x5 x6 x7 x8 x9 x10 x11 key val 10 (by decide) ![320, 0] slices_S640x512_o320_0_S32x512 rfl, step_c x0 x1 x2 x3 x4 x5 x6 x7 x8 x9 x10 x11 key val 11 (by decide) ![352, 0] slices_S640x512_o352_0_S32x512 rfl, step_h x0 x1 x2 x3 x4 x5 x6 x7 x8 x9 x10 x11 key val 11 (by decide) ![352, 0] slices_S640x512_o352_0_S32x512 rfl]

theorem r_38_eq : run.sl.r_38 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 13).2) := by
  unfold run.sl.r_38
  simp only [r_1_eq, r_2_eq, r_36_eq (x1 := x1) (x10 := x10) (x11 := x11) (key := key) (val := val), r_37_eq (x1 := x1) (x10 := x10) (x11 := x11) (key := key) (val := val)]
  show (cV (gV ![384, 0] slices_S640x512_o384_0_S32x512 (k0_pay7 x0 x4 x5 x6 x8 x9) x7 (mat (hc (inpOf x0 x1 x2 x3 x4 x5 x6 x7 x8 x9 x10 x11 key val) 12).1)) (mat (hc (inpOf x0 x1 x2 x3 x4 x5 x6 x7 x8 x9 x10 x11 key val) 12).2)) = _
  rw [step_c x0 x1 x2 x3 x4 x5 x6 x7 x8 x9 x10 x11 key val 12 (by decide) ![384, 0] slices_S640x512_o384_0_S32x512 rfl]

theorem r_39_eq : run.sl.r_39 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 13).1) := by
  unfold run.sl.r_39
  simp only [r_1_eq, r_2_eq, r_36_eq (x1 := x1) (x10 := x10) (x11 := x11) (key := key) (val := val), r_37_eq (x1 := x1) (x10 := x10) (x11 := x11) (key := key) (val := val)]
  show (hV (gV ![384, 0] slices_S640x512_o384_0_S32x512 (k0_pay7 x0 x4 x5 x6 x8 x9) x7 (mat (hc (inpOf x0 x1 x2 x3 x4 x5 x6 x7 x8 x9 x10 x11 key val) 12).1)) (cV (gV ![384, 0] slices_S640x512_o384_0_S32x512 (k0_pay7 x0 x4 x5 x6 x8 x9) x7 (mat (hc (inpOf x0 x1 x2 x3 x4 x5 x6 x7 x8 x9 x10 x11 key val) 12).1)) (mat (hc (inpOf x0 x1 x2 x3 x4 x5 x6 x7 x8 x9 x10 x11 key val) 12).2))) = _
  rw [step_c x0 x1 x2 x3 x4 x5 x6 x7 x8 x9 x10 x11 key val 12 (by decide) ![384, 0] slices_S640x512_o384_0_S32x512 rfl, step_h x0 x1 x2 x3 x4 x5 x6 x7 x8 x9 x10 x11 key val 12 (by decide) ![384, 0] slices_S640x512_o384_0_S32x512 rfl]

theorem r_40_eq : run.sl.r_40 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11 = (mat (pred (inpOf x0 x1 x2 x3 x4 x5 x6 x7 x8 x9 x10 x11 key val) 12)) := by
  unfold run.sl.r_40
  simp only [r_1_eq, r_2_eq, r_3_eq, r_4_eq, r_36_eq (x1 := x1) (x10 := x10) (x11 := x11) (key := key) (val := val), r_37_eq (x1 := x1) (x10 := x10) (x11 := x11) (key := key) (val := val)]
  show (pV x10 x11 (hV (gV ![384, 0] slices_S640x512_o384_0_S32x512 (k0_pay7 x0 x4 x5 x6 x8 x9) x7 (mat (hc (inpOf x0 x1 x2 x3 x4 x5 x6 x7 x8 x9 x10 x11 key val) 12).1)) (cV (gV ![384, 0] slices_S640x512_o384_0_S32x512 (k0_pay7 x0 x4 x5 x6 x8 x9) x7 (mat (hc (inpOf x0 x1 x2 x3 x4 x5 x6 x7 x8 x9 x10 x11 key val) 12).1)) (mat (hc (inpOf x0 x1 x2 x3 x4 x5 x6 x7 x8 x9 x10 x11 key val) 12).2)))) = _
  rw [step_c x0 x1 x2 x3 x4 x5 x6 x7 x8 x9 x10 x11 key val 12 (by decide) ![384, 0] slices_S640x512_o384_0_S32x512 rfl, step_h x0 x1 x2 x3 x4 x5 x6 x7 x8 x9 x10 x11 key val 12 (by decide) ![384, 0] slices_S640x512_o384_0_S32x512 rfl, step_p x0 x1 x2 x3 x4 x5 x6 x7 x8 x9 x10 x11 key val 12]

theorem r_41_eq : run.sl.r_41 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 14).2) := by
  unfold run.sl.r_41
  simp only [r_1_eq, r_2_eq, r_38_eq (x1 := x1) (x10 := x10) (x11 := x11) (key := key) (val := val), r_39_eq (x1 := x1) (x10 := x10) (x11 := x11) (key := key) (val := val)]
  show (cV (gV ![416, 0] slices_S640x512_o416_0_S32x512 (k0_pay7 x0 x4 x5 x6 x8 x9) x7 (mat (hc (inpOf x0 x1 x2 x3 x4 x5 x6 x7 x8 x9 x10 x11 key val) 13).1)) (mat (hc (inpOf x0 x1 x2 x3 x4 x5 x6 x7 x8 x9 x10 x11 key val) 13).2)) = _
  rw [step_c x0 x1 x2 x3 x4 x5 x6 x7 x8 x9 x10 x11 key val 13 (by decide) ![416, 0] slices_S640x512_o416_0_S32x512 rfl]

theorem r_42_eq : run.sl.r_42 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 14).1) := by
  unfold run.sl.r_42
  simp only [r_1_eq, r_2_eq, r_38_eq (x1 := x1) (x10 := x10) (x11 := x11) (key := key) (val := val), r_39_eq (x1 := x1) (x10 := x10) (x11 := x11) (key := key) (val := val)]
  show (hV (gV ![416, 0] slices_S640x512_o416_0_S32x512 (k0_pay7 x0 x4 x5 x6 x8 x9) x7 (mat (hc (inpOf x0 x1 x2 x3 x4 x5 x6 x7 x8 x9 x10 x11 key val) 13).1)) (cV (gV ![416, 0] slices_S640x512_o416_0_S32x512 (k0_pay7 x0 x4 x5 x6 x8 x9) x7 (mat (hc (inpOf x0 x1 x2 x3 x4 x5 x6 x7 x8 x9 x10 x11 key val) 13).1)) (mat (hc (inpOf x0 x1 x2 x3 x4 x5 x6 x7 x8 x9 x10 x11 key val) 13).2))) = _
  rw [step_c x0 x1 x2 x3 x4 x5 x6 x7 x8 x9 x10 x11 key val 13 (by decide) ![416, 0] slices_S640x512_o416_0_S32x512 rfl, step_h x0 x1 x2 x3 x4 x5 x6 x7 x8 x9 x10 x11 key val 13 (by decide) ![416, 0] slices_S640x512_o416_0_S32x512 rfl]

theorem r_45_eq : run.sl.r_45 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 15).2) := by
  unfold run.sl.r_45
  simp only [r_1_eq, r_2_eq, r_41_eq (x1 := x1) (x10 := x10) (x11 := x11) (key := key) (val := val), r_42_eq (x1 := x1) (x10 := x10) (x11 := x11) (key := key) (val := val)]
  show (cV (gV ![448, 0] slices_S640x512_o448_0_S32x512 (k0_pay7 x0 x4 x5 x6 x8 x9) x7 (mat (hc (inpOf x0 x1 x2 x3 x4 x5 x6 x7 x8 x9 x10 x11 key val) 14).1)) (mat (hc (inpOf x0 x1 x2 x3 x4 x5 x6 x7 x8 x9 x10 x11 key val) 14).2)) = _
  rw [step_c x0 x1 x2 x3 x4 x5 x6 x7 x8 x9 x10 x11 key val 14 (by decide) ![448, 0] slices_S640x512_o448_0_S32x512 rfl]

theorem r_46_eq : run.sl.r_46 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 15).1) := by
  unfold run.sl.r_46
  simp only [r_1_eq, r_2_eq, r_41_eq (x1 := x1) (x10 := x10) (x11 := x11) (key := key) (val := val), r_42_eq (x1 := x1) (x10 := x10) (x11 := x11) (key := key) (val := val)]
  show (hV (gV ![448, 0] slices_S640x512_o448_0_S32x512 (k0_pay7 x0 x4 x5 x6 x8 x9) x7 (mat (hc (inpOf x0 x1 x2 x3 x4 x5 x6 x7 x8 x9 x10 x11 key val) 14).1)) (cV (gV ![448, 0] slices_S640x512_o448_0_S32x512 (k0_pay7 x0 x4 x5 x6 x8 x9) x7 (mat (hc (inpOf x0 x1 x2 x3 x4 x5 x6 x7 x8 x9 x10 x11 key val) 14).1)) (mat (hc (inpOf x0 x1 x2 x3 x4 x5 x6 x7 x8 x9 x10 x11 key val) 14).2))) = _
  rw [step_c x0 x1 x2 x3 x4 x5 x6 x7 x8 x9 x10 x11 key val 14 (by decide) ![448, 0] slices_S640x512_o448_0_S32x512 rfl, step_h x0 x1 x2 x3 x4 x5 x6 x7 x8 x9 x10 x11 key val 14 (by decide) ![448, 0] slices_S640x512_o448_0_S32x512 rfl]

theorem r_48_eq : run.sl.r_48 (F := Ideal) c arg0 harg0 arg2 harg2 arg3 harg3 arg4 harg4 arg5 harg5 arg6 harg6 arg7 harg7 arg8 harg8 arg9 harg9 x0 x2 x3 x4 x5 x6 x7 x8 x9 = logistic (extractStridedSlice S32x128 ![0, 0] (gV ![512, 0] slices_S640x512_o512_0_S32x512 (k0_pay7 x0 x4 x5 x6 x8 x9) x7 (mat (hc (inpOf x0 x1 x2 x3 x4 x5 x6 x7 x8 x9 x10 x11 key val) 16).1)) slices_S32x512_o0_0_S32x128) := by
  unfold run.sl.r_48 run.sl.r_47 run.sl.cst_208
  simp only [r_1_eq, r_2_eq, r_45_eq (x1 := x1) (x10 := x10) (x11 := x11) (key := key) (val := val), r_46_eq (x1 := x1) (x10 := x10) (x11 := x11) (key := key) (val := val)]
  show logistic (extractStridedSlice S32x128 ![0, 0] (gV ![512, 0] slices_S640x512_o512_0_S32x512 (k0_pay7 x0 x4 x5 x6 x8 x9) x7 (hV (gV ![480, 0] slices_S640x512_o480_0_S32x512 (k0_pay7 x0 x4 x5 x6 x8 x9) x7 (mat (hc (inpOf x0 x1 x2 x3 x4 x5 x6 x7 x8 x9 x10 x11 key val) 15).1)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)))) slices_S32x512_o0_0_S32x128) = _
  rw [step_c x0 x1 x2 x3 x4 x5 x6 x7 x8 x9 x10 x11 key val 15 (by decide) ![480, 0] slices_S640x512_o480_0_S32x512 rfl, step_h x0 x1 x2 x3 x4 x5 x6 x7 x8 x9 x10 x11 key val 15 (by decide) ![480, 0] slices_S640x512_o480_0_S32x512 rfl]

theorem r_49_eq : run.sl.r_49 (F := Ideal) c arg0 harg0 arg2 harg2 arg3 harg3 arg4 harg4 arg5 harg5 arg6 harg6 arg7 harg7 arg8 harg8 arg9 harg9 x0 x2 x3 x4 x5 x6 x7 x8 x9 = tanh (extractStridedSlice S32x128 ![0, 256] (gV ![512, 0] slices_S640x512_o512_0_S32x512 (k0_pay7 x0 x4 x5 x6 x8 x9) x7 (mat (hc (inpOf x0 x1 x2 x3 x4 x5 x6 x7 x8 x9 x10 x11 key val) 16).1)) slices_S32x512_o0_256_S32x128) := by
  unfold run.sl.r_49 run.sl.r_47 run.sl.cst_208
  simp only [r_1_eq, r_2_eq, r_45_eq (x1 := x1) (x10 := x10) (x11 := x11) (key := key) (val := val), r_46_eq (x1 := x1) (x10 := x10) (x11 := x11) (key := key) (val := val)]
  show tanh (extractStridedSlice S32x128 ![0, 256] (gV ![512, 0] slices_S640x512_o512_0_S32x512 (k0_pay7 x0 x4 x5 x6 x8 x9) x7 (hV (gV ![480, 0] slices_S640x512_o480_0_S32x512 (k0_pay7 x0 x4 x5 x6 x8 x9) x7 (mat (hc (inpOf x0 x1 x2 x3 x4 x5 x6 x7 x8 x9 x10 x11 key val) 15).1)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)))) slices_S32x512_o0_256_S32x128) = _
  rw [step_c x0 x1 x2 x3 x4 x5 x6 x7 x8 x9 x10 x11 key val 15 (by decide) ![480, 0] slices_S640x512_o480_0_S32x512 rfl, step_h x0 x1 x2 x3 x4 x5 x6 x7 x8 x9 x10 x11 key val 15 (by decide) ![480, 0] slices_S640x512_o480_0_S32x512 rfl]

theorem r_50_eq : run.sl.r_50 (F := Ideal) c arg0 harg0 arg2 harg2 arg3 harg3 arg4 harg4 arg5 harg5 arg6 harg6 arg7 harg7 arg8 harg8 arg9 harg9 x0 x2 x3 x4 x5 x6 x7 x8 x9 = logistic (extractStridedSlice S32x128 ![0, 384] (gV ![512, 0] slices_S640x512_o512_0_S32x512 (k0_pay7 x0 x4 x5 x6 x8 x9) x7 (mat (hc (inpOf x0 x1 x2 x3 x4 x5 x6 x7 x8 x9 x10 x11 key val) 16).1)) slices_S32x512_o0_384_S32x128) := by
  unfold run.sl.r_50 run.sl.r_47 run.sl.cst_208
  simp only [r_1_eq, r_2_eq, r_45_eq (x1 := x1) (x10 := x10) (x11 := x11) (key := key) (val := val), r_46_eq (x1 := x1) (x10 := x10) (x11 := x11) (key := key) (val := val)]
  show logistic (extractStridedSlice S32x128 ![0, 384] (gV ![512, 0] slices_S640x512_o512_0_S32x512 (k0_pay7 x0 x4 x5 x6 x8 x9) x7 (hV (gV ![480, 0] slices_S640x512_o480_0_S32x512 (k0_pay7 x0 x4 x5 x6 x8 x9) x7 (mat (hc (inpOf x0 x1 x2 x3 x4 x5 x6 x7 x8 x9 x10 x11 key val) 15).1)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)))) slices_S32x512_o0_384_S32x128) = _
  rw [step_c x0 x1 x2 x3 x4 x5 x6 x7 x8 x9 x10 x11 key val 15 (by decide) ![480, 0] slices_S640x512_o480_0_S32x512 rfl, step_h x0 x1 x2 x3 x4 x5 x6 x7 x8 x9 x10 x11 key val 15 (by decide) ![480, 0] slices_S640x512_o480_0_S32x512 rfl]

theorem r_51_eq : run.sl.r_51 (F := Ideal) c arg0 harg0 arg2 harg2 arg3 harg3 arg4 harg4 arg5 harg5 arg6 harg6 arg7 harg7 arg8 harg8 arg9 harg9 x0 x2 x3 x4 x5 x6 x7 x8 x9 = mulf (logistic (extractStridedSlice S32x128 ![0, 128] (gV ![512, 0] slices_S640x512_o512_0_S32x512 (k0_pay7 x0 x4 x5 x6 x8 x9) x7 (mat (hc (inpOf x0 x1 x2 x3 x4 x5 x6 x7 x8 x9 x10 x11 key val) 16).1)) slices_S32x512_o0_128_S32x128)) (mat (hc (inpOf x0 x1 x2 x3 x4 x5 x6 x7 x8 x9 x10 x11 key val) 16).2) := by
  unfold run.sl.r_51 run.sl.r_47 run.sl.cst_208
  simp only [r_1_eq, r_2_eq, r_45_eq (x1 := x1) (x10 := x10) (x11 := x11) (key := key) (val := val), r_46_eq (x1 := x1) (x10 := x10) (x11 := x11) (key := key) (val := val)]
  show mulf (logistic (extractStridedSlice S32x128 ![0, 128] (gV ![512, 0] slices_S640x512_o512_0_S32x512 (k0_pay7 x0 x4 x5 x6 x8 x9) x7 (hV (gV ![480, 0] slices_S640x512_o480_0_S32x512 (k0_pay7 x0 x4 x5 x6 x8 x9) x7 (mat (hc (inpOf x0 x1 x2 x3 x4 x5 x6 x7 x8 x9 x10 x11 key val) 15).1)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)))) slices_S32x512_o0_128_S32x128)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)) = _
  rw [step_c x0 x1 x2 x3 x4 x5 x6 x7 x8 x9 x10 x11 key val 15 (by decide) ![480, 0] slices_S640x512_o480_0_S32x512 rfl, step_h x0 x1 x2 x3 x4 x5 x6 x7 x8 x9 x10 x11 key val 15 (by decide) ![480, 0] slices_S640x512_o480_0_S32x512 rfl]

theorem r_52_eq : run.sl.r_52 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 18).2) := by
  unfold run.sl.r_52
  simp only [r_1_eq, r_2_eq, r_48_eq (x1 := x1) (x10 := x10) (x11 := x11) (key := key) (val := val), r_49_eq (x1 := x1) (x10 := x10) (x11 := x11) (key := key) (val := val), r_50_eq (x1 := x1) (x10 := x10) (x11 := x11) (key := key) (val := val), r_51_eq (x1 := x1) (x10 := x10) (x11 := x11) (key := key) (val := val)]
  show (cV (gV ![544, 0] slices_S640x512_o544_0_S32x512 (k0_pay7 x0 x4 x5 x6 x8 x9) x7 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2))) = _
  rw [step_c x0 x1 x2 x3 x4 x5 x6 x7 x8 x9 x10 x11 key val 16 (by decide) ![512, 0] slices_S640x512_o512_0_S32x512 rfl, step_h x0 x1 x2 x3 x4 x5 x6 x7 x8 x9 x10 x11 key val 16 (by decide) ![512, 0] slices_S640x512_o512_0_S32x512 rfl, step_c x0 x1 x2 x3 x4 x5 x6 x7 x8 x9 x10 x11 key val 17 (by decide) ![544, 0] slices_S640x512_o544_0_S32x512 rfl]

theorem r_53_eq : run.sl.r_53 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 18).1) := by
  unfold run.sl.r_53
  simp only [r_1_eq, r_2_eq, r_48_eq (x1 := x1) (x10 := x10) (x11 := x11) (key := key) (val := val), r_49_eq (x1 := x1) (x10 := x10) (x11 := x11) (key := key) (val := val), r_50_eq (x1 := x1) (x10 := x10) (x11 := x11) (key := key) (val := val), r_51_eq (x1 := x1) (x10 := x10) (x11 := x11) (key := key) (val := val)]
  show (hV (gV ![544, 0] slices_S640x512_o544_0_S32x512 (k0_pay7 x0 x4 x5 x6 x8 x9) x7 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) (cV (gV ![544, 0] slices_S640x512_o544_0_S32x512 (k0_pay7 x0 x4 x5 x6 x8 x9) x7 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) = _
  rw [step_c x0 x1 x2 x3 x4 x5 x6 x7 x8 x9 x10 x11 key val 16 (by decide) ![512, 0] slices_S640x512_o512_0_S32x512 rfl, step_h x0 x1 x2 x3 x4 x5 x6 x7 x8 x9 x10 x11 key val 16 (by decide) ![512, 0] slices_S640x512_o512_0_S32x512 rfl, step_c x0 x1 x2 x3 x4 x5 x6 x7 x8 x9 x10 x11 key val 17 (by decide) ![544, 0] slices_S640x512_o544_0_S32x512 rfl, step_h x0 x1 x2 x3 x4 x5 x6 x7 x8 x9 x10 x11 key val 17 (by decide) ![544, 0] slices_S640x512_o544_0_S32x512 rfl]

theorem r_54_eq : run.sl.r_54 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11 = (mat (pred (inpOf x0 x1 x2 x3 x4 x5 x6 x7 x8 x9 x10 x11 key val) 17)) := by
  unfold run.sl.r_54
  simp only [r_1_eq, r_2_eq, r_3_eq, r_4_eq, r_48_eq (x1 := x1) (x10 := x10) (x11 := x11) (key := key) (val := val), r_49_eq (x1 := x1) (x10 := x10) (x11 := x11) (key := key) (val := val), r_50_eq (x1 := x1) (x10 := x10) (x11 := x11) (key := key) (val := val), r_51_eq (x1 := x1) (x10 := x10) (x11 := x11) (key := key) (val := val)]
  show (pV x10 x11 (hV (gV ![544, 0] slices_S640x512_o544_0_S32x512 (k0_pay7 x0 x4 x5 x6 x8 x9) x7 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) (cV (gV ![544, 0] slices_S640x512_o544_0_S32x512 (k0_pay7 x0 x4 x5 x6 x8 x9) x7 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2))))) = _
  rw [step_c x0 x1 x2 x3 x4 x5 x6 x7 x8 x9 x10 x11 key val 16 (by decide) ![512, 0] slices_S640x512_o512_0_S32x512 rfl, step_h x0 x1 x2 x3 x4 x5 x6 x7 x8 x9 x10 x11 key val 16 (by decide) ![512, 0] slices_S640x512_o512_0_S32x512 rfl, step_c x0 x1 x2 x3 x4 x5 x6 x7 x8 x9 x10 x11 key val 17 (by decide) ![544, 0] slices_S640x512_o544_0_S32x512 rfl, step_h x0 x1 x2 x3 x4 x5 x6 x7 x8 x9 x10 x11 key val 17 (by decide) ![544, 0] slices_S640x512_o544_0_S32x512 rfl, step_p x0 x1 x2 x3 x4 x5 x6 x7 x8 x9 x10 x11 key val 17]

theorem r_55_eq : run.sl.r_55 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 19).2) := by
  unfold run.sl.r_55
  simp only [r_1_eq, r_2_eq, r_52_eq (x1 := x1) (x10 := x10) (x11 := x11) (key := key) (val := val), r_53_eq (x1 := x1) (x10 := x10) (x11 := x11) (key := key) (val := val)]
  show (cV (gV ![576, 0] slices_S640x512_o576_0_S32x512 (k0_pay7 x0 x4 x5 x6 x8 x9) x7 (mat (hc (inpOf x0 x1 x2 x3 x4 x5 x6 x7 x8 x9 x10 x11 key val) 18).1)) (mat (hc (inpOf x0 x1 x2 x3 x4 x5 x6 x7 x8 x9 x10 x11 key val) 18).2)) = _
  rw [step_c x0 x1 x2 x3 x4 x5 x6 x7 x8 x9 x10 x11 key val 18 (by decide) ![576, 0] slices_S640x512_o576_0_S32x512 rfl]

theorem r_56_eq : run.sl.r_56 (F := Ideal) c arg0 harg0 arg2 harg2 arg3 harg3 arg4 harg4 arg5 harg5 arg6 harg6 arg7 harg7 arg8 harg8 arg9 harg9 x0 x2 x3 x4 x5 x6 x7 x8 x9 = (mat (hc (inpOf x0 x1 x2 x3 x4 x5 x6 x7 x8 x9 x10 x11 key val) 19).1) := by
  unfold run.sl.r_56
  simp only [r_1_eq, r_2_eq, r_52_eq (x1 := x1) (x10 := x10) (x11 := x11) (key := key) (val := val), r_53_eq (x1 := x1) (x10 := x10) (x11 := x11) (key := key) (val := val)]
  show (hV (gV ![576, 0] slices_S640x512_o576_0_S32x512 (k0_pay7 x0 x4 x5 x6 x8 x9) x7 (mat (hc (inpOf x0 x1 x2 x3 x4 x5 x6 x7 x8 x9 x10 x11 key val) 18).1)) (cV (gV ![576, 0] slices_S640x512_o576_0_S32x512 (k0_pay7 x0 x4 x5 x6 x8 x9) x7 (mat (hc (inpOf x0 x1 x2 x3 x4 x5 x6 x7 x8 x9 x10 x11 key val) 18).1)) (mat (hc (inpOf x0 x1 x2 x3 x4 x5 x6 x7 x8 x9 x10 x11 key val) 18).2))) = _
  rw [step_c x0 x1 x2 x3 x4 x5 x6 x7 x8 x9 x10 x11 key val 18 (by decide) ![576, 0] slices_S640x512_o576_0_S32x512 rfl, step_h x0 x1 x2 x3 x4 x5 x6 x7 x8 x9 x10 x11 key val 18 (by decide) ![576, 0] slices_S640x512_o576_0_S32x512 rfl]

theorem p0_eq : k0_pay13 (run.sl.r_3 c arg10 harg10 x10) (run.sl.r_4 c arg11 harg11 x11) (run.sl.r_6 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 0)) := by
  simp only [r_3_eq, r_4_eq, r_6_eq (x1 := x1) (x10 := x10) (x11 := x11) (key := key) (val := val)]
  show shapeCast S32x64 (pV x10 x11 (mat (hc (inpOf x0 x1 x2 x3 x4 x5 x6 x7 x8 x9 x10 x11 key val) 1).1)) shapeCasts_S32x64_S32x64 = _
  rw [shapeCast_self]
  rw [step_p x0 x1 x2 x3 x4 x5 x6 x7 x8 x9 x10 x11 key val 0]

theorem p1_eq : k0_pay19 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_5 c arg0 harg0 arg2 harg2 arg3 harg3 arg4 harg4 arg5 harg5 arg6 harg6 arg7 harg7 arg8 harg8 arg9 harg9 x0 x2 x3 x4 x5 x6 x7 x8 x9) (run.sl.r_6 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 1)) := by
  simp only [r_1_eq, r_2_eq, r_3_eq, r_4_eq, r_5_eq (x1 := x1) (x10 := x10) (x11 := x11) (key := key) (val := val), r_6_eq (x1 := x1) (x10 := x10) (x11 := x11) (key := key) (val := val)]
  show shapeCast S32x64 (pV x10 x11 (hV (gV ![32, 0] slices_S640x512_o32_0_S32x512 (k0_pay7 x0 x4 x5 x6 x8 x9) x7 (mat (hc (inpOf x0 x1 x2 x3 x4 x5 x6 x7 x8 x9 x10 x11 key val) 1).1)) (cV (gV ![32, 0] slices_S640x512_o32_0_S32x512 (k0_pay7 x0 x4 x5 x6 x8 x9) x7 (mat (hc (inpOf x0 x1 x2 x3 x4 x5 x6 x7 x8 x9 x10 x11 key val) 1).1)) (mat (hc (inpOf x0 x1 x2 x3 x4 x5 x6 x7 x8 x9 x10 x11 key val) 1).2)))) shapeCasts_S32x64_S32x64 = _
  rw [shapeCast_self]
  rw [step_c x0 x1 x2 x3 x4 x5 x6 x7 x8 x9 x10 x11 key val 1 (by decide) ![32, 0] slices_S640x512_o32_0_S32x512 rfl, step_h x0 x1 x2 x3 x4 x5 x6 x7 x8 x9 x10 x11 key val 1 (by decide) ![32, 0] slices_S640x512_o32_0_S32x512 rfl, step_p x0 x1 x2 x3 x4 x5 x6 x7 x8 x9 x10 x11 key val 1]

theorem p2_eq : k0_pay25 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_7 c arg0 harg0 arg2 harg2 arg3 harg3 arg4 harg4 arg5 harg5 arg6 harg6 arg7 harg7 arg8 harg8 arg9 harg9 x0 x2 x3 x4 x5 x6 x7 x8 x9) (run.sl.r_8 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 2)) := by
  simp only [r_1_eq, r_2_eq, r_3_eq, r_4_eq, r_7_eq (x1 := x1) (x10 := x10) (x11 := x11) (key := key) (val := val), r_8_eq (x1 := x1) (x10 := x10) (x11 := x11) (key := key) (val := val)]
  show shapeCast S32x64 (pV x10 x11 (hV (gV ![64, 0] slices_S640x512_o64_0_S32x512 (k0_pay7 x0 x4 x5 x6 x8 x9) x7 (mat (hc (inpOf x0 x1 x2 x3 x4 x5 x6 x7 x8 x9 x10 x11 key val) 2).1)) (cV (gV ![64, 0] slices_S640x512_o64_0_S32x512 (k0_pay7 x0 x4 x5 x6 x8 x9) x7 (mat (hc (inpOf x0 x1 x2 x3 x4 x5 x6 x7 x8 x9 x10 x11 key val) 2).1)) (mat (hc (inpOf x0 x1 x2 x3 x4 x5 x6 x7 x8 x9 x10 x11 key val) 2).2)))) shapeCasts_S32x64_S32x64 = _
  rw [shapeCast_self]
  rw [step_c x0 x1 x2 x3 x4 x5 x6 x7 x8 x9 x10 x11 key val 2 (by decide) ![64, 0] slices_S640x512_o64_0_S32x512 rfl, step_h x0 x1 x2 x3 x4 x5 x6 x7 x8 x9 x10 x11 key val 2 (by decide) ![64, 0] slices_S640x512_o64_0_S32x512 rfl, step_p x0 x1 x2 x3 x4 x5 x6 x7 x8 x9 x10 x11 key val 2]

theorem p3_eq : k0_pay33 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_10 c arg0 harg0 arg2 harg2 arg3 harg3 arg4 harg4 arg5 harg5 arg6 harg6 arg7 harg7 arg8 harg8 arg9 harg9 x0 x2 x3 x4 x5 x6 x7 x8 x9) (run.sl.r_11 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 3)) := by
  simp only [r_1_eq, r_2_eq, r_3_eq, r_4_eq, r_10_eq (x1 := x1) (x10 := x10) (x11 := x11) (key := key) (val := val), r_11_eq (x1 := x1) (x10 := x10) (x11 := x11) (key := key) (val := val)]
  show shapeCast S32x64 (pV x10 x11 (hV (gV ![96, 0] slices_S640x512_o96_0_S32x512 (k0_pay7 x0 x4 x5 x6 x8 x9) x7 (mat (hc (inpOf x0 x1 x2 x3 x4 x5 x6 x7 x8 x9 x10 x11 key val) 3).1)) (cV (gV ![96, 0] slices_S640x512_o96_0_S32x512 (k0_pay7 x0 x4 x5 x6 x8 x9) x7 (mat (hc (inpOf x0 x1 x2 x3 x4 x5 x6 x7 x8 x9 x10 x11 key val) 3).1)) (mat (hc (inpOf x0 x1 x2 x3 x4 x5 x6 x7 x8 x9 x10 x11 key val) 3).2)))) shapeCasts_S32x64_S32x64 = _
  rw [shapeCast_self]
  rw [step_c x0 x1 x2 x3 x4 x5 x6 x7 x8 x9 x10 x11 key val 3 (by decide) ![96, 0] slices_S640x512_o96_0_S32x512 rfl, step_h x0 x1 x2 x3 x4 x5 x6 x7 x8 x9 x10 x11 key val 3 (by decide) ![96, 0] slices_S640x512_o96_0_S32x512 rfl, step_p x0 x1 x2 x3 x4 x5 x6 x7 x8 x9 x10 x11 key val 3]

theorem p4_eq : k0_pay40 (run.sl.r_2 c arg7 harg7 x7) (run.sl.r_3 c arg10 harg10 x10) (run.sl.r_4 c arg11 harg11 x11) (run.sl.r_14 c arg0 harg0 arg2 harg2 arg3 harg3 arg4 harg4 arg5 harg5 arg6 harg6 arg7 harg7 arg8 harg8 arg9 harg9 x0 x2 x3 x4 x5 x6 x7 x8 x9) (run.sl.r_15 c arg0 harg0 arg2 harg2 arg3 harg3 arg4 harg4 arg5 harg5 arg6 harg6 arg7 harg7 arg8 harg8 arg9 harg9 x0 x2 x3 x4 x5 x6 x7 x8 x9) (run.sl.r_16 c arg0 harg0 arg4 harg4 arg5 harg5 arg6 harg6 arg8 harg8 arg9 harg9 x0 x4 x5 x6 x8 x9) = (mat (pred (inpOf x0 x1 x2 x3 x4 x5 x6 x7 x8 x9 x10 x11 key val) 4)) := by
  unfold run.sl.r_16
  simp only [r_2_eq, r_3_eq, r_4_eq, r_14_eq (x1 := x1) (x10 := x10) (x11 := x11) (key := key) (val := val), r_15_eq (x1 := x1) (x10 := x10) (x11 := x11) (key := key) (val := val), r_1_eq]
  show shapeCast S32x64 (pV x10 x11 (hV (gV ![128, 0] slices_S640x512_o128_0_S32x512 (k0_pay7 x0 x4 x5 x6 x8 x9) x7 (mat (hc (inpOf x0 x1 x2 x3 x4 x5 x6 x7 x8 x9 x10 x11 key val) 4).1)) (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)))) shapeCasts_S32x64_S32x64 = _
  rw [shapeCast_self]
  rw [step_c x0 x1 x2 x3 x4 x5 x6 x7 x8 x9 x10 x11 key val 4 (by decide) ![128, 0] slices_S640x512_o128_0_S32x512 rfl, step_h x0 x1 x2 x3 x4 x5 x6 x7 x8 x9 x10 x11 key val 4 (by decide) ![128, 0] slices_S640x512_o128_0_S32x512 rfl, step_p x0 x1 x2 x3 x4 x5 x6 x7 x8 x9 x10 x11 key val 4]

theorem p5_eq : k0_pay50 (run.sl.r_3 c arg10 harg10 x10) (run.sl.r_4 c arg11 harg11 x11) (run.sl.r_17 c arg0 harg0 arg2 harg2 arg3 harg3 arg4 harg4 arg5 harg5 arg6 harg6 arg7 harg7 arg8 harg8 arg9 harg9 x0 x2 x3 x4 x5 x6 x7 x8 x9) (run.sl.r_18 c arg0 harg0 arg2 harg2 arg3 harg3 arg4 harg4 arg5 harg5 arg6 harg6 arg7 harg7 arg8 harg8 arg9 harg9 x0 x2 x3 x4 x5 x6 x7 x8 x9) (run.sl.r_19 c arg0 harg0 arg2 harg2 arg3 harg3 arg4 harg4 arg5 harg5 arg6 harg6 arg7 harg7 arg8 harg8 arg9 harg9 x0 x2 x3 x4 x5 x6 x7 x8 x9) (run.sl.r_20 c arg0 harg0 arg2 harg2 arg3 harg3 arg4 harg4 arg5 harg5 arg6 harg6 arg7 harg7 arg8 harg8 arg9 harg9 x0 x2 x3 x4 x5 x6 x7 x8 x9) (run.sl.r_21 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 5)) := by
  simp only [r_3_eq, r_4_eq, r_17_eq (x1 := x1) (x10 := x10) (x11 := x11) (key := key) (val := val), r_18_eq (x1 := x1) (x10 := x10) (x11 := x11) (key := key) (val := val), r_19_eq (x1 := x1) (x10 := x10) (x11 := x11) (key := key) (val := val), r_20_eq (x1 := x1) (x10 := x10) (x11 := x11) (key := key) (val := val), r_21_eq (x1 := x1) (x10 := x10) (x11 := x11) (key := key) (val := val)]
  show shapeCast S32x64 (pV x10 x11 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))) shapeCasts_S32x64_S32x64 = _
  rw [shapeCast_self]
  rw [step_c x0 x1 x2 x3 x4 x5 x6 x7 x8 x9 x10 x11 key val 5 (by decide) ![160, 0] slices_S640x512_o160_0_S32x512 rfl, step_h x0 x1 x2 x3 x4 x5 x6 x7 x8 x9 x10 x11 key val 5 (by decide) ![160, 0] slices_S640x512_o160_0_S32x512 rfl, step_p x0 x1 x2 x3 x4 x5 x6 x7 x8 x9 x10 x11 key val 5]

theorem p6_eq : k0_pay56 (run.sl.r_24 c arg0 harg0 arg2 harg2 arg3 harg3 arg4 harg4 arg5 harg5 arg6 harg6 arg7 harg7 arg8 harg8 arg9 harg9 arg10 harg10 arg11 harg11 x0 x2 x3 x4 x5 x6 x7 x8 x9 x10 x11) = (mat (pred (inpOf x0 x1 x2 x3 x4 x5 x6 x7 x8 x9 x10 x11 key val) 6)) := by
  simp only [r_24_eq (x1 := x1) (x10 := x10) (x11 := x11) (key := key) (val := val)]
  show shapeCast S32x64 (mat (pred (inpOf x0 x1 x2 x3 x4 x5 x6 x7 x8 x9 x10 x11 key val) 6)) shapeCasts_S32x64_S32x64 = _
  rw [shapeCast_self]

theorem p7_eq : k0_pay62 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_22 c arg0 harg0 arg2 harg2 arg3 harg3 arg4 harg4 arg5 harg5 arg6 harg6 arg7 harg7 arg8 harg8 arg9 harg9 x0 x2 x3 x4 x5 x6 x7 x8 x9) (run.sl.r_23 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 7)) := by
  simp only [r_1_eq, r_2_eq, r_3_eq, r_4_eq, r_22_eq (x1 := x1) (x10 := x10) (x11 := x11) (key := key) (val := val), r_23_eq (x1 := x1) (x10 := x10) (x11 := x11) (key := key) (val := val)]
  show shapeCast S32x64 (pV x10 x11 (hV (gV ![224, 0] slices_S640x512_o224_0_S32x512 (k0_pay7 x0 x4 x5 x6 x8 x9) x7 (mat (hc (inpOf x0 x1 x2 x3 x4 x5 x6 x7 x8 x9 x10 x11 key val) 7).1)) (cV (gV ![224, 0] slices_S640x512_o224_0_S32x512 (k0_pay7 x0 x4 x5 x6 x8 x9) x7 (mat (hc (inpOf x0 x1 x2 x3 x4 x5 x6 x7 x8 x9 x10 x11 key val) 7).1)) (mat (hc (inpOf x0 x1 x2 x3 x4 x5 x6 x7 x8 x9 x10 x11 key val) 7).2)))) shapeCasts_S32x64_S32x64 = _
  rw [shapeCast_self]
  rw [step_c x0 x1 x2 x3 x4 x5 x6 x7 x8 x9 x10 x11 key val 7 (by decide) ![224, 0] slices_S640x512_o224_0_S32x512 rfl, step_h x0 x1 x2 x3 x4 x5 x6 x7 x8 x9 x10 x11 key val 7 (by decide) ![224, 0] slices_S640x512_o224_0_S32x512 rfl, step_p x0 x1 x2 x3 x4 x5 x6 x7 x8 x9 x10 x11 key val 7]

theorem p8_eq : k0_pay70 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_25 c arg0 harg0 arg2 harg2 arg3 harg3 arg4 harg4 arg5 harg5 arg6 harg6 arg7 harg7 arg8 harg8 arg9 harg9 x0 x2 x3 x4 x5 x6 x7 x8 x9) (run.sl.r_26 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 8)) := by
  simp only [r_1_eq, r_2_eq, r_3_eq, r_4_eq, r_25_eq (x1 := x1) (x10 := x10) (x11 := x11) (key := key) (val := val), r_26_eq (x1 := x1) (x10 := x10) (x11 := x11) (key := key) (val := val)]
  show shapeCast S32x64 (pV x10 x11 (hV (gV ![256, 0] slices_S640x512_o256_0_S32x512 (k0_pay7 x0 x4 x5 x6 x8 x9) x7 (mat (hc (inpOf x0 x1 x2 x3 x4 x5 x6 x7 x8 x9 x10 x11 key val) 8).1)) (cV (gV ![256, 0] slices_S640x512_o256_0_S32x512 (k0_pay7 x0 x4 x5 x6 x8 x9) x7 (mat (hc (inpOf x0 x1 x2 x3 x4 x5 x6 x7 x8 x9 x10 x11 key val) 8).1)) (mat (hc (inpOf x0 x1 x2 x3 x4 x5 x6 x7 x8 x9 x10 x11 key val) 8).2)))) shapeCasts_S32x64_S32x64 = _
  rw [shapeCast_self]
  rw [step_c x0 x1 x2 x3 x4 x5 x6 x7 x8 x9 x10 x11 key val 8 (by decide) ![256, 0] slices_S640x512_o256_0_S32x512 rfl, step_h x0 x1 x2 x3 x4 x5 x6 x7 x8 x9 x10 x11 key val 8 (by decide) ![256, 0] slices_S640x512_o256_0_S32x512 rfl, step_p x0 x1 x2 x3 x4 x5 x6 x7 x8 x9 x10 x11 key val 8]

theorem p9_eq : k0_pay77 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_29 c arg0 harg0 arg2 harg2 arg3 harg3 arg4 harg4 arg5 harg5 arg6 harg6 arg7 harg7 arg8 harg8 arg9 harg9 x0 x2 x3 x4 x5 x6 x7 x8 x9) (run.sl.r_30 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 9)) := by
  simp only [r_1_eq, r_2_eq, r_3_eq, r_4_eq, r_29_eq (x1 := x1) (x10 := x10) (x11 := x11) (key := key) (val := val), r_30_eq (x1 := x1) (x10 := x10) (x11 := x11) (key := key) (val := val)]
  show shapeCast S32x64 (pV x10 x11 (hV (gV ![288, 0] slices_S640x512_o288_0_S32x512 (k0_pay7 x0 x4 x5 x6 x8 x9) x7 (mat (hc (inpOf x0 x1 x2 x3 x4 x5 x6 x7 x8 x9 x10 x11 key val) 9).1)) (cV (gV ![288, 0] slices_S640x512_o288_0_S32x512 (k0_pay7 x0 x4 x5 x6 x8 x9) x7 (mat (hc (inpOf x0 x1 x2 x3 x4 x5 x6 x7 x8 x9 x10 x11 key val) 9).1)) (mat (hc (inpOf x0 x1 x2 x3 x4 x5 x6 x7 x8 x9 x10 x11 key val) 9).2)))) shapeCasts_S32x64_S32x64 = _
  rw [shapeCast_self]
  rw [step_c x0 x1 x2 x3 x4 x5 x6 x7 x8 x9 x10 x11 key val 9 (by decide) ![288, 0] slices_S640x512_o288_0_S32x512 rfl, step_h x0 x1 x2 x3 x4 x5 x6 x7 x8 x9 x10 x11 key val 9 (by decide) ![288, 0] slices_S640x512_o288_0_S32x512 rfl, step_p x0 x1 x2 x3 x4 x5 x6 x7 x8 x9 x10 x11 key val 9]

theorem p10_eq : k0_pay85 (run.sl.r_3 c arg10 harg10 x10) (run.sl.r_4 c arg11 harg11 x11) (run.sl.r_32 c arg0 harg0 arg2 harg2 arg3 harg3 arg4 harg4 arg5 harg5 arg6 harg6 arg7 harg7 arg8 harg8 arg9 harg9 x0 x2 x3 x4 x5 x6 x7 x8 x9) (run.sl.r_33 c arg0 harg0 arg2 harg2 arg3 harg3 arg4 harg4 arg5 harg5 arg6 harg6 arg7 harg7 arg8 harg8 arg9 harg9 x0 x2 x3 x4 x5 x6 x7 x8 x9) (run.sl.r_34 c arg0 harg0 arg2 harg2 arg3 harg3 arg4 harg4 arg5 harg5 arg6 harg6 arg7 harg7 arg8 harg8 arg9 harg9 x0 x2 x3 x4 x5 x6 x7 x8 x9) (run.sl.r_35 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 10)) := by
  simp only [r_3_eq, r_4_eq, r_32_eq (x1 := x1) (x10 := x10) (x11 := x11) (key := key) (val := val), r_33_eq (x1 := x1) (x10 := x10) (x11 := x11) (key := key) (val := val), r_34_eq (x1 := x1) (x10 := x10) (x11 := x11) (key := key) (val := val), r_35_eq (x1 := x1) (x10 := x10) (x11 := x11) (key := key) (val := val)]
  show shapeCast S32x64 (pV x10 x11 (hV (gV ![320, 0] slices_S640x512_o320_0_S32x512 (k0_pay7 x0 x4 x5 x6 x8 x9) x7 (mat (hc (inpOf x0 x1 x2 x3 x4 x5 x6 x7 x8 x9 x10 x11 key val) 10).1)) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2)))) shapeCasts_S32x64_S32x64 = _
  rw [shapeCast_self]
  rw [step_c x0 x1 x2 x3 x4 x5 x6 x7 x8 x9 x10 x11 key val 10 (by decide) ![320, 0] slices_S640x512_o320_0_S32x512 rfl, step_h x0 x1 x2 x3 x4 x5 x6 x7 x8 x9 x10 x11 key val 10 (by decide) ![320, 0] slices_S640x512_o320_0_S32x512 rfl, step_p x0 x1 x2 x3 x4 x5 x6 x7 x8 x9 x10 x11 key val 10]

theorem p11_eq : k0_pay91 (run.sl.r_3 c arg10 harg10 x10) (run.sl.r_4 c arg11 harg11 x11) (run.sl.r_37 c arg0 harg0 arg2 harg2 arg3 harg3 arg4 harg4 arg5 harg5 arg6 harg6 arg7 harg7 arg8 harg8 arg9 harg9 x0 x2 x3 x4 x5 x6 x7 x8 x9) run.sl.cst_173 = (mat (pred (inpOf x0 x1 x2 x3 x4 x5 x6 x7 x8 x9 x10 x11 key val) 11)) := by
  unfold run.sl.cst_173
  simp only [r_3_eq, r_4_eq, r_37_eq (x1 := x1) (x10 := x10) (x11 := x11) (key := key) (val := val)]
  show shapeCast S32x64 (pV x10 x11 (mat (hc (inpOf x0 x1 x2 x3 x4 x5 x6 x7 x8 x9 x10 x11 key val) 12).1)) shapeCasts_S32x64_S32x64 = _
  rw [shapeCast_self]
  rw [step_p x0 x1 x2 x3 x4 x5 x6 x7 x8 x9 x10 x11 key val 11]

theorem p12_eq : k0_pay97 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_36 c arg0 harg0 arg2 harg2 arg3 harg3 arg4 harg4 arg5 harg5 arg6 harg6 arg7 harg7 arg8 harg8 arg9 harg9 x0 x2 x3 x4 x5 x6 x7 x8 x9) (run.sl.r_37 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 12)) := by
  simp only [r_1_eq, r_2_eq, r_3_eq, r_4_eq, r_36_eq (x1 := x1) (x10 := x10) (x11 := x11) (key := key) (val := val), r_37_eq (x1 := x1) (x10 := x10) (x11 := x11) (key := key) (val := val)]
  show shapeCast S32x64 (pV x10 x11 (hV (gV ![384, 0] slices_S640x512_o384_0_S32x512 (k0_pay7 x0 x4 x5 x6 x8 x9) x7 (mat (hc (inpOf x0 x1 x2 x3 x4 x5 x6 x7 x8 x9 x10 x11 key val) 12).1)) (cV (gV ![384, 0] slices_S640x512_o384_0_S32x512 (k0_pay7 x0 x4 x5 x6 x8 x9) x7 (mat (hc (inpOf x0 x1 x2 x3 x4 x5 x6 x7 x8 x9 x10 x11 key val) 12).1)) (mat (hc (inpOf x0 x1 x2 x3 x4 x5 x6 x7 x8 x9 x10 x11 key val) 12).2)))) shapeCasts_S32x64_S32x64 = _
  rw [shapeCast_self]
  rw [step_c x0 x1 x2 x3 x4 x5 x6 x7 x8 x9 x10 x11 key val 12 (by decide) ![384, 0] slices_S640x512_o384_0_S32x512 rfl, step_h x0 x1 x2 x3 x4 x5 x6 x7 x8 x9 x10 x11 key val 12 (by decide) ![384, 0] slices_S640x512_o384_0_S32x512 rfl, step_p x0 x1 x2 x3 x4 x5 x6 x7 x8 x9 x10 x11 key val 12]

theorem p13_eq : k0_pay103 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_38 c arg0 harg0 arg2 harg2 arg3 harg3 arg4 harg4 arg5 harg5 arg6 harg6 arg7 harg7 arg8 harg8 arg9 harg9 x0 x2 x3 x4 x5 x6 x7 x8 x9) (run.sl.r_39 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 13)) := by
  simp only [r_1_eq, r_2_eq, r_3_eq, r_4_eq, r_38_eq (x1 := x1) (x10 := x10) (x11 := x11) (key := key) (val := val), r_39_eq (x1 := x1) (x10 := x10) (x11 := x11) (key := key) (val := val)]
  show shapeCast S32x64 (pV x10 x11 (hV (gV ![416, 0] slices_S640x512_o416_0_S32x512 (k0_pay7 x0 x4 x5 x6 x8 x9) x7 (mat (hc (inpOf x0 x1 x2 x3 x4 x5 x6 x7 x8 x9 x10 x11 key val) 13).1)) (cV (gV ![416, 0] slices_S640x512_o416_0_S32x512 (k0_pay7 x0 x4 x5 x6 x8 x9) x7 (mat (hc (inpOf x0 x1 x2 x3 x4 x5 x6 x7 x8 x9 x10 x11 key val) 13).1)) (mat (hc (inpOf x0 x1 x2 x3 x4 x5 x6 x7 x8 x9 x10 x11 key val) 13).2)))) shapeCasts_S32x64_S32x64 = _
  rw [shapeCast_self]
  rw [step_c x0 x1 x2 x3 x4 x5 x6 x7 x8 x9 x10 x11 key val 13 (by decide) ![416, 0] slices_S640x512_o416_0_S32x512 rfl, step_h x0 x1 x2 x3 x4 x5 x6 x7 x8 x9 x10 x11 key val 13 (by decide) ![416, 0] slices_S640x512_o416_0_S32x512 rfl, step_p x0 x1 x2 x3 x4 x5 x6 x7 x8 x9 x10 x11 key val 13]

theorem p14_eq : k0_pay112 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_41 c arg0 harg0 arg2 harg2 arg3 harg3 arg4 harg4 arg5 harg5 arg6 harg6 arg7 harg7 arg8 harg8 arg9 harg9 x0 x2 x3 x4 x5 x6 x7 x8 x9) (run.sl.r_42 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 14)) := by
  simp only [r_1_eq, r_2_eq, r_3_eq, r_4_eq, r_41_eq (x1 := x1) (x10 := x10) (x11 := x11) (key := key) (val := val), r_42_eq (x1 := x1) (x10 := x10) (x11 := x11) (key := key) (val := val)]
  show shapeCast S32x64 (pV x10 x11 (hV (gV ![448, 0] slices_S640x512_o448_0_S32x512 (k0_pay7 x0 x4 x5 x6 x8 x9) x7 (mat (hc (inpOf x0 x1 x2 x3 x4 x5 x6 x7 x8 x9 x10 x11 key val) 14).1)) (cV (gV ![448, 0] slices_S640x512_o448_0_S32x512 (k0_pay7 x0 x4 x5 x6 x8 x9) x7 (mat (hc (inpOf x0 x1 x2 x3 x4 x5 x6 x7 x8 x9 x10 x11 key val) 14).1)) (mat (hc (inpOf x0 x1 x2 x3 x4 x5 x6 x7 x8 x9 x10 x11 key val) 14).2)))) shapeCasts_S32x64_S32x64 = _
  rw [shapeCast_self]
  rw [step_c x0 x1 x2 x3 x4 x5 x6 x7 x8 x9 x10 x11 key val 14 (by decide) ![448, 0] slices_S640x512_o448_0_S32x512 rfl, step_h x0 x1 x2 x3 x4 x5 x6 x7 x8 x9 x10 x11 key val 14 (by decide) ![448, 0] slices_S640x512_o448_0_S32x512 rfl, step_p x0 x1 x2 x3 x4 x5 x6 x7 x8 x9 x10 x11 key val 14]

theorem p15_eq : k0_pay119 (run.sl.r_2 c arg7 harg7 x7) (run.sl.r_3 c arg10 harg10 x10) (run.sl.r_4 c arg11 harg11 x11) (run.sl.r_45 c arg0 harg0 arg2 harg2 arg3 harg3 arg4 harg4 arg5 harg5 arg6 harg6 arg7 harg7 arg8 harg8 arg9 harg9 x0 x2 x3 x4 x5 x6 x7 x8 x9) (run.sl.r_46 c arg0 harg0 arg2 harg2 arg3 harg3 arg4 harg4 arg5 harg5 arg6 harg6 arg7 harg7 arg8 harg8 arg9 harg9 x0 x2 x3 x4 x5 x6 x7 x8 x9) (run.sl.r_47 c arg0 harg0 arg4 harg4 arg5 harg5 arg6 harg6 arg8 harg8 arg9 harg9 x0 x4 x5 x6 x8 x9) run.sl.cst_208 = (mat (pred (inpOf x0 x1 x2 x3 x4 x5 x6 x7 x8 x9 x10 x11 key val) 15)) := by
  unfold run.sl.r_47 run.sl.cst_208
  simp only [r_2_eq, r_3_eq, r_4_eq, r_45_eq (x1 := x1) (x10 := x10) (x11 := x11) (key := key) (val := val), r_46_eq (x1 := x1) (x10 := x10) (x11 := x11) (key := key) (val := val), r_1_eq]
  show shapeCast S32x64 (pV x10 x11 (hV (gV ![480, 0] slices_S640x512_o480_0_S32x512 (k0_pay7 x0 x4 x5 x6 x8 x9) x7 (mat (hc (inpOf x0 x1 x2 x3 x4 x5 x6 x7 x8 x9 x10 x11 key val) 15).1)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)))) shapeCasts_S32x64_S32x64 = _
  rw [shapeCast_self]
  rw [step_c x0 x1 x2 x3 x4 x5 x6 x7 x8 x9 x10 x11 key val 15 (by decide) ![480, 0] slices_S640x512_o480_0_S32x512 rfl, step_h x0 x1 x2 x3 x4 x5 x6 x7 x8 x9 x10 x11 key val 15 (by decide) ![480, 0] slices_S640x512_o480_0_S32x512 rfl, step_p x0 x1 x2 x3 x4 x5 x6 x7 x8 x9 x10 x11 key val 15]

theorem p16_eq : k0_pay129 (run.sl.r_3 c arg10 harg10 x10) (run.sl.r_4 c arg11 harg11 x11) (run.sl.r_48 c arg0 harg0 arg2 harg2 arg3 harg3 arg4 harg4 arg5 harg5 arg6 harg6 arg7 harg7 arg8 harg8 arg9 harg9 x0 x2 x3 x4 x5 x6 x7 x8 x9) (run.sl.r_49 c arg0 harg0 arg2 harg2 arg3 harg3 arg4 harg4 arg5 harg5 arg6 harg6 arg7 harg7 arg8 harg8 arg9 harg9 x0 x2 x3 x4 x5 x6 x7 x8 x9) (run.sl.r_50 c arg0 harg0 arg2 harg2 arg3 harg3 arg4 harg4 arg5 harg5 arg6 harg6 arg7 harg7 arg8 harg8 arg9 harg9 x0 x2 x3 x4 x5 x6 x7 x8 x9) (run.sl.r_51 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 16)) := by
  simp only [r_3_eq, r_4_eq, r_48_eq (x1 := x1) (x10 := x10) (x11 := x11) (key := key) (val := val), r_49_eq (x1 := x1) (x10 := x10) (x11 := x11) (key := key) (val := val), r_50_eq (x1 := x1) (x10 := x10) (x11 := x11) (key := key) (val := val), r_51_eq (x1 := x1) (x10 := x10) (x11 := x11) (key := key) (val := val)]
  show shapeCast S32x64 (pV x10 x11 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))) shapeCasts_S32x64_S32x64 = _
  rw [shapeCast_self]
  rw [step_c x0 x1 x2 x3 x4 x5 x6 x7 x8 x9 x10 x11 key val 16 (by decide) ![512, 0] slices_S640x512_o512_0_S32x512 rfl, step_h x0 x1 x2 x3 x4 x5 x6 x7 x8 x9 x10 x11 key val 16 (by decide) ![512, 0] slices_S640x512_o512_0_S32x512 rfl, step_p x0 x1 x2 x3 x4 x5 x6 x7 x8 x9 x10 x11 key val 16]

theorem p17_eq : k0_pay135 (run.sl.r_54 c arg0 harg0 arg2 harg2 arg3 harg3 arg4 harg4 arg5 harg5 arg6 harg6 arg7 harg7 arg8 harg8 arg9 harg9 arg10 harg10 arg11 harg11 x0 x2 x3 x4 x5 x6 x7 x8 x9 x10 x11) = (mat (pred (inpOf x0 x1 x2 x3 x4 x5 x6 x7 x8 x9 x10 x11 key val) 17)) := by
  simp only [r_54_eq (x1 := x1) (x10 := x10) (x11 := x11) (key := key) (val := val)]
  show shapeCast S32x64 (mat (pred (inpOf x0 x1 x2 x3 x4 x5 x6 x7 x8 x9 x10 x11 key val) 17)) shapeCasts_S32x64_S32x64 = _
  rw [shapeCast_self]

theorem p18_eq : k0_pay141 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_52 c arg0 harg0 arg2 harg2 arg3 harg3 arg4 harg4 arg5 harg5 arg6 harg6 arg7 harg7 arg8 harg8 arg9 harg9 x0 x2 x3 x4 x5 x6 x7 x8 x9) (run.sl.r_53 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 18)) := by
  simp only [r_1_eq, r_2_eq, r_3_eq, r_4_eq, r_52_eq (x1 := x1) (x10 := x10) (x11 := x11) (key := key) (val := val), r_53_eq (x1 := x1) (x10 := x10) (x11 := x11) (key := key) (val := val)]
  show shapeCast S32x64 (pV x10 x11 (hV (gV ![576, 0] slices_S640x512_o576_0_S32x512 (k0_pay7 x0 x4 x5 x6 x8 x9) x7 (mat (hc (inpOf x0 x1 x2 x3 x4 x5 x6 x7 x8 x9 x10 x11 key val) 18).1)) (cV (gV ![576, 0] slices_S640x512_o576_0_S32x512 (k0_pay7 x0 x4 x5 x6 x8 x9) x7 (mat (hc (inpOf x0 x1 x2 x3 x4 x5 x6 x7 x8 x9 x10 x11 key val) 18).1)) (mat (hc (inpOf x0 x1 x2 x3 x4 x5 x6 x7 x8 x9 x10 x11 key val) 18).2)))) shapeCasts_S32x64_S32x64 = _
  rw [shapeCast_self]
  rw [step_c x0 x1 x2 x3 x4 x5 x6 x7 x8 x9 x10 x11 key val 18 (by decide) ![576, 0] slices_S640x512_o576_0_S32x512 rfl, step_h x0 x1 x2 x3 x4 x5 x6 x7 x8 x9 x10 x11 key val 18 (by decide) ![576, 0] slices_S640x512_o576_0_S32x512 rfl, step_p x0 x1 x2 x3 x4 x5 x6 x7 x8 x9 x10 x11 key val 18]

theorem p19_eq : k0_pay145 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_55 c arg0 harg0 arg2 harg2 arg3 harg3 arg4 harg4 arg5 harg5 arg6 harg6 arg7 harg7 arg8 harg8 arg9 harg9 x0 x2 x3 x4 x5 x6 x7 x8 x9) (run.sl.r_56 c arg0 harg0 arg2 harg2 arg3 harg3 arg4 harg4 arg5 harg5 arg6 harg6 arg7 harg7 arg8 harg8 arg9 harg9 x0 x2 x3 x4 x5 x6 x7 x8 x9) = (mat (pred (inpOf x0 x1 x2 x3 x4 x5 x6 x7 x8 x9 x10 x11 key val) 19)) := by
  simp only [r_1_eq, r_2_eq, r_3_eq, r_4_eq, r_55_eq (x1 := x1) (x10 := x10) (x11 := x11) (key := key) (val := val), r_56_eq (x1 := x1) (x10 := x10) (x11 := x11) (key := key) (val := val)]
  show shapeCast S32x64 (pV x10 x11 (hV (gV ![608, 0] slices_S640x512_o608_0_S32x512 (k0_pay7 x0 x4 x5 x6 x8 x9) x7 (mat (hc (inpOf x0 x1 x2 x3 x4 x5 x6 x7 x8 x9 x10 x11 key val) 19).1)) (cV (gV ![608, 0] slices_S640x512_o608_0_S32x512 (k0_pay7 x0 x4 x5 x6 x8 x9) x7 (mat (hc (inpOf x0 x1 x2 x3 x4 x5 x6 x7 x8 x9 x10 x11 key val) 19).1)) (mat (hc (inpOf x0 x1 x2 x3 x4 x5 x6 x7 x8 x9 x10 x11 key val) 19).2)))) shapeCasts_S32x64_S32x64 = _
  rw [shapeCast_self]
  rw [step_c x0 x1 x2 x3 x4 x5 x6 x7 x8 x9 x10 x11 key val 19 (by decide) ![608, 0] slices_S640x512_o608_0_S32x512 rfl, step_h x0 x1 x2 x3 x4 x5 x6 x7 x8 x9 x10 x11 key val 19 (by decide) ![608, 0] slices_S640x512_o608_0_S32x512 rfl, step_p x0 x1 x2 x3 x4 x5 x6 x7 x8 x9 x10 x11 key val 19]

theorem q0_eq (r : Fin 32) (d : Fin 64) : (k0_pay14 (run.sl.r_3 c arg10 harg10 x10) (run.sl.r_4 c arg11 harg11 x11) (run.sl.r_6 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![0, 0] S32x64.size inb_S640x64_S32x64_0_0).toLoadRect (harg1.unread x1)) : Arr S32x64) (ix2 r d) = query (inpOf x0 x1 x2 x3 x4 x5 x6 x7 x8 x9 x10 x11 key val) 0 r d := by
  simp only [r_3_eq, r_4_eq, r_6_eq (x1 := x1) (x10 := x10) (x11 := x11) (key := key) (val := val)]
  show shapeCast S32x64 (qV (subf (shapeCast S32x64 (View.readAt (Elt Ideal) arg1.view (Rect.unit (s := S640x64) ![0, 0] S32x64.size inb_S640x64_S32x64_0_0).toLoadRect (harg1.unread x1)) shapeCasts_S32x64_S32x64) (pV x10 x11 (mat (hc (inpOf x0 x1 x2 x3 x4 x5 x6 x7 x8 x9 x10 x11 key val) 1).1)))) shapeCasts_S32x64_S32x64 (ix2 r d) = _
  rw [shapeCast_self]
  rw [step_p x0 x1 x2 x3 x4 x5 x6 x7 x8 x9 x10 x11 key val 0]
  exact step_q x0 x1 x2 x3 x4 x5 x6 x7 x8 x9 x10 x11 key val 0 (by decide) _ (fun r d => (congrFun (shapeCast_self (s := S32x64) _ _) _).trans (load_rows harg1 x1 0 _ r d (by omega))) r d

theorem q1_eq (r : Fin 32) (d : Fin 64) : (k0_pay20 (run.sl.r_9 c arg0 harg0 arg2 harg2 arg3 harg3 arg4 harg4 arg5 harg5 arg6 harg6 arg7 harg7 arg8 harg8 arg9 harg9 arg10 harg10 arg11 harg11 x0 x2 x3 x4 x5 x6 x7 x8 x9 x10 x11) (View.readAt (Elt Ideal) arg1.view (Rect.unit (s := S640x64) ![32, 0] S32x64.size inb_S640x64_S32x64_32_0).toLoadRect (harg1.unread x1)) : Arr S32x64) (ix2 r d) = query (inpOf x0 x1 x2 x3 x4 x5 x6 x7 x8 x9 x10 x11 key val) 1 r d := by
  simp only [r_9_eq (x1 := x1) (x10 := x10) (x11 := x11) (key := key) (val := val)]
  show shapeCast S32x64 (qV (subf (shapeCast S32x64 (View.readAt (Elt Ideal) arg1.view (Rect.unit (s := S640x64) ![32, 0] S32x64.size inb_S640x64_S32x64_32_0).toLoadRect (harg1.unread x1)) shapeCasts_S32x64_S32x64) (mat (pred (inpOf x0 x1 x2 x3 x4 x5 x6 x7 x8 x9 x10 x11 key val) 1)))) shapeCasts_S32x64_S32x64 (ix2 r d) = _
  rw [shapeCast_self]
  exact step_q x0 x1 x2 x3 x4 x5 x6 x7 x8 x9 x10 x11 key val 1 (by decide) _ (fun r d => (congrFun (shapeCast_self (s := S32x64) _ _) _).trans (load_rows harg1 x1 32 _ r d (by omega))) r d

theorem q2_eq (r : Fin 32) (d : Fin 64) : (k0_pay28 (run.sl.r_12 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (run.sl.r_13 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) run.sl.cst_97 : Arr S32x64) (ix2 r d) = query (inpOf x0 x1 x2 x3 x4 x5 x6 x7 x8 x9 x10 x11 key val) 2 r d := by
  unfold run.sl.r_12 run.sl.r_13 run.sl.cst_97
  simp only [r_1_eq, r_2_eq, r_3_eq, r_4_eq, r_7_eq (x1 := x1) (x10 := x10) (x11 := x11) (key := key) (val := val), r_8_eq (x1 := x1) (x10 := x10) (x11 := x11) (key := key) (val := val)]
  show shapeCast S32x64 (qV (subf (shapeCast S32x64 (View.readAt (Elt Ideal) arg1.view (Rect.unit (s := S640x64) ![64, 0] S32x64.size inb_S640x64_S32x64_64_0).toLoadRect (harg1.unread x1)) shapeCasts_S32x64_S32x64) (pV x10 x11 (hV (gV ![64, 0] slices_S640x512_o64_0_S32x512 (k0_pay7 x0 x4 x5 x6 x8 x9) x7 (mat (hc (inpOf x0 x1 x2 x3 x4 x5 x6 x7 x8 x9 x10 x11 key val) 2).1)) (cV (gV ![64, 0] slices_S640x512_o64_0_S32x512 (k0_pay7 x0 x4 x5 x6 x8 x9) x7 (mat (hc (inpOf x0 x1 x2 x3 x4 x5 x6 x7 x8 x9 x10 x11 key val) 2).1)) (mat (hc (inpOf x0 x1 x2 x3 x4 x5 x6 x7 x8 x9 x10 x11 key val) 2).2)))))) shapeCasts_S32x64_S32x64 (ix2 r d) = _
  rw [shapeCast_self]
  rw [step_c x0 x1 x2 x3 x4 x5 x6 x7 x8 x9 x10 x11 key val 2 (by decide) ![64, 0] slices_S640x512_o64_0_S32x512 rfl, step_h x0 x1 x2 x3 x4 x5 x6 x7 x8 x9 x10 x11 key val 2 (by decide) ![64, 0] slices_S640x512_o64_0_S32x512 rfl, step_p x0 x1 x2 x3 x4 x5 x6 x7 x8 x9 x10 x11 key val 2]
  exact step_q x0 x1 x2 x3 x4 x5 x6 x7 x8 x9 x10 x11 key val 2 (by decide) _ (fun r d => (congrFun (shapeCast_self (s := S32x64) _ _) _).trans (load_rows harg1 x1 64 _ r d (by omega))) r d

theorem q3_eq (r : Fin 32) (d : Fin 64) : (k0_pay34 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_10 c arg0 harg0 arg2 harg2 arg3 harg3 arg4 harg4 arg5 harg5 arg6 harg6 arg7 harg7 arg8 harg8 arg9 harg9 x0 x2 x3 x4 x5 x6 x7 x8 x9) (run.sl.r_11 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![96, 0] S32x64.size inb_S640x64_S32x64_96_0).toLoadRect (harg1.unread x1)) : Arr S32x64) (ix2 r d) = query (inpOf x0 x1 x2 x3 x4 x5 x6 x7 x8 x9 x10 x11 key val) 3 r d := by
  simp only [r_1_eq, r_2_eq, r_3_eq, r_4_eq, r_10_eq (x1 := x1) (x10 := x10) (x11 := x11) (key := key) (val := val), r_11_eq (x1 := x1) (x10 := x10) (x11 := x11) (key := key) (val := val)]
  show shapeCast S32x64 (qV (subf (shapeCast S32x64 (View.readAt (Elt Ideal) arg1.view (Rect.unit (s := S640x64) ![96, 0] S32x64.size inb_S640x64_S32x64_96_0).toLoadRect (harg1.unread x1)) shapeCasts_S32x64_S32x64) (pV x10 x11 (hV (gV ![96, 0] slices_S640x512_o96_0_S32x512 (k0_pay7 x0 x4 x5 x6 x8 x9) x7 (mat (hc (inpOf x0 x1 x2 x3 x4 x5 x6 x7 x8 x9 x10 x11 key val) 3).1)) (cV (gV ![96, 0] slices_S640x512_o96_0_S32x512 (k0_pay7 x0 x4 x5 x6 x8 x9) x7 (mat (hc (inpOf x0 x1 x2 x3 x4 x5 x6 x7 x8 x9 x10 x11 key val) 3).1)) (mat (hc (inpOf x0 x1 x2 x3 x4 x5 x6 x7 x8 x9 x10 x11 key val) 3).2)))))) shapeCasts_S32x64_S32x64 (ix2 r d) = _
  rw [shapeCast_self]
  rw [step_c x0 x1 x2 x3 x4 x5 x6 x7 x8 x9 x10 x11 key val 3 (by decide) ![96, 0] slices_S640x512_o96_0_S32x512 rfl, step_h x0 x1 x2 x3 x4 x5 x6 x7 x8 x9 x10 x11 key val 3 (by decide) ![96, 0] slices_S640x512_o96_0_S32x512 rfl, step_p x0 x1 x2 x3 x4 x5 x6 x7 x8 x9 x10 x11 key val 3]
  exact step_q x0 x1 x2 x3 x4 x5 x6 x7 x8 x9 x10 x11 key val 3 (by decide) _ (fun r d => (congrFun (shapeCast_self (s := S32x64) _ _) _).trans (load_rows harg1 x1 96 _ r d (by omega))) r d

theorem q4_eq (r : Fin 32) (d : Fin 64) : (k0_pay41 (run.sl.r_2 c arg7 harg7 x7) (run.sl.r_3 c arg10 harg10 x10) (run.sl.r_4 c arg11 harg11 x11) (run.sl.r_14 c arg0 harg0 arg2 harg2 arg3 harg3 arg4 harg4 arg5 harg5 arg6 harg6 arg7 harg7 arg8 harg8 arg9 harg9 x0 x2 x3 x4 x5 x6 x7 x8 x9) (run.sl.r_15 c arg0 harg0 arg2 harg2 arg3 harg3 arg4 harg4 arg5 harg5 arg6 harg6 arg7 harg7 arg8 harg8 arg9 harg9 x0 x2 x3 x4 x5 x6 x7 x8 x9) (run.sl.r_16 c arg0 harg0 arg4 harg4 arg5 harg5 arg6 harg6 arg8 harg8 arg9 harg9 x0 x4 x5 x6 x8 x9) (View.readAt (Elt Ideal) arg1.view (Rect.unit (s := S640x64) ![128, 0] S32x64.size inb_S640x64_S32x64_128_0).toLoadRect (harg1.unread x1)) : Arr S32x64) (ix2 r d) = query (inpOf x0 x1 x2 x3 x4 x5 x6 x7 x8 x9 x10 x11 key val) 4 r d := by
  unfold run.sl.r_16
  simp only [r_2_eq, r_3_eq, r_4_eq, r_14_eq (x1 := x1) (x10 := x10) (x11 := x11) (key := key) (val := val), r_15_eq (x1 := x1) (x10 := x10) (x11 := x11) (key := key) (val := val), r_1_eq]
  show shapeCast S32x64 (qV (subf (shapeCast S32x64 (View.readAt (Elt Ideal) arg1.view (Rect.unit (s := S640x64) ![128, 0] S32x64.size inb_S640x64_S32x64_128_0).toLoadRect (harg1.unread x1)) shapeCasts_S32x64_S32x64) (pV x10 x11 (hV (gV ![128, 0] slices_S640x512_o128_0_S32x512 (k0_pay7 x0 x4 x5 x6 x8 x9) x7 (mat (hc (inpOf x0 x1 x2 x3 x4 x5 x6 x7 x8 x9 x10 x11 key val) 4).1)) (cV (gV ![128, 0] slices_S640x512_o128_0_S32x512 (k0_pay7 x0 x4 x5 x6 x8 x9) x7 (mat (hc (inpOf x0 x1 x2 x3 x4 x5 x6 x7 x8 x9 x10 x11 key val) 4).1)) (mat (hc (inpOf x0 x1 x2 x3 x4 x5 x6 x7 x8 x9 x10 x11 key val) 4).2)))))) shapeCasts_S32x64_S32x64 (ix2 r d) = _
  rw [shapeCast_self]
  rw [step_c x0 x1 x2 x3 x4 x5 x6 x7 x8 x9 x10 x11 key val 4 (by decide) ![128, 0] slices_S640x512_o128_0_S32x512 rfl, step_h x0 x1 x2 x3 x4 x5 x6 x7 x8 x9 x10 x11 key val 4 (by decide) ![128, 0] slices_S640x512_o128_0_S32x512 rfl, step_p x0 x1 x2 x3 x4 x5 x6 x7 x8 x9 x10 x11 key val 4]
  exact step_q x0 x1 x2 x3 x4 x5 x6 x7 x8 x9 x10 x11 key val 4 (by decide) _ (fun r d => (congrFun (shapeCast_self (s := S32x64) _ _) _).trans (load_rows harg1 x1 128 _ r d (by omega))) r d

theorem q5_eq (r : Fin 32) (d : Fin 64) : (k0_pay51 (run.sl.r_3 c arg10 harg10 x10) (run.sl.r_4 c arg11 harg11 x11) (run.sl.r_17 c arg0 harg0 arg2 harg2 arg3 harg3 arg4 harg4 arg5 harg5 arg6 harg6 arg7 harg7 arg8 harg8 arg9 harg9 x0 x2 x3 x4 x5 x6 x7 x8 x9) (run.sl.r_18 c arg0 harg0 arg2 harg2 arg3 harg3 arg4 harg4 arg5 harg5 arg6 harg6 arg7 harg7 arg8 harg8 arg9 harg9 x0 x2 x3 x4 x5 x6 x7 x8 x9) (run.sl.r_19 c arg0 harg0 arg2 harg2 arg3 harg3 arg4 harg4 arg5 harg5 arg6 harg6 arg7 harg7 arg8 harg8 arg9 harg9 x0 x2 x3 x4 x5 x6 x7 x8 x9) (run.sl.r_20 c arg0 harg0 arg2 harg2 arg3 harg3 arg4 harg4 arg5 harg5 arg6 harg6 arg7 harg7 arg8 harg8 arg9 harg9 x0 x2 x3 x4 x5 x6 x7 x8 x9) (run.sl.r_21 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![160, 0] S32x64.size inb_S640x64_S32x64_160_0).toLoadRect (harg1.unread x1)) : Arr S32x64) (ix2 r d) = query (inpOf x0 x1 x2 x3 x4 x5 x6 x7 x8 x9 x10 x11 key val) 5 r d := by
  simp only [r_3_eq, r_4_eq, r_17_eq (x1 := x1) (x10 := x10) (x11 := x11) (key := key) (val := val), r_18_eq (x1 := x1) (x10 := x10) (x11 := x11) (key := key) (val := val), r_19_eq (x1 := x1) (x10 := x10) (x11 := x11) (key := key) (val := val), r_20_eq (x1 := x1) (x10 := x10) (x11 := x11) (key := key) (val := val), r_21_eq (x1 := x1) (x10 := x10) (x11 := x11) (key := key) (val := val)]
  show shapeCast S32x64 (qV (subf (shapeCast S32x64 (View.readAt (Elt Ideal) arg1.view (Rect.unit (s := S640x64) ![160, 0] S32x64.size inb_S640x64_S32x64_160_0).toLoadRect (harg1.unread x1)) shapeCasts_S32x64_S32x64) (pV x10 x11 (hV (gV ![160, 0] slices_S640x512_o160_0_S32x512 (k0_pay7 x0 x4 x5 x6 x8 x9) x7 (mat (hc (inpOf x0 x1 x2 x3 x4 x5 x6 x7 x8 x9 x10 x11 key val) 5).1)) (cV (gV ![160, 0] slices_S640x512_o160_0_S32x512 (k0_pay7 x0 x4 x5 x6 x8 x9) x7 (mat (hc (inpOf x0 x1 x2 x3 x4 x5 x6 x7 x8 x9 x10 x11 key val) 5).1)) (mat (hc (inpOf x0 x1 x2 x3 x4 x5 x6 x7 x8 x9 x10 x11 key val) 5).2)))))) shapeCasts_S32x64_S32x64 (ix2 r d) = _
  rw [shapeCast_self]
  rw [step_c x0 x1 x2 x3 x4 x5 x6 x7 x8 x9 x10 x11 key val 5 (by decide) ![160, 0] slices_S640x512_o160_0_S32x512 rfl, step_h x0 x1 x2 x3 x4 x5 x6 x7 x8 x9 x10 x11 key val 5 (by decide) ![160, 0] slices_S640x512_o160_0_S32x512 rfl, step_p x0 x1 x2 x3 x4 x5 x6 x7 x8 x9 x10 x11 key val 5]
  exact step_q x0 x1 x2 x3 x4 x5 x6 x7 x8 x9 x10 x11 key val 5 (by decide) _ (fun r d => (congrFun (shapeCast_self (s := S32x64) _ _) _).trans (load_rows harg1 x1 160 _ r d (by omega))) r d

theorem q6_eq (r : Fin 32) (d : Fin 64) : (k0_pay57 (run.sl.r_24 c arg0 harg0 arg2 harg2 arg3 harg3 arg4 harg4 arg5 harg5 arg6 harg6 arg7 harg7 arg8 harg8 arg9 harg9 arg10 harg10 arg11 harg11 x0 x2 x3 x4 x5 x6 x7 x8 x9 x10 x11) (View.readAt (Elt Ideal) arg1.view (Rect.unit (s := S640x64) ![192, 0] S32x64.size inb_S640x64_S32x64_192_0).toLoadRect (harg1.unread x1)) : Arr S32x64) (ix2 r d) = query (inpOf x0 x1 x2 x3 x4 x5 x6 x7 x8 x9 x10 x11 key val) 6 r d := by
  simp only [r_24_eq (x1 := x1) (x10 := x10) (x11 := x11) (key := key) (val := val)]
  show shapeCast S32x64 (qV (subf (shapeCast S32x64 (View.readAt (Elt Ideal) arg1.view (Rect.unit (s := S640x64) ![192, 0] S32x64.size inb_S640x64_S32x64_192_0).toLoadRect (harg1.unread x1)) shapeCasts_S32x64_S32x64) (mat (pred (inpOf x0 x1 x2 x3 x4 x5 x6 x7 x8 x9 x10 x11 key val) 6)))) shapeCasts_S32x64_S32x64 (ix2 r d) = _
  rw [shapeCast_self]
  exact step_q x0 x1 x2 x3 x4 x5 x6 x7 x8 x9 x10 x11 key val 6 (by decide) _ (fun r d => (congrFun (shapeCast_self (s := S32x64) _ _) _).trans (load_rows harg1 x1 192 _ r d (by omega))) r d

theorem q7_eq (r : Fin 32) (d : Fin 64) : (k0_pay65 (run.sl.r_27 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (run.sl.r_28 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) : Arr S32x64) (ix2 r d) = query (inpOf x0 x1 x2 x3 x4 x5 x6 x7 x8 x9 x10 x11 key val) 7 r d := by
  unfold run.sl.r_27 run.sl.r_28
  simp only [r_1_eq, r_2_eq, r_3_eq, r_4_eq, r_22_eq (x1 := x1) (x10 := x10) (x11 := x11) (key := key) (val := val), r_23_eq (x1 := x1) (x10 := x10) (x11 := x11) (key := key) (val := val)]
  show shapeCast S32x64 (qV (subf (shapeCast S32x64 (View.readAt (Elt Ideal) arg1.view (Rect.unit (s := S640x64) ![224, 0] S32x64.size inb_S640x64_S32x64_224_0).toLoadRect (harg1.unread x1)) shapeCasts_S32x64_S32x64) (pV x10 x11 (hV (gV ![224, 0] slices_S640x512_o224_0_S32x512 (k0_pay7 x0 x4 x5 x6 x8 x9) x7 (mat (hc (inpOf x0 x1 x2 x3 x4 x5 x6 x7 x8 x9 x10 x11 key val) 7).1)) (cV (gV ![224, 0] slices_S640x512_o224_0_S32x512 (k0_pay7 x0 x4 x5 x6 x8 x9) x7 (mat (hc (inpOf x0 x1 x2 x3 x4 x5 x6 x7 x8 x9 x10 x11 key val) 7).1)) (mat (hc (inpOf x0 x1 x2 x3 x4 x5 x6 x7 x8 x9 x10 x11 key val) 7).2)))))) shapeCasts_S32x64_S32x64 (ix2 r d) = _
  rw [shapeCast_self]
  rw [step_c x0 x1 x2 x3 x4 x5 x6 x7 x8 x9 x10 x11 key val 7 (by decide) ![224, 0] slices_S640x512_o224_0_S32x512 rfl, step_h x0 x1 x2 x3 x4 x5 x6 x7 x8 x9 x10 x11 key val 7 (by decide) ![224, 0] slices_S640x512_o224_0_S32x512 rfl, step_p x0 x1 x2 x3 x4 x5 x6 x7 x8 x9 x10 x11 key val 7]
  exact step_q x0 x1 x2 x3 x4 x5 x6 x7 x8 x9 x10 x11 key val 7 (by decide) _ (fun r d => (congrFun (shapeCast_self (s := S32x64) _ _) _).trans (load_rows harg1 x1 224 _ r d (by omega))) r d

theorem q8_eq (r : Fin 32) (d : Fin 64) : (k0_pay72 (run.sl.r_31 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) : Arr S32x64) (ix2 r d) = query (inpOf x0 x1 x2 x3 x4 x5 x6 x7 x8 x9 x10 x11 key val) 8 r d := by
  unfold run.sl.r_31
  simp only [r_1_eq, r_2_eq, r_3_eq, r_4_eq, r_25_eq (x1 := x1) (x10 := x10) (x11 := x11) (key := key) (val := val), r_26_eq (x1 := x1) (x10 := x10) (x11 := x11) (key := key) (val := val)]
  show shapeCast S32x64 (qV (subf (shapeCast S32x64 (View.readAt (Elt Ideal) arg1.view (Rect.unit (s := S640x64) ![256, 0] S32x64.size inb_S640x64_S32x64_256_0).toLoadRect (harg1.unread x1)) shapeCasts_S32x64_S32x64) (pV x10 x11 (hV (gV ![256, 0] slices_S640x512_o256_0_S32x512 (k0_pay7 x0 x4 x5 x6 x8 x9) x7 (mat (hc (inpOf x0 x1 x2 x3 x4 x5 x6 x7 x8 x9 x10 x11 key val) 8).1)) (cV (gV ![256, 0] slices_S640x512_o256_0_S32x512 (k0_pay7 x0 x4 x5 x6 x8 x9) x7 (mat (hc (inpOf x0 x1 x2 x3 x4 x5 x6 x7 x8 x9 x10 x11 key val) 8).1)) (mat (hc (inpOf x0 x1 x2 x3 x4 x5 x6 x7 x8 x9 x10 x11 key val) 8).2)))))) shapeCasts_S32x64_S32x64 (ix2 r d) = _
  rw [shapeCast_self]
  rw [step_c x0 x1 x2 x3 x4 x5 x6 x7 x8 x9 x10 x11 key val 8 (by decide) ![256, 0] slices_S640x512_o256_0_S32x512 rfl, step_h x0 x1 x2 x3 x4 x5 x6 x7 x8 x9 x10 x11 key val 8 (by decide) ![256, 0] slices_S640x512_o256_0_S32x512 rfl, step_p x0 x1 x2 x3 x4 x5 x6 x7 x8 x9 x10 x11 key val 8]
  exact step_q x0 x1 x2 x3 x4 x5 x6 x7 x8 x9 x10 x11 key val 8 (by decide) _ (fun r d => (congrFun (shapeCast_self (s := S32x64) _ _) _).trans (load_rows harg1 x1 256 _ r d (by omega))) r d

theorem q9_eq (r : Fin 32) (d : Fin 64) : (k0_pay78 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_29 c arg0 harg0 arg2 harg2 arg3 harg3 arg4 harg4 arg5 harg5 arg6 harg6 arg7 harg7 arg8 harg8 arg9 harg9 x0 x2 x3 x4 x5 x6 x7 x8 x9) (run.sl.r_30 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![288, 0] S32x64.size inb_S640x64_S32x64_288_0).toLoadRect (harg1.unread x1)) : Arr S32x64) (ix2 r d) = query (inpOf x0 x1 x2 x3 x4 x5 x6 x7 x8 x9 x10 x11 key val) 9 r d := by
  simp only [r_1_eq, r_2_eq, r_3_eq, r_4_eq, r_29_eq (x1 := x1) (x10 := x10) (x11 := x11) (key := key) (val := val), r_30_eq (x1 := x1) (x10 := x10) (x11 := x11) (key := key) (val := val)]
  show shapeCast S32x64 (qV (subf (shapeCast S32x64 (View.readAt (Elt Ideal) arg1.view (Rect.unit (s := S640x64) ![288, 0] S32x64.size inb_S640x64_S32x64_288_0).toLoadRect (harg1.unread x1)) shapeCasts_S32x64_S32x64) (pV x10 x11 (hV (gV ![288, 0] slices_S640x512_o288_0_S32x512 (k0_pay7 x0 x4 x5 x6 x8 x9) x7 (mat (hc (inpOf x0 x1 x2 x3 x4 x5 x6 x7 x8 x9 x10 x11 key val) 9).1)) (cV (gV ![288, 0] slices_S640x512_o288_0_S32x512 (k0_pay7 x0 x4 x5 x6 x8 x9) x7 (mat (hc (inpOf x0 x1 x2 x3 x4 x5 x6 x7 x8 x9 x10 x11 key val) 9).1)) (mat (hc (inpOf x0 x1 x2 x3 x4 x5 x6 x7 x8 x9 x10 x11 key val) 9).2)))))) shapeCasts_S32x64_S32x64 (ix2 r d) = _
  rw [shapeCast_self]
  rw [step_c x0 x1 x2 x3 x4 x5 x6 x7 x8 x9 x10 x11 key val 9 (by decide) ![288, 0] slices_S640x512_o288_0_S32x512 rfl, step_h x0 x1 x2 x3 x4 x5 x6 x7 x8 x9 x10 x11 key val 9 (by decide) ![288, 0] slices_S640x512_o288_0_S32x512 rfl, step_p x0 x1 x2 x3 x4 x5 x6 x7 x8 x9 x10 x11 key val 9]
  exact step_q x0 x1 x2 x3 x4 x5 x6 x7 x8 x9 x10 x11 key val 9 (by decide) _ (fun r d => (congrFun (shapeCast_self (s := S32x64) _ _) _).trans (load_rows harg1 x1 288 _ r d (by omega))) r d

theorem q10_eq (r : Fin 32) (d : Fin 64) : (k0_pay86 (run.sl.r_3 c arg10 harg10 x10) (run.sl.r_4 c arg11 harg11 x11) (run.sl.r_32 c arg0 harg0 arg2 harg2 arg3 harg3 arg4 harg4 arg5 harg5 arg6 harg6 arg7 harg7 arg8 harg8 arg9 harg9 x0 x2 x3 x4 x5 x6 x7 x8 x9) (run.sl.r_33 c arg0 harg0 arg2 harg2 arg3 harg3 arg4 harg4 arg5 harg5 arg6 harg6 arg7 harg7 arg8 harg8 arg9 harg9 x0 x2 x3 x4 x5 x6 x7 x8 x9) (run.sl.r_34 c arg0 harg0 arg2 harg2 arg3 harg3 arg4 harg4 arg5 harg5 arg6 harg6 arg7 harg7 arg8 harg8 arg9 harg9 x0 x2 x3 x4 x5 x6 x7 x8 x9) (run.sl.r_35 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![320, 0] S32x64.size inb_S640x64_S32x64_320_0).toLoadRect (harg1.unread x1)) : Arr S32x64) (ix2 r d) = query (inpOf x0 x1 x2 x3 x4 x5 x6 x7 x8 x9 x10 x11 key val) 10 r d := by
  simp only [r_3_eq, r_4_eq, r_32_eq (x1 := x1) (x10 := x10) (x11 := x11) (key := key) (val := val), r_33_eq (x1 := x1) (x10 := x10) (x11 := x11) (key := key) (val := val), r_34_eq (x1 := x1) (x10 := x10) (x11 := x11) (key := key) (val := val), r_35_eq (x1 := x1) (x10 := x10) (x11 := x11) (key := key) (val := val)]
  show shapeCast S32x64 (qV (subf (shapeCast S32x64 (View.readAt (Elt Ideal) arg1.view (Rect.unit (s := S640x64) ![320, 0] S32x64.size inb_S640x64_S32x64_320_0).toLoadRect (harg1.unread x1)) shapeCasts_S32x64_S32x64) (pV x10 x11 (hV (gV ![320, 0] slices_S640x512_o320_0_S32x512 (k0_pay7 x0 x4 x5 x6 x8 x9) x7 (mat (hc (inpOf x0 x1 x2 x3 x4 x5 x6 x7 x8 x9 x10 x11 key val) 10).1)) (cV (gV ![320, 0] slices_S640x512_o320_0_S32x512 (k0_pay7 x0 x4 x5 x6 x8 x9) x7 (mat (hc (inpOf x0 x1 x2 x3 x4 x5 x6 x7 x8 x9 x10 x11 key val) 10).1)) (mat (hc (inpOf x0 x1 x2 x3 x4 x5 x6 x7 x8 x9 x10 x11 key val) 10).2)))))) shapeCasts_S32x64_S32x64 (ix2 r d) = _
  rw [shapeCast_self]
  rw [step_c x0 x1 x2 x3 x4 x5 x6 x7 x8 x9 x10 x11 key val 10 (by decide) ![320, 0] slices_S640x512_o320_0_S32x512 rfl, step_h x0 x1 x2 x3 x4 x5 x6 x7 x8 x9 x10 x11 key val 10 (by decide) ![320, 0] slices_S640x512_o320_0_S32x512 rfl, step_p x0 x1 x2 x3 x4 x5 x6 x7 x8 x9 x10 x11 key val 10]
  exact step_q x0 x1 x2 x3 x4 x5 x6 x7 x8 x9 x10 x11 key val 10 (by decide) _ (fun r d => (congrFun (shapeCast_self (s := S32x64) _ _) _).trans (load_rows harg1 x1 320 _ r d (by omega))) r d

theorem q11_eq (r : Fin 32) (d : Fin 64) : (k0_pay92 (run.sl.r_3 c arg10 harg10 x10) (run.sl.r_4 c arg11 harg11 x11) (run.sl.r_37 c arg0 harg0 arg2 harg2 arg3 harg3 arg4 harg4 arg5 harg5 arg6 harg6 arg7 harg7 arg8 harg8 arg9 harg9 x0 x2 x3 x4 x5 x6 x7 x8 x9) run.sl.cst_173 (View.readAt (Elt Ideal) arg1.view (Rect.unit (s := S640x64) ![352, 0] S32x64.size inb_S640x64_S32x64_352_0).toLoadRect (harg1.unread x1)) : Arr S32x64) (ix2 r d) = query (inpOf x0 x1 x2 x3 x4 x5 x6 x7 x8 x9 x10 x11 key val) 11 r d := by
  unfold run.sl.cst_173
  simp only [r_3_eq, r_4_eq, r_37_eq (x1 := x1) (x10 := x10) (x11 := x11) (key := key) (val := val)]
  show shapeCast S32x64 (qV (subf (shapeCast S32x64 (View.readAt (Elt Ideal) arg1.view (Rect.unit (s := S640x64) ![352, 0] S32x64.size inb_S640x64_S32x64_352_0).toLoadRect (harg1.unread x1)) shapeCasts_S32x64_S32x64) (pV x10 x11 (mat (hc (inpOf x0 x1 x2 x3 x4 x5 x6 x7 x8 x9 x10 x11 key val) 12).1)))) shapeCasts_S32x64_S32x64 (ix2 r d) = _
  rw [shapeCast_self]
  rw [step_p x0 x1 x2 x3 x4 x5 x6 x7 x8 x9 x10 x11 key val 11]
  exact step_q x0 x1 x2 x3 x4 x5 x6 x7 x8 x9 x10 x11 key val 11 (by decide) _ (fun r d => (congrFun (shapeCast_self (s := S32x64) _ _) _).trans (load_rows harg1 x1 352 _ r d (by omega))) r d

theorem q12_eq (r : Fin 32) (d : Fin 64) : (k0_pay98 (run.sl.r_40 c arg0 harg0 arg2 harg2 arg3 harg3 arg4 harg4 arg5 harg5 arg6 harg6 arg7 harg7 arg8 harg8 arg9 harg9 arg10 harg10 arg11 harg11 x0 x2 x3 x4 x5 x6 x7 x8 x9 x10 x11) (View.readAt (Elt Ideal) arg1.view (Rect.unit (s := S640x64) ![384, 0] S32x64.size inb_S640x64_S32x64_384_0).toLoadRect (harg1.unread x1)) : Arr S32x64) (ix2 r d) = query (inpOf x0 x1 x2 x3 x4 x5 x6 x7 x8 x9 x10 x11 key val) 12 r d := by
  simp only [r_40_eq (x1 := x1) (x10 := x10) (x11 := x11) (key := key) (val := val)]
  show shapeCast S32x64 (qV (subf (shapeCast S32x64 (View.readAt (Elt Ideal) arg1.view (Rect.unit (s := S640x64) ![384, 0] S32x64.size inb_S640x64_S32x64_384_0).toLoadRect (harg1.unread x1)) shapeCasts_S32x64_S32x64) (mat (pred (inpOf x0 x1 x2 x3 x4 x5 x6 x7 x8 x9 x10 x11 key val) 12)))) shapeCasts_S32x64_S32x64 (ix2 r d) = _
  rw [shapeCast_self]
  exact step_q x0 x1 x2 x3 x4 x5 x6 x7 x8 x9 x10 x11 key val 12 (by decide) _ (fun r d => (congrFun (shapeCast_self (s := S32x64) _ _) _).trans (load_rows harg1 x1 384 _ r d (by omega))) r d

theorem q13_eq (r : Fin 32) (d : Fin 64) : (k0_pay107 (run.sl.r_43 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (run.sl.r_44 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) k0_pay106 : Arr S32x64) (ix2 r d) = query (inpOf x0 x1 x2 x3 x4 x5 x6 x7 x8 x9 x10 x11 key val) 13 r d := by
  unfold run.sl.r_43 run.sl.r_44
  simp only [r_1_eq, r_2_eq, r_3_eq, r_4_eq, r_38_eq (x1 := x1) (x10 := x10) (x11 := x11) (key := key) (val := val), r_39_eq (x1 := x1) (x10 := x10) (x11 := x11) (key := key) (val := val)]
  show shapeCast S32x64 (qV (subf (shapeCast S32x64 (View.readAt (Elt Ideal) arg1.view (Rect.unit (s := S640x64) ![416, 0] S32x64.size inb_S640x64_S32x64_416_0).toLoadRect (harg1.unread x1)) shapeCasts_S32x64_S32x64) (pV x10 x11 (hV (gV ![416, 0] slices_S640x512_o416_0_S32x512 (k0_pay7 x0 x4 x5 x6 x8 x9) x7 (mat (hc (inpOf x0 x1 x2 x3 x4 x5 x6 x7 x8 x9 x10 x11 key val) 13).1)) (cV (gV ![416, 0] slices_S640x512_o416_0_S32x512 (k0_pay7 x0 x4 x5 x6 x8 x9) x7 (mat (hc (inpOf x0 x1 x2 x3 x4 x5 x6 x7 x8 x9 x10 x11 key val) 13).1)) (mat (hc (inpOf x0 x1 x2 x3 x4 x5 x6 x7 x8 x9 x10 x11 key val) 13).2)))))) shapeCasts_S32x64_S32x64 (ix2 r d) = _
  rw [shapeCast_self]
  rw [step_c x0 x1 x2 x3 x4 x5 x6 x7 x8 x9 x10 x11 key val 13 (by decide) ![416, 0] slices_S640x512_o416_0_S32x512 rfl, step_h x0 x1 x2 x3 x4 x5 x6 x7 x8 x9 x10 x11 key val 13 (by decide) ![416, 0] slices_S640x512_o416_0_S32x512 rfl, step_p x0 x1 x2 x3 x4 x5 x6 x7 x8 x9 x10 x11 key val 13]
  exact step_q x0 x1 x2 x3 x4 x5 x6 x7 x8 x9 x10 x11 key val 13 (by decide) _ (fun r d => (congrFun (shapeCast_self (s := S32x64) _ _) _).trans (load_rows harg1 x1 416 _ r d (by omega))) r d

theorem q14_eq (r : Fin 32) (d : Fin 64) : (k0_pay113 (run.sl.r_1 c arg0 harg0 arg4 harg4 arg5 harg5 arg6 harg6 arg8 harg8 arg9 harg9 x0 x4 x5 x6 x8 x9) (run.sl.r_2 c arg7 harg7 x7) (run.sl.r_3 c arg10 harg10 x10) (run.sl.r_4 c arg11 harg11 x11) (run.sl.r_41 c arg0 harg0 arg2 harg2 arg3 harg3 arg4 harg4 arg5 harg5 arg6 harg6 arg7 harg7 arg8 harg8 arg9 harg9 x0 x2 x3 x4 x5 x6 x7 x8 x9) (run.sl.r_42 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![448, 0] S32x64.size inb_S640x64_S32x64_448_0).toLoadRect (harg1.unread x1)) : Arr S32x64) (ix2 r d) = query (inpOf x0 x1 x2 x3 x4 x5 x6 x7 x8 x9 x10 x11 key val) 14 r d := by
  simp only [r_1_eq, r_2_eq, r_3_eq, r_4_eq, r_41_eq (x1 := x1) (x10 := x10) (x11 := x11) (key := key) (val := val), r_42_eq (x1 := x1) (x10 := x10) (x11 := x11) (key := key) (val := val)]
  show shapeCast S32x64 (qV (subf (shapeCast S32x64 (View.readAt (Elt Ideal) arg1.view (Rect.unit (s := S640x64) ![448, 0] S32x64.size inb_S640x64_S32x64_448_0).toLoadRect (harg1.unread x1)) shapeCasts_S32x64_S32x64) (pV x10 x11 (hV (gV ![448, 0] slices_S640x512_o448_0_S32x512 (k0_pay7 x0 x4 x5 x6 x8 x9) x7 (mat (hc (inpOf x0 x1 x2 x3 x4 x5 x6 x7 x8 x9 x10 x11 key val) 14).1)) (cV (gV ![448, 0] slices_S640x512_o448_0_S32x512 (k0_pay7 x0 x4 x5 x6 x8 x9) x7 (mat (hc (inpOf x0 x1 x2 x3 x4 x5 x6 x7 x8 x9 x10 x11 key val) 14).1)) (mat (hc (inpOf x0 x1 x2 x3 x4 x5 x6 x7 x8 x9 x10 x11 key val) 14).2)))))) shapeCasts_S32x64_S32x64 (ix2 r d) = _
  rw [shapeCast_self]
  rw [step_c x0 x1 x2 x3 x4 x5 x6 x7 x8 x9 x10 x11 key val 14 (by decide) ![448, 0] slices_S640x512_o448_0_S32x512 rfl, step_h x0 x1 x2 x3 x4 x5 x6 x7 x8 x9 x10 x11 key val 14 (by decide) ![448, 0] slices_S640x512_o448_0_S32x512 rfl, step_p x0 x1 x2 x3 x4 x5 x6 x7 x8 x9 x10 x11 key val 14]
  exact step_q x0 x1 x2 x3 x4 x5 x6 x7 x8 x9 x10 x11 key val 14 (by decide) _ (fun r d => (congrFun (shapeCast_self (s := S32x64) _ _) _).trans (load_rows harg1 x1 448 _ r d (by omega))) r d

theorem q15_eq (r : Fin 32) (d : Fin 64) : (k0_pay120 (run.sl.r_2 c arg7 harg7 x7) (run.sl.r_3 c arg10 harg10 x10) (run.sl.r_4 c arg11 harg11 x11) (run.sl.r_45 c arg0 harg0 arg2 harg2 arg3 harg3 arg4 harg4 arg5 harg5 arg6 harg6 arg7 harg7 arg8 harg8 arg9 harg9 x0 x2 x3 x4 x5 x6 x7 x8 x9) (run.sl.r_46 c arg0 harg0 arg2 harg2 arg3 harg3 arg4 harg4 arg5 harg5 arg6 harg6 arg7 harg7 arg8 harg8 arg9 harg9 x0 x2 x3 x4 x5 x6 x7 x8 x9) (run.sl.r_47 c arg0 harg0 arg4 harg4 arg5 harg5 arg6 harg6 arg8 harg8 arg9 harg9 x0 x4 x5 x6 x8 x9) run.sl.cst_208 (View.readAt (Elt Ideal) arg1.view (Rect.unit (s := S640x64) ![480, 0] S32x64.size inb_S640x64_S32x64_480_0).toLoadRect (harg1.unread x1)) : Arr S32x64) (ix2 r d) = query (inpOf x0 x1 x2 x3 x4 x5 x6 x7 x8 x9 x10 x11 key val) 15 r d := by
  unfold run.sl.r_47 run.sl.cst_208
  simp only [r_2_eq, r_3_eq, r_4_eq, r_45_eq (x1 := x1) (x10 := x10) (x11 := x11) (key := key) (val := val), r_46_eq (x1 := x1) (x10 := x10) (x11 := x11) (key := key) (val := val), r_1_eq]
  show shapeCast S32x64 (qV (subf (shapeCast S32x64 (View.readAt (Elt Ideal) arg1.view (Rect.unit (s := S640x64) ![480, 0] S32x64.size inb_S640x64_S32x64_480_0).toLoadRect (harg1.unread x1)) shapeCasts_S32x64_S32x64) (pV x10 x11 (hV (gV ![480, 0] slices_S640x512_o480_0_S32x512 (k0_pay7 x0 x4 x5 x6 x8 x9) x7 (mat (hc (inpOf x0 x1 x2 x3 x4 x5 x6 x7 x8 x9 x10 x11 key val) 15).1)) (cV (gV ![480, 0] slices_S640x512_o480_0_S32x512 (k0_pay7 x0 x4 x5 x6 x8 x9) x7 (mat (hc (inpOf x0 x1 x2 x3 x4 x5 x6 x7 x8 x9 x10 x11 key val) 15).1)) (mat (hc (inpOf x0 x1 x2 x3 x4 x5 x6 x7 x8 x9 x10 x11 key val) 15).2)))))) shapeCasts_S32x64_S32x64 (ix2 r d) = _
  rw [shapeCast_self]
  rw [step_c x0 x1 x2 x3 x4 x5 x6 x7 x8 x9 x10 x11 key val 15 (by decide) ![480, 0] slices_S640x512_o480_0_S32x512 rfl, step_h x0 x1 x2 x3 x4 x5 x6 x7 x8 x9 x10 x11 key val 15 (by decide) ![480, 0] slices_S640x512_o480_0_S32x512 rfl, step_p x0 x1 x2 x3 x4 x5 x6 x7 x8 x9 x10 x11 key val 15]
  exact step_q x0 x1 x2 x3 x4 x5 x6 x7 x8 x9 x10 x11 key val 15 (by decide) _ (fun r d => (congrFun (shapeCast_self (s := S32x64) _ _) _).trans (load_rows harg1 x1 480 _ r d (by omega))) r d

theorem q16_eq (r : Fin 32) (d : Fin 64) : (k0_pay130 (run.sl.r_3 c arg10 harg10 x10) (run.sl.r_4 c arg11 harg11 x11) (run.sl.r_48 c arg0 harg0 arg2 harg2 arg3 harg3 arg4 harg4 arg5 harg5 arg6 harg6 arg7 harg7 arg8 harg8 arg9 harg9 x0 x2 x3 x4 x5 x6 x7 x8 x9) (run.sl.r_49 c arg0 harg0 arg2 harg2 arg3 harg3 arg4 harg4 arg5 harg5 arg6 harg6 arg7 harg7 arg8 harg8 arg9 harg9 x0 x2 x3 x4 x5 x6 x7 x8 x9) (run.sl.r_50 c arg0 harg0 arg2 harg2 arg3 harg3 arg4 harg4 arg5 harg5 arg6 harg6 arg7 harg7 arg8 harg8 arg9 harg9 x0 x2 x3 x4 x5 x6 x7 x8 x9) (run.sl.r_51 c arg0 harg0 arg2 harg2 arg3 harg3 arg4 harg4 arg5 harg5 arg6 harg6 arg7 harg7 arg8 harg8 arg9 harg9 x0 x2 x3 x4 x5 x6 x7 x8 x9) (View.readAt (Elt Ideal) arg1.view (Rect.unit (s := S640x64) ![512, 0] S32x64.size inb_S640x64_S32x64_512_0).toLoadRect (harg1.unread x1)) : Arr S32x64) (ix2 r d) = query (inpOf x0 x1 x2 x3 x4 x5 x6 x7 x8 x9 x10 x11 key val) 16 r d := by
  simp only [r_3_eq, r_4_eq, r_48_eq (x1 := x1) (x10 := x10) (x11 := x11) (key := key) (val := val), r_49_eq (x1 := x1) (x10 := x10) (x11 := x11) (key := key) (val := val), r_50_eq (x1 := x1) (x10 := x10) (x11 := x11) (key := key) (val := val), r_51_eq (x1 := x1) (x10 := x10) (x11 := x11) (key := key) (val := val)]
  show shapeCast S32x64 (qV (subf (shapeCast S32x64 (View.readAt (Elt Ideal) arg1.view (Rect.unit (s := S640x64) ![512, 0] S32x64.size inb_S640x64_S32x64_512_0).toLoadRect (harg1.unread x1)) shapeCasts_S32x64_S32x64) (pV x10 x11 (hV (gV ![512, 0] slices_S640x512_o512_0_S32x512 (k0_pay7 x0 x4 x5 x6 x8 x9) x7 (mat (hc (inpOf x0 x1 x2 x3 x4 x5 x6 x7 x8 x9 x10 x11 key val) 16).1)) (cV (gV ![512, 0] slices_S640x512_o512_0_S32x512 (k0_pay7 x0 x4 x5 x6 x8 x9) x7 (mat (hc (inpOf x0 x1 x2 x3 x4 x5 x6 x7 x8 x9 x10 x11 key val) 16).1)) (mat (hc (inpOf x0 x1 x2 x3 x4 x5 x6 x7 x8 x9 x10 x11 key val) 16).2)))))) shapeCasts_S32x64_S32x64 (ix2 r d) = _
  rw [shapeCast_self]
  rw [step_c x0 x1 x2 x3 x4 x5 x6 x7 x8 x9 x10 x11 key val 16 (by decide) ![512, 0] slices_S640x512_o512_0_S32x512 rfl, step_h x0 x1 x2 x3 x4 x5 x6 x7 x8 x9 x10 x11 key val 16 (by decide) ![512, 0] slices_S640x512_o512_0_S32x512 rfl, step_p x0 x1 x2 x3 x4 x5 x6 x7 x8 x9 x10 x11 key val 16]
  exact step_q x0 x1 x2 x3 x4 x5 x6 x7 x8 x9 x10 x11 key val 16 (by decide) _ (fun r d => (congrFun (shapeCast_self (s := S32x64) _ _) _).trans (load_rows harg1 x1 512 _ r d (by omega))) r d

theorem q17_eq (r : Fin 32) (d : Fin 64) : (k0_pay136 (run.sl.r_54 c arg0 harg0 arg2 harg2 arg3 harg3 arg4 harg4 arg5 harg5 arg6 harg6 arg7 harg7 arg8 harg8 arg9 harg9 arg10 harg10 arg11 harg11 x0 x2 x3 x4 x5 x6 x7 x8 x9 x10 x11) (View.readAt (Elt Ideal) arg1.view (Rect.unit (s := S640x64) ![544, 0] S32x64.size inb_S640x64_S32x64_544_0).toLoadRect (harg1.unread x1)) : Arr S32x64) (ix2 r d) = query (inpOf x0 x1 x2 x3 x4 x5 x6 x7 x8 x9 x10 x11 key val) 17 r d := by
  simp only [r_54_eq (x1 := x1) (x10 := x10) (x11 := x11) (key := key) (val := val)]
  show shapeCast S32x64 (qV (subf (shapeCast S32x64 (View.readAt (Elt Ideal) arg1.view (Rect.unit (s := S640x64) ![544, 0] S32x64.size inb_S640x64_S32x64_544_0).toLoadRect (harg1.unread x1)) shapeCasts_S32x64_S32x64) (mat (pred (inpOf x0 x1 x2 x3 x4 x5 x6 x7 x8 x9 x10 x11 key val) 17)))) shapeCasts_S32x64_S32x64 (ix2 r d) = _
  rw [shapeCast_self]
  exact step_q x0 x1 x2 x3 x4 x5 x6 x7 x8 x9 x10 x11 key val 17 (by decide) _ (fun r d => (congrFun (shapeCast_self (s := S32x64) _ _) _).trans (load_rows harg1 x1 544 _ r d (by omega))) r d

theorem q18_eq (r : Fin 32) (d : Fin 64) : (k0_pay144 (run.sl.r_57 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (run.sl.r_58 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) : Arr S32x64) (ix2 r d) = query (inpOf x0 x1 x2 x3 x4 x5 x6 x7 x8 x9 x10 x11 key val) 18 r d := by
  unfold run.sl.r_57 run.sl.r_58
  simp only [r_1_eq, r_2_eq, r_3_eq, r_4_eq, r_52_eq (x1 := x1) (x10 := x10) (x11 := x11) (key := key) (val := val), r_53_eq (x1 := x1) (x10 := x10) (x11 := x11) (key := key) (val := val)]
  show shapeCast S32x64 (qV (subf (shapeCast S32x64 (View.readAt (Elt Ideal) arg1.view (Rect.unit (s := S640x64) ![576, 0] S32x64.size inb_S640x64_S32x64_576_0).toLoadRect (harg1.unread x1)) shapeCasts_S32x64_S32x64) (pV x10 x11 (hV (gV ![576, 0] slices_S640x512_o576_0_S32x512 (k0_pay7 x0 x4 x5 x6 x8 x9) x7 (mat (hc (inpOf x0 x1 x2 x3 x4 x5 x6 x7 x8 x9 x10 x11 key val) 18).1)) (cV (gV ![576, 0] slices_S640x512_o576_0_S32x512 (k0_pay7 x0 x4 x5 x6 x8 x9) x7 (mat (hc (inpOf x0 x1 x2 x3 x4 x5 x6 x7 x8 x9 x10 x11 key val) 18).1)) (mat (hc (inpOf x0 x1 x2 x3 x4 x5 x6 x7 x8 x9 x10 x11 key val) 18).2)))))) shapeCasts_S32x64_S32x64 (ix2 r d) = _
  rw [shapeCast_self]
  rw [step_c x0 x1 x2 x3 x4 x5 x6 x7 x8 x9 x10 x11 key val 18 (by decide) ![576, 0] slices_S640x512_o576_0_S32x512 rfl, step_h x0 x1 x2 x3 x4 x5 x6 x7 x8 x9 x10 x11 key val 18 (by decide) ![576, 0] slices_S640x512_o576_0_S32x512 rfl, step_p x0 x1 x2 x3 x4 x5 x6 x7 x8 x9 x10 x11 key val 18]
  exact step_q x0 x1 x2 x3 x4 x5 x6 x7 x8 x9 x10 x11 key val 18 (by decide) _ (fun r d => (congrFun (shapeCast_self (s := S32x64) _ _) _).trans (load_rows harg1 x1 576 _ r d (by omega))) r d

theorem HS1_2_rows : Rows (run.sl.HS1_2 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 2 := by
  unfold run.sl.HS1_2
  exact (rows_cons 32 rfl _ _ (rows_cons 0 rfl _ _ (rows_nil _) (fun r d => by rw [p0_eq (x1 := x1) (key := key) (val := val)]; rfl)) (fun r d => by rw [p1_eq (x1 := x1) (key := key) (val := val)]; rfl))

theorem HS1_3_rows : Rows (run.sl.HS1_3 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 3 := by
  unfold run.sl.HS1_3
  exact (rows_cons 64 rfl _ _ (by apply HS1_2_rows) (fun r d => by rw [p2_eq (x1 := x1) (key := key) (val := val)]; rfl))

theorem HS1_4_rows : Rows (run.sl.HS1_4 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 4 := by
  unfold run.sl.HS1_4
  exact (rows_cons 96 rfl _ _ (by apply HS1_3_rows) (fun r d => by rw [p3_eq (x1 := x1) (key := key) (val := val)]; rfl))

theorem HS1_5_rows : Rows (run.sl.HS1_5 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 5 := by
  unfold run.sl.HS1_5
  exact (rows_cons 128 rfl _ _ (by apply HS1_4_rows) (fun r d => by rw [p4_eq (x1 := x1) (key := key) (val := val)]; rfl))

theorem HS1_6_rows : Rows (run.sl.HS1_6 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 6 := by
  unfold run.sl.HS1_6
  exact (rows_cons 160 rfl _ _ (by apply HS1_5_rows) (fun r d => by rw [p5_eq (x1 := x1) (key := key) (val := val)]; rfl))

theorem HS1_8_rows : Rows (run.sl.HS1_8 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 8 := by
  unfold run.sl.HS1_8
  exact (rows_cons 224 rfl _ _ (rows_cons 192 rfl _ _ (by apply HS1_6_rows) (fun r d => by rw [p6_eq (x1 := x1) (key := key) (val := val)]; rfl)) (fun r d => by rw [p7_eq (x1 := x1) (key := key) (val := val)]; rfl))

theorem HS1_9_rows : Rows (run.sl.HS1_9 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 9 := by
  unfold run.sl.HS1_9
  exact (rows_cons 256 rfl _ _ (by apply HS1_8_rows) (fun r d => by rw [p8_eq (x1 := x1) (key := key) (val := val)]; rfl))

theorem HS1_10_rows : Rows (run.sl.HS1_10 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 10 := by
  unfold run.sl.HS1_10
  exact (rows_cons 288 rfl _ _ (by apply HS1_9_rows) (fun r d => by rw [p9_eq (x1 := x1) (key := key) (val := val)]; rfl))

theorem HS1_11_rows : Rows (run.sl.HS1_11 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 11 := by
  unfold run.sl.HS1_11
  exact (rows_cons 320 rfl _ _ (by apply HS1_10_rows) (fun r d => by rw [p10_eq (x1 := x1) (key := key) (val := val)]; rfl))

theorem HS1_13_rows : Rows (run.sl.HS1_13 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 13 := by
  unfold run.sl.HS1_13
  exact (rows_cons 384 rfl _ _ (rows_cons 352 rfl _ _ (by apply HS1_11_rows) (fun r d => by rw [p11_eq (x1 := x1) (key := key) (val := val)]; rfl)) (fun r d => by rw [p12_eq (x1 := x1) (key := key) (val := val)]; rfl))

theorem HS1_14_rows : Rows (run.sl.HS1_14 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 14 := by
  unfold run.sl.HS1_14
  exact (rows_cons 416 rfl _ _ (by apply HS1_13_rows) (fun r d => by rw [p13_eq (x1 := x1) (key := key) (val := val)]; rfl))

theorem HS1_15_rows : Rows (run.sl.HS1_15 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 15 := by
  unfold run.sl.HS1_15
  exact (rows_cons 448 rfl _ _ (by apply HS1_14_rows) (fun r d => by rw [p14_eq (x1 := x1) (key := key) (val := val)]; rfl))

theorem HS1_16_rows : Rows (run.sl.HS1_16 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 16 := by
  unfold run.sl.HS1_16
  exact (rows_cons 480 rfl _ _ (by apply HS1_15_rows) (fun r d => by rw [p15_eq (x1 := x1) (key := key) (val := val)]; rfl))

theorem HS1_17_rows : Rows (run.sl.HS1_17 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 17 := by
  unfold run.sl.HS1_17
  exact (rows_cons 512 rfl _ _ (by apply HS1_16_rows) (fun r d => by rw [p16_eq (x1 := x1) (key := key) (val := val)]; rfl))

theorem HS1_19_rows : Rows (run.sl.HS1_19 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 19 := by
  unfold run.sl.HS1_19
  exact (rows_cons 576 rfl _ _ (rows_cons 544 rfl _ _ (by apply HS1_17_rows) (fun r d => by rw [p17_eq (x1 := x1) (key := key) (val := val)]; rfl)) (fun r d => by rw [p18_eq (x1 := x1) (key := key) (val := val)]; rfl))

theorem HS1_20_rows : Rows (run.sl.HS1_20 (F := Ideal) c arg0 harg0 arg2 harg2 arg3 harg3 arg4 harg4 arg5 harg5 arg6 harg6 arg7 harg7 arg8 harg8 arg9 harg9 arg10 harg10 arg11 harg11 x0 x2 x3 x4 x5 x6 x7 x8 x9 x10 x11) (pred (inpOf x0 x1 x2 x3 x4 x5 x6 x7 x8 x9 x10 x11 key val)) 20 := by
  unfold run.sl.HS1_20
  exact (rows_cons 608 rfl _ _ (by apply HS1_19_rows) (fun r d => by rw [p19_eq (x1 := x1) (key := key) (val := val)]; rfl))

theorem HS0_1_rows : Rows (run.sl.HS0_1 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 1 := by
  unfold run.sl.HS0_1
  exact (rows_cons 0 rfl _ _ (rows_nil _) (fun r d => q0_eq (key := key) (val := val) ..))

theorem HS0_2_rows : Rows (run.sl.HS0_2 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 2 := by
  unfold run.sl.HS0_2
  exact (rows_cons 32 rfl _ _ (by apply HS0_1_rows) (fun r d => q1_eq (key := key) (val := val) ..))

theorem HS0_4_rows : Rows (run.sl.HS0_4 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 4 := by
  unfold run.sl.HS0_4
  exact (rows_cons 96 rfl _ _ (rows_cons 64 rfl _ _ (by apply HS0_2_rows) (fun r d => q2_eq (key := key) (val := val) ..)) (fun r d => q3_eq (key := key) (val := val) ..))

theorem HS0_5_rows : Rows (run.sl.HS0_5 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 5 := by
  unfold run.sl.HS0_5
  exact (rows_cons 128 rfl _ _ (by apply HS0_4_rows) (fun r d => q4_eq (key := key) (val := val) ..))

theorem HS0_6_rows : Rows (run.sl.HS0_6 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 6 := by
  unfold run.sl.HS0_6
  exact (rows_cons 160 rfl _ _ (by apply HS0_5_rows) (fun r d => q5_eq (key := key) (val := val) ..))

theorem HS0_7_rows : Rows (run.sl.HS0_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 7 := by
  unfold run.sl.HS0_7
  exact (rows_cons 192 rfl _ _ (by apply HS0_6_rows) (fun r d => q6_eq (key := key) (val := val) ..))

theorem HS0_8_rows : Rows (run.sl.HS0_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 8 := by
  unfold run.sl.HS0_8
  exact (rows_cons 224 rfl _ _ (by apply HS0_7_rows) (fun r d => q7_eq (key := key) (val := val) ..))

theorem HS0_10_rows : Rows (run.sl.HS0_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 10 := by
  unfold run.sl.HS0_10
  exact (rows_cons 288 rfl _ _ (rows_cons 256 rfl _ _ (by apply HS0_8_rows) (fun r d => q8_eq (key := key) (val := val) ..)) (fun r d => q9_eq (key := key) (val := val) ..))

theorem HS0_11_rows : Rows (run.sl.HS0_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 11 := by
  unfold run.sl.HS0_11
  exact (rows_cons 320 rfl _ _ (by apply HS0_10_rows) (fun r d => q10_eq (key := key) (val := val) ..))

theorem HS0_12_rows : Rows (run.sl.HS0_12 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 12 := by
  unfold run.sl.HS0_12
  exact (rows_cons 352 rfl _ _ (by apply HS0_11_rows) (fun r d => q11_eq (key := key) (val := val) ..))

theorem HS0_13_rows : Rows (run.sl.HS0_13 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 13 := by
  unfold run.sl.HS0_13
  exact (rows_cons 384 rfl _ _ (by apply HS0_12_rows) (fun r d => q12_eq (key := key) (val := val) ..))

theorem HS0_15_rows : Rows (run.sl.HS0_15 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 15 := by
  unfold run.sl.HS0_15
  exact (rows_cons 448 rfl _ _ (rows_cons 416 rfl _ _ (by apply HS0_13_rows) (fun r d => q13_eq (key := key) (val := val) ..)) (fun r d => q14_eq (key := key) (val := val) ..))

theorem HS0_16_rows : Rows (run.sl.HS0_16 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 16 := by
  unfold run.sl.HS0_16
  exact (rows_cons 480 rfl _ _ (by apply HS0_15_rows) (fun r d => q15_eq (key := key) (val := val) ..))

theorem HS0_17_rows : Rows (run.sl.HS0_17 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 17 := by
  unfold run.sl.HS0_17
  exact (rows_cons 512 rfl _ _ (by apply HS0_16_rows) (fun r d => q16_eq (key := key) (val := val) ..))

theorem HS0_18_rows : Rows (run.sl.HS0_18 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 18 := by
  unfold run.sl.HS0_18
  exact (rows_cons 544 rfl _ _ (by apply HS0_17_rows) (fun r d => q17_eq (key := key) (val := val) ..))

theorem HS0_19_rows : Rows (run.sl.HS0_19 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (query (inpOf x0 x1 x2 x3 x4 x5 x6 x7 x8 x9 x10 x11 key val)) 19 := by
  unfold run.sl.HS0_19
  exact (rows_cons 576 rfl _ _ (by apply HS0_18_rows) (fun r d => q18_eq (key := key) (val := val) ..))

end Cert.Lstm

end
-- ==== Proof.Ring.lean ====
module

public import proofs.«01_k».proof.Proof.Cell
public import Idealize.ShloMosaic.Lib.ViewIndex
public import Idealize.ShloMosaic.Lib.ValueLayout

@[expose] public section

/-! A ring of slots in one buffer: what a slot reads after a block of a table was copied into a slot. -/

set_option maxRecDepth 16384

noncomputable section

namespace Cert.Ring

open Idealize.ShloMosaic Cert.KernelIdeal Cert.KernelIdeal.Gen Cert.Cell

variable {A B a b a' b' : ℕ} {m : Memref KernelIdeal.sig .tc .vmem ⟨3, ![4, A, B]⟩ .f32}

/-- The index of a slot's entry in the ring. -/
def at3 {A B : ℕ} (s d n : ℕ) (hs : s < 4) (hd : d < A) (hn : n < B) : (⟨3, ![4, A, B]⟩ : Shape).Idx := ix3 ⟨s, hs⟩ ⟨d, hd⟩ ⟨n, hn⟩

theorem ext2i {a b : ℕ} (x : Fin a) (y : Fin b) : (ix2 x y : (⟨2, ![a, b]⟩ : Shape).Idx) = ValueIdx.ix2 x y := by
  funext k; match k with
  | ⟨0, _⟩ => rfl
  | ⟨1, _⟩ => rfl

theorem ext3i {a b c : ℕ} (x : Fin a) (y : Fin b) (z : Fin c) : (ValueIdx.ix3 x y z : (⟨3, ![a, b, c]⟩ : Shape).Idx) = ix3 x y z := by
  funext k; match k with
  | ⟨0, _⟩ => rfl
  | ⟨1, _⟩ => rfl
  | ⟨2, _⟩ => rfl

/-- The entry a copy wrote. -/
theorem read_hit (s d n : ℕ) (hs : s < 4) (hdA : d < A) (hnB : n < B)
    (inb : ∀ k, (![s, 0, 0] : Fin 3 → ℕ) k + (⟨3, ![1, a, b]⟩ : Shape).size k ≤ (⟨3, ![4, A, B]⟩ : Shape).size k)
    (h1 : ∀ k, (Rect.unit (s := ⟨3, ![4, A, B]⟩) ![s, 0, 0] (⟨3, ![1, a, b]⟩ : Shape).size inb).stride k = 1)
    (hq : (Rect.unit (s := ⟨3, ![4, A, B]⟩) ![s, 0, 0] (⟨3, ![1, a, b]⟩ : Shape).size inb).shape.Squeezes ⟨2, ![a, b]⟩)
    (f : m.view.ty.Contents (Elt Ideal)) (w : Arr ⟨2, ![a, b]⟩) (hd : d < a) (hn : n < b) :
    m.view.read (Elt Ideal) (View.write (Elt Ideal) ((m.slice (Rect.unit ![s, 0, 0] (⟨3, ![1, a, b]⟩ : Shape).size inb) h1).squeeze ⟨2, ![a, b]⟩ hq).view f w Finset.univ)
      (at3 s d n hs hdA hnB) = w (ix2 ⟨d, hd⟩ ⟨n, hn⟩) := by
  have hr : Shape.reshapeEquiv hq.numel_eq (ix2 ⟨d, hd⟩ ⟨n, hn⟩) = (ix3 (0 : Fin 1) ⟨d, hd⟩ ⟨n, hn⟩ : (⟨3, ![1, a, b]⟩ : Shape).Idx) :=
    (congrArg _ (ext2i _ _)).trans ((ValueIdx.reshapeEquiv_ix2_1ab hq.numel_eq ⟨d, hd⟩ ⟨n, hn⟩).trans (ext3i _ _ _))
  have he : at3 s d n hs hdA hnB = (Rect.unit (s := ⟨3, ![4, A, B]⟩) ![s, 0, 0] (⟨3, ![1, a, b]⟩ : Shape).size inb).emb (ix3 (0 : Fin 1) ⟨d, hd⟩ ⟨n, hn⟩) :=
    funext fun k => Fin.ext (by
      match k with
      | ⟨0, _⟩ => show s = s + 1 * 0; omega
      | ⟨1, _⟩ => show d = 0 + 1 * d; omega
      | ⟨2, _⟩ => show n = 0 + 1 * n; omega)
  rw [he, ← hr]
  exact View.read_write_reshape (m.view.slice (Rect.unit (s := ⟨3, ![4, A, B]⟩) ![s, 0, 0] (⟨3, ![1, a, b]⟩ : Shape).size inb)) hq.numel_eq f w (ix2 ⟨d, hd⟩ ⟨n, hn⟩)

/-- An entry a copy left alone. -/
theorem read_miss (s' s d n : ℕ) (hs : s < 4) (hdA : d < A) (hnB : n < B)
    (inb : ∀ k, (![s', 0, 0] : Fin 3 → ℕ) k + (⟨3, ![1, a, b]⟩ : Shape).size k ≤ (⟨3, ![4, A, B]⟩ : Shape).size k)
    (h1 : ∀ k, (Rect.unit (s := ⟨3, ![4, A, B]⟩) ![s', 0, 0] (⟨3, ![1, a, b]⟩ : Shape).size inb).stride k = 1)
    (hq : (Rect.unit (s := ⟨3, ![4, A, B]⟩) ![s', 0, 0] (⟨3, ![1, a, b]⟩ : Shape).size inb).shape.Squeezes ⟨2, ![a, b]⟩)
    (f : m.view.ty.Contents (Elt Ideal)) (w : Arr ⟨2, ![a, b]⟩) (h : s ≠ s' ∨ a ≤ d ∨ b ≤ n) :
    m.view.read (Elt Ideal) (View.write (Elt Ideal) ((m.slice (Rect.unit ![s', 0, 0] (⟨3, ![1, a, b]⟩ : Shape).size inb) h1).squeeze ⟨2, ![a, b]⟩ hq).view f w Finset.univ)
      (at3 s d n hs hdA hnB) = m.view.read (Elt Ideal) f (at3 s d n hs hdA hnB) := by
  rw [View.read_apply, View.read_apply, View.write_of_not_mem]
  intro hm
  obtain ⟨x, -, hx⟩ := Finset.mem_map.mp hm
  have hx' : (Rect.unit (s := ⟨3, ![4, A, B]⟩) ![s', 0, 0] (⟨3, ![1, a, b]⟩ : Shape).size inb).emb (Shape.reshapeEquiv hq.numel_eq x) = at3 s d n hs hdA hnB :=
    m.view.emb.injective hx
  set z := Shape.reshapeEquiv hq.numel_eq x
  have e0 : s' + 1 * (z 0).val = s := congrArg (fun y : (⟨3, ![4, A, B]⟩ : Shape).Idx => (y 0).val) hx'
  have e1 : 0 + 1 * (z 1).val = d := congrArg (fun y : (⟨3, ![4, A, B]⟩ : Shape).Idx => (y 1).val) hx'
  have e2 : 0 + 1 * (z 2).val = n := congrArg (fun y : (⟨3, ![4, A, B]⟩ : Shape).Idx => (y 2).val) hx'
  have l0 : (z 0).val < 1 := (z 0).isLt
  have l1 : (z 1).val < a := (z 1).isLt
  have l2 : (z 2).val < b := (z 2).isLt
  omega

/-- What a load of a slot reads at an entry. -/
theorem load_slot (s : ℕ) (hs : s < 4) (hA : a ≤ A) (hB : b ≤ B)
    (inb : ∀ k, (![s, 0, 0] : Fin 3 → ℕ) k + (⟨3, ![1, a, b]⟩ : Shape).size k ≤ (⟨3, ![4, A, B]⟩ : Shape).size k)
    (f : m.view.ty.Contents (Elt Ideal)) (d : Fin a) (n : Fin b) :
    View.readAt (Elt Ideal) m.view (Rect.unit (s := ⟨3, ![4, A, B]⟩) ![s, 0, 0] (⟨3, ![1, a, b]⟩ : Shape).size inb).toLoadRect f (ix3 (0 : Fin 1) d n)
      = m.view.read (Elt Ideal) f (at3 s d.val n.val hs (by omega) (by omega)) := by
  refine congrArg (m.view.read (Elt Ideal) f) (funext fun k => Fin.ext ?_)
  match k with
  | ⟨0, _⟩ => show s + 1 * 0 = s; omega
  | ⟨1, _⟩ => show 0 + 1 * d.val = d.val; omega
  | ⟨2, _⟩ => show 0 + 1 * n.val = n.val; omega

/-- An entry one written piece holds. -/
theorem piece_hit (s o p d n : ℕ) (hs : s < 4) (hdA : d < A) (hnB : n < B)
    (inb : ∀ k, (![s, o, p] : Fin 3 → ℕ) k + (⟨3, ![1, a, b]⟩ : Shape).size k ≤ (⟨3, ![4, A, B]⟩ : Shape).size k)
    (f : m.view.ty.Contents (Elt Ideal)) (w : Arr ⟨3, ![1, a, b]⟩) (L : List (View.Piece (Elt Ideal) ⟨3, ![4, A, B]⟩ .f32))
    (hd : d - o < a) (hn : n - p < b) (ho : o ≤ d) (hp : p ≤ n) :
    m.view.read (Elt Ideal) (m.view.writes (Elt Ideal) f (⟨Rect.unit (s := ⟨3, ![4, A, B]⟩) ![s, o, p] (⟨3, ![1, a, b]⟩ : Shape).size inb, w⟩ :: L))
      (at3 s d n hs hdA hnB) = w (ix3 0 ⟨d - o, hd⟩ ⟨n - p, hn⟩) := by
  have he : at3 s d n hs hdA hnB = (Rect.unit (s := ⟨3, ![4, A, B]⟩) ![s, o, p] (⟨3, ![1, a, b]⟩ : Shape).size inb).emb (ix3 (0 : Fin 1) ⟨d - o, hd⟩ ⟨n - p, hn⟩) :=
    funext fun k => Fin.ext (by
      match k with
      | ⟨0, _⟩ => show s = s + 1 * 0; omega
      | ⟨1, _⟩ => show d = o + 1 * (d - o); omega
      | ⟨2, _⟩ => show n = p + 1 * (n - p); omega)
  rw [he]
  exact View.read_slice_write_emb (Val := Elt Ideal) (v := m.view) (Rect.unit (s := ⟨3, ![4, A, B]⟩) ![s, o, p] (⟨3, ![1, a, b]⟩ : Shape).size inb) _ w (Finset.mem_univ _)

/-- An entry outside one written piece. -/
theorem piece_miss (s' o p s d n : ℕ) (hs : s < 4) (hdA : d < A) (hnB : n < B)
    (inb : ∀ k, (![s', o, p] : Fin 3 → ℕ) k + (⟨3, ![1, a, b]⟩ : Shape).size k ≤ (⟨3, ![4, A, B]⟩ : Shape).size k)
    (f : m.view.ty.Contents (Elt Ideal)) (w : Arr ⟨3, ![1, a, b]⟩) (L : List (View.Piece (Elt Ideal) ⟨3, ![4, A, B]⟩ .f32))
    (h : s ≠ s' ∨ d < o ∨ o + a ≤ d ∨ n < p ∨ p + b ≤ n) :
    m.view.read (Elt Ideal) (m.view.writes (Elt Ideal) f (⟨Rect.unit (s := ⟨3, ![4, A, B]⟩) ![s', o, p] (⟨3, ![1, a, b]⟩ : Shape).size inb, w⟩ :: L))
      (at3 s d n hs hdA hnB) = m.view.read (Elt Ideal) (m.view.writes (Elt Ideal) f L) (at3 s d n hs hdA hnB) := by
  refine View.read_slice_write_of_not_mem (Val := Elt Ideal) (v := m.view) (Rect.unit (s := ⟨3, ![4, A, B]⟩) ![s', o, p] (⟨3, ![1, a, b]⟩ : Shape).size inb) _ w Finset.univ fun hm => ?_
  obtain ⟨z, -, hx'⟩ := Finset.mem_map.mp hm
  have e0 : s' + 1 * (z 0).val = s := congrArg (fun y : (⟨3, ![4, A, B]⟩ : Shape).Idx => (y 0).val) hx'
  have e1 : o + 1 * (z 1).val = d := congrArg (fun y : (⟨3, ![4, A, B]⟩ : Shape).Idx => (y 1).val) hx'
  have e2 : p + 1 * (z 2).val = n := congrArg (fun y : (⟨3, ![4, A, B]⟩ : Shape).Idx => (y 2).val) hx'
  have l0 : (z 0).val < 1 := (z 0).isLt
  have l1 : (z 1).val < a := (z 1).isLt
  have l2 : (z 2).val < b := (z 2).isLt
  omega

/-- A block of a table: what a copy out of it reads. -/
theorem block_read {κ : Kind} {sp : Space} {M N c o : ℕ} {t : Memref KernelIdeal.sig κ sp ⟨2, ![M, N]⟩ .f32} (hMc : c ≤ N)
    (inb : ∀ k, (![0, o] : Fin 2 → ℕ) k + (⟨2, ![M, c]⟩ : Shape).size k ≤ (⟨2, ![M, N]⟩ : Shape).size k)
    (h1 : ∀ k, (Rect.unit (s := ⟨2, ![M, N]⟩) ![0, o] (⟨2, ![M, c]⟩ : Shape).size inb).stride k = 1)
    (f : t.view.ty.Contents (Elt Ideal)) (d : Fin M) (n : Fin c) (hn : o + n.val < N) :
    View.read (Elt Ideal) (t.slice (Rect.unit ![0, o] (⟨2, ![M, c]⟩ : Shape).size inb) h1).view f (ix2 d n) = t.view.read (Elt Ideal) f (ix2 d ⟨o + n.val, hn⟩) := by
  refine congrArg (t.view.read (Elt Ideal) f) (funext fun k => Fin.ext ?_)
  match k with
  | ⟨0, _⟩ => show 0 + 1 * d.val = d.val; omega
  | ⟨1, _⟩ => show o + 1 * n.val = o + n.val; omega

end Cert.Ring

end
-- ==== Proof.Chunk.lean ====
module

public import proofs.«01_k».proof.Proof.Ring

@[expose] public section

/-! One chunk of the memory read: the weights of 6400 keys, and their sums against the values and against ones. Then the
    chunks together: the sum over every key, less the keys that fill the last chunk up. -/

set_option maxRecDepth 16384

noncomputable section

namespace Cert.Chunk

open Idealize.ShloMosaic Cert.KernelIdeal Cert.KernelIdeal.Gen Cert.Cell Cert.Math Cert.Spec

theorem one_bits : Ideal.ofBits .f32 0x3F800000#32 = 1 := by
  unfold Ideal.ofBits Ideal.ieee
  norm_num [Nat.shiftRight_eq_div_pow, show ¬ BitVec.extractLsb' 31 1 1065353216#32 = 1#1 by decide]

theorem zero_bits : Ideal.ofBits .f32 0x00000000#32 = 0 := by
  unfold Ideal.ofBits Ideal.ieee
  norm_num [Nat.shiftRight_eq_div_pow]

theorem bits_96 : Ideal.ofBits .f32 0x42C00000#32 = ((96 : ℝ) : EReal) := by
  unfold Ideal.ofBits Ideal.ieee
  norm_num [Nat.shiftRight_eq_div_pow, show ¬ BitVec.extractLsb' 31 1 1119879168#32 = 1#1 by decide]

theorem log2e_named : Named.named (F := Ideal) κ "log2e" (φ := .f32) 0x3FB8AA3B#32 = log2e :=
  IdealRules.named_const.ideal_named_scalar _ _ _ _ rfl

/-- The weight of a normalized query at a key. -/
def wgt (q k : Fin 64 → EReal) : EReal := Ideal.exp2 (∑ d, q d * (k d * Ideal.div log2e (nrm k)))

/-- One chunk's contribution to a column of values. -/
def chunkSum {n : ℕ} (q : Fin 64 → EReal) (k : Fin n → Fin 64 → EReal) (v : Fin n → EReal) : EReal := ∑ x, wgt q (k x) * v x

/-- The queries, in the short format the scores are taken in. -/
abbrev QArr : Type := FVec Ideal S608x64 .fp8e4m3

/-- One chunk as vector operations. -/
def chunkV (q : QArr) (kb : Arr S1x64x6400) (vb : Arr S1x72x6400) (acc : Arr S608x72) : Arr S608x72 := k0_pay152 q k0_pay148 kb vb acc

theorem chunkV_apply (q : QArr) (kb : Arr S1x64x6400) (vb : Arr S1x72x6400) (acc : Arr S608x72) (i : Fin 608) (j : Fin 72) :
    chunkV q kb vb acc (ix2 i j) = acc (ix2 i j) + chunkSum (fun d => q (ix2 i d)) (fun n d => kb (ix3 0 d n)) (fun n => vb (ix3 0 j n)) := by
  pointwise [chunkV, k0_pay152, k0_pay148, chunkSum, wgt, nrm, eps, log2e_named, one_bits, one_mul]
  rfl

theorem last_apply (q : QArr) (kb : Arr S1x64x4096) (vb : Arr S1x72x4096) (acc : Arr S608x72) (i : Fin 608) (j : Fin 72) :
    k0_pay184 q k0_pay148 kb vb acc (ix2 i j) = acc (ix2 i j) + chunkSum (fun d => q (ix2 i d)) (fun n d => kb (ix3 0 d n)) (fun n => vb (ix3 0 j n)) := by
  pointwise [k0_pay184, k0_pay148, chunkSum, wgt, nrm, eps, log2e_named, one_bits, one_mul]
  rfl

section Forms

variable (q : QArr) (kb : Arr S1x64x6400) (vb : Arr S1x72x6400) (acc : Arr S608x72)

theorem form151 : k0_pay151 q (k0_pay149 kb) (k0_pay150 k0_pay148 kb) vb acc = chunkV q kb vb acc := shapeCast_self _ _
theorem form153 : k0_pay153 (k0_pay152 q k0_pay148 kb vb acc) = chunkV q kb vb acc := shapeCast_self _ _
theorem form156 : k0_pay156 q k0_pay148 (k0_pay154 kb) (k0_pay155 kb) vb acc = chunkV q kb vb acc := shapeCast_self _ _
theorem form159 : k0_pay159 (k0_pay157 q k0_pay148 kb) (k0_pay158 vb) acc (constant S608x72 .f32 0x00000000#32) = chunkV q kb vb acc := shapeCast_self _ _
theorem form160 : k0_pay160 q k0_pay148 kb vb acc = chunkV q kb vb acc := shapeCast_self _ _
theorem form162 : k0_pay162 (k0_pay161 q k0_pay148 kb) vb acc = chunkV q kb vb acc := shapeCast_self _ _
theorem form163 : k0_pay163 q k0_pay148 kb vb acc = chunkV q kb vb acc := shapeCast_self _ _
theorem form165 : k0_pay165 (k0_pay164 q k0_pay148 kb) vb acc = chunkV q kb vb acc := shapeCast_self _ _
theorem form166 : k0_pay166 q k0_pay148 kb vb acc = chunkV q kb vb acc := shapeCast_self _ _
theorem form169 : k0_pay169 q (k0_pay167 kb) (k0_pay168 k0_pay148 kb) vb acc = chunkV q kb vb acc := shapeCast_self _ _
theorem form170 : k0_pay170 q k0_pay148 kb vb acc = chunkV q kb vb acc := shapeCast_self _ _
theorem form173 : k0_pay173 q (k0_pay171 kb) (k0_pay172 k0_pay148 kb) vb acc = chunkV q kb vb acc := shapeCast_self _ _
theorem form175 : k0_pay175 (k0_pay174 q k0_pay148 kb vb acc) = chunkV q kb vb acc := shapeCast_self _ _
theorem form178 : k0_pay178 (k0_pay176 q k0_pay148 kb) (k0_pay177 vb) acc = chunkV q kb vb acc := shapeCast_self _ _
theorem form180 : k0_pay180 (k0_pay179 q k0_pay148 kb) vb acc = chunkV q kb vb acc := shapeCast_self _ _

end Forms

/-! ## Every chunk together -/

variable (key val : Fin 100000 → Fin 64 → EReal)

/-- The keys, continued by zeros. -/
def keyE (n : ℕ) (d : Fin 64) : EReal := if h : n < 100000 then key ⟨n, h⟩ d else 0

/-- The values, continued by zeros, with columns of ones behind. -/
def valE (j : Fin 72) (n : ℕ) : EReal := if hj : j.val < 64 then (if h : n < 100000 then val ⟨n, h⟩ ⟨j.val, hj⟩ else 0) else 1

/-- The sum over the first `n` keys. -/
def total (q : Fin 64 → EReal) (j : Fin 72) (n : ℕ) : EReal := ∑ x ∈ Finset.range n, wgt q (keyE key x) * valE val j x

/-- A chunk adds its keys to the sum. -/
theorem total_add (q : Fin 64 → EReal) (j : Fin 72) (o c : ℕ) :
    total key val q j o + chunkSum q (fun (n : Fin c) d => keyE key (o + n.val) d) (fun n => valE val j (o + n.val)) = total key val q j (o + c) := by
  unfold total chunkSum
  rw [Finset.sum_range_add, ← Fin.sum_univ_eq_sum_range (fun x => wgt q (keyE key (o + x)) * valE val j (o + x)) c]

theorem wgt_zero (q : Fin 64 → EReal) : wgt q (fun _ => 0) = 1 := by
  unfold wgt
  simp only [zero_mul, mul_zero, Finset.sum_const_zero]
  rw [show (0 : EReal) = ((0 : ℝ) : EReal) from rfl, Ideal.exp2_coe]
  show ((Real.rpow 2 0 : ℝ) : EReal) = 1
  rw [show Real.rpow 2 0 = (2 : ℝ) ^ (0 : ℝ) from rfl, Real.rpow_zero]; rfl

/-- A chunk's weight at a query over its norm is the score's weight. -/
theorem wgt_eq (e k : Fin 64 → EReal) : wgt (fun d => Ideal.div (e d) (nrm e)) k = Ideal.exp2 (scoreK e k) := rfl

/-- The sum over all keys and the ones that fill up, in a column of values. -/
theorem total_val (q : Fin 64 → EReal) (j : Fin 64) :
    total key val q ⟨j.val, by omega⟩ 100096 = ∑ n, wgt q (key n) * val n j := by
  unfold total
  rw [show (100096 : ℕ) = 100000 + 96 from rfl, Finset.sum_range_add]
  rw [Finset.sum_eq_zero (s := Finset.range 96) fun x _ => ?_, add_zero,
    ← Fin.sum_univ_eq_sum_range (fun x => wgt q (keyE key x) * valE val ⟨j.val, by omega⟩ x) 100000]
  · refine Finset.sum_congr rfl fun n _ => ?_
    simp only [valE, dif_pos j.isLt, dif_pos n.isLt]
    congr 2
    funext d
    exact dif_pos n.isLt
  · simp only [valE, dif_pos j.isLt, dif_neg (show ¬ 100000 + x < 100000 by omega), mul_zero]

/-- The same in the column of ones: 96 more than the weights of the keys. -/
theorem total_one (q : Fin 64 → EReal) :
    total key val q ⟨64, by decide⟩ 100096 = (∑ n, wgt q (key n)) + ((96 : ℝ) : EReal) := by
  unfold total
  rw [show (100096 : ℕ) = 100000 + 96 from rfl, Finset.sum_range_add,
    ← Fin.sum_univ_eq_sum_range (fun x => wgt q (keyE key x) * valE val ⟨64, by decide⟩ x) 100000]
  refine congrArg₂ (· + ·) ?_ ?_
  · refine Finset.sum_congr rfl fun n _ => ?_
    rw [show valE val ⟨64, by decide⟩ n.val = 1 from rfl, mul_one]
    congr 1
    funext d
    exact dif_pos n.isLt
  · have h : ∀ x ∈ Finset.range 96, wgt q (keyE key (100000 + x)) * valE val ⟨64, by decide⟩ (100000 + x) = ((1 : ℝ) : EReal) := fun x _ => by
      rw [show keyE key (100000 + x) = fun _ => 0 from funext fun d => dif_neg (by omega), wgt_zero,
        show valE val ⟨64, by decide⟩ (100000 + x) = 1 from rfl, one_mul]
      rfl
    rw [Finset.sum_congr rfl h, ← coe_sum]
    norm_num

/-- The read of the memory is the quotient of the two sums. -/
theorem read_eq (I : Inp) (e : Fin 64 → EReal) (d : Fin 64) :
    Ideal.div (total I.key I.val (fun k => Ideal.div (e k) (nrm e)) ⟨d.val, by omega⟩ 100096)
        (total I.key I.val (fun k => Ideal.div (e k) (nrm e)) ⟨64, by decide⟩ 100096 - ((96 : ℝ) : EReal)) = Spec.read I e d := by
  choose x hx hw using fun n => weight_eq e (I.key n)
  rw [total_val, total_one]
  unfold Spec.read
  rw [softmax_eq (fun n => cosR e (I.key n)) x hx (fun n => I.val n d) ⟨⟨0, by decide⟩⟩ _ rfl]
  have hs : ∀ n, wgt (fun k => Ideal.div (e k) (nrm e)) (I.key n) = ((Real.exp (x n) : ℝ) : EReal) := fun n => (wgt_eq e _).trans (hw n)
  simp only [hs]
  rw [← coe_sum, ← EReal.coe_add, ← EReal.coe_sub, add_sub_cancel_right]

end Cert.Chunk

end
-- ==== Proof.Reads.lean ====
module

public import proofs.«01_k».proof.Proof.BodyRun
public import proofs.«01_k».proof.Proof.Chunk

@[expose] public section

/-! What each load out of the two rings reads: the keys, and the values with ones behind, of its chunk. -/

set_option maxRecDepth 16384

noncomputable section

namespace Cert.Reads

open Idealize.ShloMosaic Idealize.ShloMosaic.TcCoe Cert.KernelIdeal Cert.KernelIdeal.Gen Cert.KernelIdeal.Launch Cert.KernelIdeal.Body Cert.Cell Cert.Ring Cert.Chunk

/-- The table in main memory holds the keys, a key a column. -/
def Holds0 {c : Dev nD} (fh0 : HbBuf0 (F := Ideal) c hbM0_0) (key : Fin 100000 → Fin 64 → EReal) : Prop :=
  ∀ (d : Fin 64) (n : Fin 100000), (Memref.whole main_v16).view.read (Elt Ideal) fh0 (ix2 d n) = key n d

/-- The other table holds the values. -/
def Holds1 {c : Dev nD} (fh1 : HbBuf0 (F := Ideal) c hbM0_1) (val : Fin 100000 → Fin 64 → EReal) : Prop :=
  ∀ (d : Fin 64) (n : Fin 100000), (Memref.whole main_v17).view.read (Elt Ideal) fh1 (ix2 d n) = val n d

/-- The last keys, filled up with zeros. -/
def Tail0 (x12 : Arr S64x128) (key : Fin 100000 → Fin 64 → EReal) : Prop :=
  ∀ (d : Fin 64) (p : Fin 128), x12 (ix2 d p) = keyE key (99968 + p.val) d

theorem keyE_of_lt {key : Fin 100000 → Fin 64 → EReal} (d : Fin 64) {n : ℕ} (h : n < 100000) : keyE key n d = key ⟨n, h⟩ d := dif_pos h

theorem valE_of_lt {val : Fin 100000 → Fin 64 → EReal} (d : Fin 64) {n : ℕ} (h : n < 100000) : valE val ⟨d.val, by omega⟩ n = val ⟨n, h⟩ d := by
  simp only [valE, dif_pos d.isLt, dif_pos h]

theorem valE_one {val : Fin 100000 → Fin 64 → EReal} (j : Fin 72) (n : ℕ) (h : ¬ j.val < 64) : valE val j n = 1 := dif_neg h

/-- The last values, filled up with zeros. -/
def Tail1 (x13 : Arr S64x128) (val : Fin 100000 → Fin 64 → EReal) : Prop :=
  ∀ (d : Fin 64) (p : Fin 128), x13 (ix2 d p) = valE val ⟨d.val, by omega⟩ (99968 + p.val)

theorem pay181_apply (x : Arr S64x128) (d : Fin 64) (p : Fin 128) : k0_pay181 x (ix3 0 d p) = x (ix2 d p) := by
  pointwise [k0_pay181]

theorem pay182_apply (x : Arr S64x128) (d : Fin 64) (p : Fin 128) : k0_pay182 x (ix2 d p) = x (ix2 d p) := by
  pointwise [k0_pay182]

theorem pay183_apply (x : Arr S64x128) (d : Fin 64) (p : Fin 128) : k0_pay183 x (ix3 0 d p) = x (ix2 d p) := by
  pointwise [k0_pay183]

theorem pay2_apply (d : Fin 8) (n : Fin 6400) : k0_pay2 (F := Ideal) (ix3 0 d n) = (1 : EReal) := one_bits
theorem pay3_apply (d : Fin 8) (n : Fin 6400) : k0_pay3 (F := Ideal) (ix3 0 d n) = (1 : EReal) := one_bits
theorem pay4_apply (d : Fin 8) (n : Fin 6400) : k0_pay4 (F := Ideal) (ix3 0 d n) = (1 : EReal) := one_bits
theorem pay5_apply (d : Fin 8) (n : Fin 6400) : k0_pay5 (F := Ideal) (ix3 0 d n) = (1 : EReal) := one_bits

variable {c : Dev nD} {arg12 : Memref sig .tc .vmem S64x128 .f32} {harg12 : arg12.IsWhole} {arg13 : Memref sig .tc .vmem S64x128 .f32} {harg13 : arg13.IsWhole}
    {arg20 : Memref sig .tc .vmem S4x64x6400 .f32} {arg21 : Memref sig .tc .vmem S4x72x6400 .f32} {x12 x13 : Arr S64x128}
    {fh0 : HbBuf0 (F := Ideal) c hbM0_0} {fh1 : HbBuf0 (F := Ideal) c hbM0_1}
    {fs3 : Buf (Elt Ideal) (arg20.view.loc (c : Thread nD τ))} {fs4 : Buf (Elt Ideal) (arg21.view.loc (c : Thread nD τ))}
    {key val : Fin 100000 → Fin 64 → EReal}

theorem load_tail0 : View.readAt (Elt Ideal) arg12.view (Rect.unit (s := S64x128) ![0, 0] S64x128.size inb_S64x128_S64x128_0_0).toLoadRect (harg12.unread x12) = x12 :=
  load_all harg12 x12 _

theorem load_tail1 : View.readAt (Elt Ideal) arg13.view (Rect.unit (s := S64x128) ![0, 0] S64x128.size inb_S64x128_S64x128_0_0).toLoadRect (harg13.unread x13) = x13 :=
  load_all harg13 x13 _

/-- The rows of ones behind the values of every slot. -/
theorem ones_read (s d n : ℕ) (hs : s < 4) (hd : d < 72) (hn : n < 6400) (f : Buf (Elt Ideal) (arg21.view.loc (c : Thread nD τ))) (h : 64 ≤ d) :
    arg21.view.read (Elt Ideal) (arg21.view.writes (Elt Ideal) f (run.sl.HS4_4 (F := Ideal))) (at3 s d n hs hd hn) = (1 : EReal) := by
  unfold run.sl.HS4_4
  by_cases h3 : s = 3
  · subst h3
    exact (piece_hit 3 64 0 d n _ _ _ _ _ _ _ (by omega) (by omega) h (Nat.zero_le _)).trans (pay5_apply _ _)
  refine (piece_miss 3 64 0 s d n _ _ _ _ _ _ _ (.inl h3)).trans ?_
  by_cases h2 : s = 2
  · subst h2
    exact (piece_hit 2 64 0 d n _ _ _ _ _ _ _ (by omega) (by omega) h (Nat.zero_le _)).trans (pay4_apply _ _)
  refine (piece_miss 2 64 0 s d n _ _ _ _ _ _ _ (.inl h2)).trans ?_
  by_cases h1 : s = 1
  · subst h1
    exact (piece_hit 1 64 0 d n _ _ _ _ _ _ _ (by omega) (by omega) h (Nat.zero_le _)).trans (pay3_apply _ _)
  refine (piece_miss 1 64 0 s d n _ _ _ _ _ _ _ (.inl h1)).trans ?_
  obtain rfl : s = 0 := by omega
  exact (piece_hit 0 64 0 d n _ _ _ _ _ _ _ (by omega) (by omega) h (Nat.zero_le _)).trans (pay2_apply _ _)

theorem dma119_apply (hk : Holds0 fh0 key) (d : Fin 64) (n : Fin 6400) : (run.sl.dma119 (F := Ideal) c fh0 : Arr S64x6400) (ix2 d n) = keyE key (19200 + n.val) d := by
  unfold run.sl.dma119
  exact (block_read (t := Memref.whole main_v16) (by decide) _ _ fh0 d n (by omega)).trans ((hk d _).trans (keyE_of_lt d (by omega)).symm)

theorem dma119_1_apply (hv : Holds1 fh1 val) (d : Fin 64) (n : Fin 6400) : (run.sl.dma119_1 (F := Ideal) c fh1 : Arr S64x6400) (ix2 d n) = valE val ⟨d.val, by omega⟩ (19200 + n.val) := by
  unfold run.sl.dma119_1
  exact (block_read (t := Memref.whole main_v17) (by decide) _ _ fh1 d n (by omega)).trans ((hv d _).trans (valE_of_lt d (by omega)).symm)

theorem dma124_apply (hk : Holds0 fh0 key) (d : Fin 64) (n : Fin 6400) : (run.sl.dma124 (F := Ideal) c fh0 : Arr S64x6400) (ix2 d n) = keyE key (25600 + n.val) d := by
  unfold run.sl.dma124
  exact (block_read (t := Memref.whole main_v16) (by decide) _ _ fh0 d n (by omega)).trans ((hk d _).trans (keyE_of_lt d (by omega)).symm)

theorem dma124_1_apply (hv : Holds1 fh1 val) (d : Fin 64) (n : Fin 6400) : (run.sl.dma124_1 (F := Ideal) c fh1 : Arr S64x6400) (ix2 d n) = valE val ⟨d.val, by omega⟩ (25600 + n.val) := by
  unfold run.sl.dma124_1
  exact (block_read (t := Memref.whole main_v17) (by decide) _ _ fh1 d n (by omega)).trans ((hv d _).trans (valE_of_lt d (by omega)).symm)

theorem dma129_apply (hk : Holds0 fh0 key) (d : Fin 64) (n : Fin 6400) : (run.sl.dma129 (F := Ideal) c fh0 : Arr S64x6400) (ix2 d n) = keyE key (32000 + n.val) d := by
  unfold run.sl.dma129
  exact (block_read (t := Memref.whole main_v16) (by decide) _ _ fh0 d n (by omega)).trans ((hk d _).trans (keyE_of_lt d (by omega)).symm)

theorem dma129_1_apply (hv : Holds1 fh1 val) (d : Fin 64) (n : Fin 6400) : (run.sl.dma129_1 (F := Ideal) c fh1 : Arr S64x6400) (ix2 d n) = valE val ⟨d.val, by omega⟩ (32000 + n.val) := by
  unfold run.sl.dma129_1
  exact (block_read (t := Memref.whole main_v17) (by decide) _ _ fh1 d n (by omega)).trans ((hv d _).trans (valE_of_lt d (by omega)).symm)

theorem dma134_apply (hk : Holds0 fh0 key) (d : Fin 64) (n : Fin 6400) : (run.sl.dma134 (F := Ideal) c fh0 : Arr S64x6400) (ix2 d n) = keyE key (38400 + n.val) d := by
  unfold run.sl.dma134
  exact (block_read (t := Memref.whole main_v16) (by decide) _ _ fh0 d n (by omega)).trans ((hk d _).trans (keyE_of_lt d (by omega)).symm)

theorem dma134_1_apply (hv : Holds1 fh1 val) (d : Fin 64) (n : Fin 6400) : (run.sl.dma134_1 (F := Ideal) c fh1 : Arr S64x6400) (ix2 d n) = valE val ⟨d.val, by omega⟩ (38400 + n.val) := by
  unfold run.sl.dma134_1
  exact (block_read (t := Memref.whole main_v17) (by decide) _ _ fh1 d n (by omega)).trans ((hv d _).trans (valE_of_lt d (by omega)).symm)

theorem dma139_apply (hk : Holds0 fh0 key) (d : Fin 64) (n : Fin 6400) : (run.sl.dma139 (F := Ideal) c fh0 : Arr S64x6400) (ix2 d n) = keyE key (44800 + n.val) d := by
  unfold run.sl.dma139
  exact (block_read (t := Memref.whole main_v16) (by decide) _ _ fh0 d n (by omega)).trans ((hk d _).trans (keyE_of_lt d (by omega)).symm)

theorem dma139_1_apply (hv : Holds1 fh1 val) (d : Fin 64) (n : Fin 6400) : (run.sl.dma139_1 (F := Ideal) c fh1 : Arr S64x6400) (ix2 d n) = valE val ⟨d.val, by omega⟩ (44800 + n.val) := by
  unfold run.sl.dma139_1
  exact (block_read (t := Memref.whole main_v17) (by decide) _ _ fh1 d n (by omega)).trans ((hv d _).trans (valE_of_lt d (by omega)).symm)

theorem dma144_apply (hk : Holds0 fh0 key) (d : Fin 64) (n : Fin 6400) : (run.sl.dma144 (F := Ideal) c fh0 : Arr S64x6400) (ix2 d n) = keyE key (51200 + n.val) d := by
  unfold run.sl.dma144
  exact (block_read (t := Memref.whole main_v16) (by decide) _ _ fh0 d n (by omega)).trans ((hk d _).trans (keyE_of_lt d (by omega)).symm)

theorem dma144_1_apply (hv : Holds1 fh1 val) (d : Fin 64) (n : Fin 6400) : (run.sl.dma144_1 (F := Ideal) c fh1 : Arr S64x6400) (ix2 d n) = valE val ⟨d.val, by omega⟩ (51200 + n.val) := by
  unfold run.sl.dma144_1
  exact (block_read (t := Memref.whole main_v17) (by decide) _ _ fh1 d n (by omega)).trans ((hv d _).trans (valE_of_lt d (by omega)).symm)

theorem dma149_apply (hk : Holds0 fh0 key) (d : Fin 64) (n : Fin 6400) : (run.sl.dma149 (F := Ideal) c fh0 : Arr S64x6400) (ix2 d n) = keyE key (57600 + n.val) d := by
  unfold run.sl.dma149
  exact (block_read (t := Memref.whole main_v16) (by decide) _ _ fh0 d n (by omega)).trans ((hk d _).trans (keyE_of_lt d (by omega)).symm)

theorem dma149_1_apply (hv : Holds1 fh1 val) (d : Fin 64) (n : Fin 6400) : (run.sl.dma149_1 (F := Ideal) c fh1 : Arr S64x6400) (ix2 d n) = valE val ⟨d.val, by omega⟩ (57600 + n.val) := by
  unfold run.sl.dma149_1
  exact (block_read (t := Memref.whole main_v17) (by decide) _ _ fh1 d n (by omega)).trans ((hv d _).trans (valE_of_lt d (by omega)).symm)

theorem dma154_apply (hk : Holds0 fh0 key) (d : Fin 64) (n : Fin 6400) : (run.sl.dma154 (F := Ideal) c fh0 : Arr S64x6400) (ix2 d n) = keyE key (64000 + n.val) d := by
  unfold run.sl.dma154
  exact (block_read (t := Memref.whole main_v16) (by decide) _ _ fh0 d n (by omega)).trans ((hk d _).trans (keyE_of_lt d (by omega)).symm)

theorem dma154_1_apply (hv : Holds1 fh1 val) (d : Fin 64) (n : Fin 6400) : (run.sl.dma154_1 (F := Ideal) c fh1 : Arr S64x6400) (ix2 d n) = valE val ⟨d.val, by omega⟩ (64000 + n.val) := by
  unfold run.sl.dma154_1
  exact (block_read (t := Memref.whole main_v17) (by decide) _ _ fh1 d n (by omega)).trans ((hv d _).trans (valE_of_lt d (by omega)).symm)

theorem dma159_apply (hk : Holds0 fh0 key) (d : Fin 64) (n : Fin 6400) : (run.sl.dma159 (F := Ideal) c fh0 : Arr S64x6400) (ix2 d n) = keyE key (70400 + n.val) d := by
  unfold run.sl.dma159
  exact (block_read (t := Memref.whole main_v16) (by decide) _ _ fh0 d n (by omega)).trans ((hk d _).trans (keyE_of_lt d (by omega)).symm)

theorem dma159_1_apply (hv : Holds1 fh1 val) (d : Fin 64) (n : Fin 6400) : (run.sl.dma159_1 (F := Ideal) c fh1 : Arr S64x6400) (ix2 d n) = valE val ⟨d.val, by omega⟩ (70400 + n.val) := by
  unfold run.sl.dma159_1
  exact (block_read (t := Memref.whole main_v17) (by decide) _ _ fh1 d n (by omega)).trans ((hv d _).trans (valE_of_lt d (by omega)).symm)

theorem dma164_apply (hk : Holds0 fh0 key) (d : Fin 64) (n : Fin 6400) : (run.sl.dma164 (F := Ideal) c fh0 : Arr S64x6400) (ix2 d n) = keyE key (76800 + n.val) d := by
  unfold run.sl.dma164
  exact (block_read (t := Memref.whole main_v16) (by decide) _ _ fh0 d n (by omega)).trans ((hk d _).trans (keyE_of_lt d (by omega)).symm)

theorem dma164_1_apply (hv : Holds1 fh1 val) (d : Fin 64) (n : Fin 6400) : (run.sl.dma164_1 (F := Ideal) c fh1 : Arr S64x6400) (ix2 d n) = valE val ⟨d.val, by omega⟩ (76800 + n.val) := by
  unfold run.sl.dma164_1
  exact (block_read (t := Memref.whole main_v17) (by decide) _ _ fh1 d n (by omega)).trans ((hv d _).trans (valE_of_lt d (by omega)).symm)

theorem dma169_apply (hk : Holds0 fh0 key) (d : Fin 64) (n : Fin 6400) : (run.sl.dma169 (F := Ideal) c fh0 : Arr S64x6400) (ix2 d n) = keyE key (83200 + n.val) d := by
  unfold run.sl.dma169
  exact (block_read (t := Memref.whole main_v16) (by decide) _ _ fh0 d n (by omega)).trans ((hk d _).trans (keyE_of_lt d (by omega)).symm)

theorem dma169_1_apply (hv : Holds1 fh1 val) (d : Fin 64) (n : Fin 6400) : (run.sl.dma169_1 (F := Ideal) c fh1 : Arr S64x6400) (ix2 d n) = valE val ⟨d.val, by omega⟩ (83200 + n.val) := by
  unfold run.sl.dma169_1
  exact (block_read (t := Memref.whole main_v17) (by decide) _ _ fh1 d n (by omega)).trans ((hv d _).trans (valE_of_lt d (by omega)).symm)

theorem dma174_apply (hk : Holds0 fh0 key) (d : Fin 64) (n : Fin 6400) : (run.sl.dma174 (F := Ideal) c fh0 : Arr S64x6400) (ix2 d n) = keyE key (89600 + n.val) d := by
  unfold run.sl.dma174
  exact (block_read (t := Memref.whole main_v16) (by decide) _ _ fh0 d n (by omega)).trans ((hk d _).trans (keyE_of_lt d (by omega)).symm)

theorem dma174_1_apply (hv : Holds1 fh1 val) (d : Fin 64) (n : Fin 6400) : (run.sl.dma174_1 (F := Ideal) c fh1 : Arr S64x6400) (ix2 d n) = valE val ⟨d.val, by omega⟩ (89600 + n.val) := by
  unfold run.sl.dma174_1
  exact (block_read (t := Memref.whole main_v17) (by decide) _ _ fh1 d n (by omega)).trans ((hv d _).trans (valE_of_lt d (by omega)).symm)

theorem dma179_apply (hk : Holds0 fh0 key) (d : Fin 64) (n : Fin 3968) : (run.sl.dma179 (F := Ideal) c fh0 : Arr S64x3968) (ix2 d n) = keyE key (96000 + n.val) d := by
  unfold run.sl.dma179
  exact (block_read (t := Memref.whole main_v16) (by decide) _ _ fh0 d n (by omega)).trans ((hk d _).trans (keyE_of_lt d (by omega)).symm)

theorem dma179_1_apply (hv : Holds1 fh1 val) (d : Fin 64) (n : Fin 3968) : (run.sl.dma179_1 (F := Ideal) c fh1 : Arr S64x3968) (ix2 d n) = valE val ⟨d.val, by omega⟩ (96000 + n.val) := by
  unfold run.sl.dma179_1
  exact (block_read (t := Memref.whole main_v17) (by decide) _ _ fh1 d n (by omega)).trans ((hv d _).trans (valE_of_lt d (by omega)).symm)

theorem dma8_apply (hk : Holds0 fh0 key) (d : Fin 64) (n : Fin 6400) : (run.sl.dma8 (F := Ideal) c fh0 : Arr S64x6400) (ix2 d n) = keyE key (0 + n.val) d := by
  unfold run.sl.dma8
  exact (block_read (t := Memref.whole main_v16) (by decide) _ _ fh0 d n (by omega)).trans ((hk d _).trans (keyE_of_lt d (by omega)).symm)

theorem dma8_1_apply (hv : Holds1 fh1 val) (d : Fin 64) (n : Fin 6400) : (run.sl.dma8_1 (F := Ideal) c fh1 : Arr S64x6400) (ix2 d n) = valE val ⟨d.val, by omega⟩ (0 + n.val) := by
  unfold run.sl.dma8_1
  exact (block_read (t := Memref.whole main_v17) (by decide) _ _ fh1 d n (by omega)).trans ((hv d _).trans (valE_of_lt d (by omega)).symm)

theorem dma8_2_apply (hk : Holds0 fh0 key) (d : Fin 64) (n : Fin 6400) : (run.sl.dma8_2 (F := Ideal) c fh0 : Arr S64x6400) (ix2 d n) = keyE key (6400 + n.val) d := by
  unfold run.sl.dma8_2
  exact (block_read (t := Memref.whole main_v16) (by decide) _ _ fh0 d n (by omega)).trans ((hk d _).trans (keyE_of_lt d (by omega)).symm)

theorem dma8_3_apply (hv : Holds1 fh1 val) (d : Fin 64) (n : Fin 6400) : (run.sl.dma8_3 (F := Ideal) c fh1 : Arr S64x6400) (ix2 d n) = valE val ⟨d.val, by omega⟩ (6400 + n.val) := by
  unfold run.sl.dma8_3
  exact (block_read (t := Memref.whole main_v17) (by decide) _ _ fh1 d n (by omega)).trans ((hv d _).trans (valE_of_lt d (by omega)).symm)

theorem dma8_4_apply (hk : Holds0 fh0 key) (d : Fin 64) (n : Fin 6400) : (run.sl.dma8_4 (F := Ideal) c fh0 : Arr S64x6400) (ix2 d n) = keyE key (12800 + n.val) d := by
  unfold run.sl.dma8_4
  exact (block_read (t := Memref.whole main_v16) (by decide) _ _ fh0 d n (by omega)).trans ((hk d _).trans (keyE_of_lt d (by omega)).symm)

theorem dma8_5_apply (hv : Holds1 fh1 val) (d : Fin 64) (n : Fin 6400) : (run.sl.dma8_5 (F := Ideal) c fh1 : Arr S64x6400) (ix2 d n) = valE val ⟨d.val, by omega⟩ (12800 + n.val) := by
  unfold run.sl.dma8_5
  exact (block_read (t := Memref.whole main_v17) (by decide) _ _ fh1 d n (by omega)).trans ((hv d _).trans (valE_of_lt d (by omega)).symm)

theorem v824_apply (hk : Holds0 fh0 key) (d : Fin 64) (n : Fin 6400) : (run.sl.v824 (F := Ideal) c arg20 fh0 fs3 : Arr S1x64x6400) (ix3 0 d n) = keyE key (0 + n.val) d := by
  unfold run.sl.v824
  refine (load_slot 0 (by decide) le_rfl (by decide) _ _ d n).trans ?_
  refine (read_miss 3 0 d.val n.val _ _ _ _ _ _ _ _ (.inl (by decide))).trans ?_
  refine (read_miss 2 0 d.val n.val _ _ _ _ _ _ _ _ (.inl (by decide))).trans ?_
  refine (read_miss 1 0 d.val n.val _ _ _ _ _ _ _ _ (.inl (by decide))).trans ?_
  exact (read_hit 0 d.val n.val _ _ _ _ _ _ _ _ d.isLt n.isLt).trans (dma8_apply hk d n)

theorem v840_apply (hv : Holds1 fh1 val) (j : Fin 72) (n : Fin 6400) : (run.sl.v840 (F := Ideal) c arg21 fh1 fs4 : Arr S1x72x6400) (ix3 0 j n) = valE val j (0 + n.val) := by
  unfold run.sl.v840
  refine (load_slot 0 (by decide) le_rfl (by decide) _ _ j n).trans ?_
  by_cases hj : j.val < 64
  · refine (read_miss 3 0 j.val n.val _ _ _ _ _ _ _ _ (.inl (by decide))).trans ?_
    refine (read_miss 2 0 j.val n.val _ _ _ _ _ _ _ _ (.inl (by decide))).trans ?_
    refine (read_miss 1 0 j.val n.val _ _ _ _ _ _ _ _ (.inl (by decide))).trans ?_
    exact (read_hit 0 j.val n.val _ _ _ _ _ _ _ _ hj n.isLt).trans (dma8_1_apply hv ⟨j.val, hj⟩ n)
  · refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (ones_read 0 j.val n.val (by decide) (by omega) (by omega) _ (by omega)).trans (valE_one j _ hj).symm

theorem v869_apply (hk : Holds0 fh0 key) (d : Fin 64) (n : Fin 6400) : (run.sl.v869 (F := Ideal) c arg20 fh0 fs3 : Arr S1x64x6400) (ix3 0 d n) = keyE key (6400 + n.val) d := by
  unfold run.sl.v869
  refine (load_slot 1 (by decide) le_rfl (by decide) _ _ d n).trans ?_
  refine (read_miss 0 1 d.val n.val _ _ _ _ _ _ _ _ (.inl (by decide))).trans ?_
  refine (read_miss 3 1 d.val n.val _ _ _ _ _ _ _ _ (.inl (by decide))).trans ?_
  refine (read_miss 2 1 d.val n.val _ _ _ _ _ _ _ _ (.inl (by decide))).trans ?_
  exact (read_hit 1 d.val n.val _ _ _ _ _ _ _ _ d.isLt n.isLt).trans (dma8_2_apply hk d n)

theorem v885_apply (hv : Holds1 fh1 val) (j : Fin 72) (n : Fin 6400) : (run.sl.v885 (F := Ideal) c arg21 fh1 fs4 : Arr S1x72x6400) (ix3 0 j n) = valE val j (6400 + n.val) := by
  unfold run.sl.v885
  refine (load_slot 1 (by decide) le_rfl (by decide) _ _ j n).trans ?_
  by_cases hj : j.val < 64
  · refine (read_miss 0 1 j.val n.val _ _ _ _ _ _ _ _ (.inl (by decide))).trans ?_
    refine (read_miss 3 1 j.val n.val _ _ _ _ _ _ _ _ (.inl (by decide))).trans ?_
    refine (read_miss 2 1 j.val n.val _ _ _ _ _ _ _ _ (.inl (by decide))).trans ?_
    exact (read_hit 1 j.val n.val _ _ _ _ _ _ _ _ hj n.isLt).trans (dma8_3_apply hv ⟨j.val, hj⟩ n)
  · refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (ones_read 1 j.val n.val (by decide) (by omega) (by omega) _ (by omega)).trans (valE_one j _ hj).symm

theorem v914_apply (hk : Holds0 fh0 key) (d : Fin 64) (n : Fin 6400) : (run.sl.v914 (F := Ideal) c arg20 fh0 fs3 : Arr S1x64x6400) (ix3 0 d n) = keyE key (12800 + n.val) d := by
  unfold run.sl.v914
  refine (load_slot 2 (by decide) le_rfl (by decide) _ _ d n).trans ?_
  refine (read_miss 1 2 d.val n.val _ _ _ _ _ _ _ _ (.inl (by decide))).trans ?_
  refine (read_miss 0 2 d.val n.val _ _ _ _ _ _ _ _ (.inl (by decide))).trans ?_
  refine (read_miss 3 2 d.val n.val _ _ _ _ _ _ _ _ (.inl (by decide))).trans ?_
  exact (read_hit 2 d.val n.val _ _ _ _ _ _ _ _ d.isLt n.isLt).trans (dma8_4_apply hk d n)

theorem v930_apply (hv : Holds1 fh1 val) (j : Fin 72) (n : Fin 6400) : (run.sl.v930 (F := Ideal) c arg21 fh1 fs4 : Arr S1x72x6400) (ix3 0 j n) = valE val j (12800 + n.val) := by
  unfold run.sl.v930
  refine (load_slot 2 (by decide) le_rfl (by decide) _ _ j n).trans ?_
  by_cases hj : j.val < 64
  · refine (read_miss 1 2 j.val n.val _ _ _ _ _ _ _ _ (.inl (by decide))).trans ?_
    refine (read_miss 0 2 j.val n.val _ _ _ _ _ _ _ _ (.inl (by decide))).trans ?_
    refine (read_miss 3 2 j.val n.val _ _ _ _ _ _ _ _ (.inl (by decide))).trans ?_
    exact (read_hit 2 j.val n.val _ _ _ _ _ _ _ _ hj n.isLt).trans (dma8_5_apply hv ⟨j.val, hj⟩ n)
  · refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (ones_read 2 j.val n.val (by decide) (by omega) (by omega) _ (by omega)).trans (valE_one j _ hj).symm

theorem v959_apply (hk : Holds0 fh0 key) (d : Fin 64) (n : Fin 6400) : (run.sl.v959 (F := Ideal) c arg20 fh0 fs3 : Arr S1x64x6400) (ix3 0 d n) = keyE key (19200 + n.val) d := by
  unfold run.sl.v959
  refine (load_slot 3 (by decide) le_rfl (by decide) _ _ d n).trans ?_
  refine (read_miss 2 3 d.val n.val _ _ _ _ _ _ _ _ (.inl (by decide))).trans ?_
  refine (read_miss 1 3 d.val n.val _ _ _ _ _ _ _ _ (.inl (by decide))).trans ?_
  refine (read_miss 0 3 d.val n.val _ _ _ _ _ _ _ _ (.inl (by decide))).trans ?_
  exact (read_hit 3 d.val n.val _ _ _ _ _ _ _ _ d.isLt n.isLt).trans (dma119_apply hk d n)

theorem v975_apply (hv : Holds1 fh1 val) (j : Fin 72) (n : Fin 6400) : (run.sl.v975 (F := Ideal) c arg21 fh1 fs4 : Arr S1x72x6400) (ix3 0 j n) = valE val j (19200 + n.val) := by
  unfold run.sl.v975
  refine (load_slot 3 (by decide) le_rfl (by decide) _ _ j n).trans ?_
  by_cases hj : j.val < 64
  · refine (read_miss 2 3 j.val n.val _ _ _ _ _ _ _ _ (.inl (by decide))).trans ?_
    refine (read_miss 1 3 j.val n.val _ _ _ _ _ _ _ _ (.inl (by decide))).trans ?_
    refine (read_miss 0 3 j.val n.val _ _ _ _ _ _ _ _ (.inl (by decide))).trans ?_
    exact (read_hit 3 j.val n.val _ _ _ _ _ _ _ _ hj n.isLt).trans (dma119_1_apply hv ⟨j.val, hj⟩ n)
  · refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (ones_read 3 j.val n.val (by decide) (by omega) (by omega) _ (by omega)).trans (valE_one j _ hj).symm

theorem v1004_apply (hk : Holds0 fh0 key) (d : Fin 64) (n : Fin 6400) : (run.sl.v1004 (F := Ideal) c arg20 fh0 fs3 : Arr S1x64x6400) (ix3 0 d n) = keyE key (25600 + n.val) d := by
  unfold run.sl.v1004
  refine (load_slot 0 (by decide) le_rfl (by decide) _ _ d n).trans ?_
  refine (read_miss 3 0 d.val n.val _ _ _ _ _ _ _ _ (.inl (by decide))).trans ?_
  refine (read_miss 2 0 d.val n.val _ _ _ _ _ _ _ _ (.inl (by decide))).trans ?_
  refine (read_miss 1 0 d.val n.val _ _ _ _ _ _ _ _ (.inl (by decide))).trans ?_
  exact (read_hit 0 d.val n.val _ _ _ _ _ _ _ _ d.isLt n.isLt).trans (dma124_apply hk d n)

theorem v1020_apply (hv : Holds1 fh1 val) (j : Fin 72) (n : Fin 6400) : (run.sl.v1020 (F := Ideal) c arg21 fh1 fs4 : Arr S1x72x6400) (ix3 0 j n) = valE val j (25600 + n.val) := by
  unfold run.sl.v1020
  refine (load_slot 0 (by decide) le_rfl (by decide) _ _ j n).trans ?_
  by_cases hj : j.val < 64
  · refine (read_miss 3 0 j.val n.val _ _ _ _ _ _ _ _ (.inl (by decide))).trans ?_
    refine (read_miss 2 0 j.val n.val _ _ _ _ _ _ _ _ (.inl (by decide))).trans ?_
    refine (read_miss 1 0 j.val n.val _ _ _ _ _ _ _ _ (.inl (by decide))).trans ?_
    exact (read_hit 0 j.val n.val _ _ _ _ _ _ _ _ hj n.isLt).trans (dma124_1_apply hv ⟨j.val, hj⟩ n)
  · refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (ones_read 0 j.val n.val (by decide) (by omega) (by omega) _ (by omega)).trans (valE_one j _ hj).symm

theorem v1049_apply (hk : Holds0 fh0 key) (d : Fin 64) (n : Fin 6400) : (run.sl.v1049 (F := Ideal) c arg20 fh0 fs3 : Arr S1x64x6400) (ix3 0 d n) = keyE key (32000 + n.val) d := by
  unfold run.sl.v1049
  refine (load_slot 1 (by decide) le_rfl (by decide) _ _ d n).trans ?_
  refine (read_miss 0 1 d.val n.val _ _ _ _ _ _ _ _ (.inl (by decide))).trans ?_
  refine (read_miss 3 1 d.val n.val _ _ _ _ _ _ _ _ (.inl (by decide))).trans ?_
  refine (read_miss 2 1 d.val n.val _ _ _ _ _ _ _ _ (.inl (by decide))).trans ?_
  exact (read_hit 1 d.val n.val _ _ _ _ _ _ _ _ d.isLt n.isLt).trans (dma129_apply hk d n)

theorem v1065_apply (hv : Holds1 fh1 val) (j : Fin 72) (n : Fin 6400) : (run.sl.v1065 (F := Ideal) c arg21 fh1 fs4 : Arr S1x72x6400) (ix3 0 j n) = valE val j (32000 + n.val) := by
  unfold run.sl.v1065
  refine (load_slot 1 (by decide) le_rfl (by decide) _ _ j n).trans ?_
  by_cases hj : j.val < 64
  · refine (read_miss 0 1 j.val n.val _ _ _ _ _ _ _ _ (.inl (by decide))).trans ?_
    refine (read_miss 3 1 j.val n.val _ _ _ _ _ _ _ _ (.inl (by decide))).trans ?_
    refine (read_miss 2 1 j.val n.val _ _ _ _ _ _ _ _ (.inl (by decide))).trans ?_
    exact (read_hit 1 j.val n.val _ _ _ _ _ _ _ _ hj n.isLt).trans (dma129_1_apply hv ⟨j.val, hj⟩ n)
  · refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (ones_read 1 j.val n.val (by decide) (by omega) (by omega) _ (by omega)).trans (valE_one j _ hj).symm

theorem v1094_apply (hk : Holds0 fh0 key) (d : Fin 64) (n : Fin 6400) : (run.sl.v1094 (F := Ideal) c arg20 fh0 fs3 : Arr S1x64x6400) (ix3 0 d n) = keyE key (38400 + n.val) d := by
  unfold run.sl.v1094
  refine (load_slot 2 (by decide) le_rfl (by decide) _ _ d n).trans ?_
  refine (read_miss 1 2 d.val n.val _ _ _ _ _ _ _ _ (.inl (by decide))).trans ?_
  refine (read_miss 0 2 d.val n.val _ _ _ _ _ _ _ _ (.inl (by decide))).trans ?_
  refine (read_miss 3 2 d.val n.val _ _ _ _ _ _ _ _ (.inl (by decide))).trans ?_
  exact (read_hit 2 d.val n.val _ _ _ _ _ _ _ _ d.isLt n.isLt).trans (dma134_apply hk d n)

theorem v1110_apply (hv : Holds1 fh1 val) (j : Fin 72) (n : Fin 6400) : (run.sl.v1110 (F := Ideal) c arg21 fh1 fs4 : Arr S1x72x6400) (ix3 0 j n) = valE val j (38400 + n.val) := by
  unfold run.sl.v1110
  refine (load_slot 2 (by decide) le_rfl (by decide) _ _ j n).trans ?_
  by_cases hj : j.val < 64
  · refine (read_miss 1 2 j.val n.val _ _ _ _ _ _ _ _ (.inl (by decide))).trans ?_
    refine (read_miss 0 2 j.val n.val _ _ _ _ _ _ _ _ (.inl (by decide))).trans ?_
    refine (read_miss 3 2 j.val n.val _ _ _ _ _ _ _ _ (.inl (by decide))).trans ?_
    exact (read_hit 2 j.val n.val _ _ _ _ _ _ _ _ hj n.isLt).trans (dma134_1_apply hv ⟨j.val, hj⟩ n)
  · refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (ones_read 2 j.val n.val (by decide) (by omega) (by omega) _ (by omega)).trans (valE_one j _ hj).symm

theorem v1139_apply (hk : Holds0 fh0 key) (d : Fin 64) (n : Fin 6400) : (run.sl.v1139 (F := Ideal) c arg20 fh0 fs3 : Arr S1x64x6400) (ix3 0 d n) = keyE key (44800 + n.val) d := by
  unfold run.sl.v1139
  refine (load_slot 3 (by decide) le_rfl (by decide) _ _ d n).trans ?_
  refine (read_miss 2 3 d.val n.val _ _ _ _ _ _ _ _ (.inl (by decide))).trans ?_
  refine (read_miss 1 3 d.val n.val _ _ _ _ _ _ _ _ (.inl (by decide))).trans ?_
  refine (read_miss 0 3 d.val n.val _ _ _ _ _ _ _ _ (.inl (by decide))).trans ?_
  exact (read_hit 3 d.val n.val _ _ _ _ _ _ _ _ d.isLt n.isLt).trans (dma139_apply hk d n)

theorem v1155_apply (hv : Holds1 fh1 val) (j : Fin 72) (n : Fin 6400) : (run.sl.v1155 (F := Ideal) c arg21 fh1 fs4 : Arr S1x72x6400) (ix3 0 j n) = valE val j (44800 + n.val) := by
  unfold run.sl.v1155
  refine (load_slot 3 (by decide) le_rfl (by decide) _ _ j n).trans ?_
  by_cases hj : j.val < 64
  · refine (read_miss 2 3 j.val n.val _ _ _ _ _ _ _ _ (.inl (by decide))).trans ?_
    refine (read_miss 1 3 j.val n.val _ _ _ _ _ _ _ _ (.inl (by decide))).trans ?_
    refine (read_miss 0 3 j.val n.val _ _ _ _ _ _ _ _ (.inl (by decide))).trans ?_
    exact (read_hit 3 j.val n.val _ _ _ _ _ _ _ _ hj n.isLt).trans (dma139_1_apply hv ⟨j.val, hj⟩ n)
  · refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (ones_read 3 j.val n.val (by decide) (by omega) (by omega) _ (by omega)).trans (valE_one j _ hj).symm

theorem v1184_apply (hk : Holds0 fh0 key) (d : Fin 64) (n : Fin 6400) : (run.sl.v1184 (F := Ideal) c arg20 fh0 fs3 : Arr S1x64x6400) (ix3 0 d n) = keyE key (51200 + n.val) d := by
  unfold run.sl.v1184
  refine (load_slot 0 (by decide) le_rfl (by decide) _ _ d n).trans ?_
  refine (read_miss 3 0 d.val n.val _ _ _ _ _ _ _ _ (.inl (by decide))).trans ?_
  refine (read_miss 2 0 d.val n.val _ _ _ _ _ _ _ _ (.inl (by decide))).trans ?_
  refine (read_miss 1 0 d.val n.val _ _ _ _ _ _ _ _ (.inl (by decide))).trans ?_
  exact (read_hit 0 d.val n.val _ _ _ _ _ _ _ _ d.isLt n.isLt).trans (dma144_apply hk d n)

theorem v1200_apply (hv : Holds1 fh1 val) (j : Fin 72) (n : Fin 6400) : (run.sl.v1200 (F := Ideal) c arg21 fh1 fs4 : Arr S1x72x6400) (ix3 0 j n) = valE val j (51200 + n.val) := by
  unfold run.sl.v1200
  refine (load_slot 0 (by decide) le_rfl (by decide) _ _ j n).trans ?_
  by_cases hj : j.val < 64
  · refine (read_miss 3 0 j.val n.val _ _ _ _ _ _ _ _ (.inl (by decide))).trans ?_
    refine (read_miss 2 0 j.val n.val _ _ _ _ _ _ _ _ (.inl (by decide))).trans ?_
    refine (read_miss 1 0 j.val n.val _ _ _ _ _ _ _ _ (.inl (by decide))).trans ?_
    exact (read_hit 0 j.val n.val _ _ _ _ _ _ _ _ hj n.isLt).trans (dma144_1_apply hv ⟨j.val, hj⟩ n)
  · refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (ones_read 0 j.val n.val (by decide) (by omega) (by omega) _ (by omega)).trans (valE_one j _ hj).symm

theorem v1229_apply (hk : Holds0 fh0 key) (d : Fin 64) (n : Fin 6400) : (run.sl.v1229 (F := Ideal) c arg20 fh0 fs3 : Arr S1x64x6400) (ix3 0 d n) = keyE key (57600 + n.val) d := by
  unfold run.sl.v1229
  refine (load_slot 1 (by decide) le_rfl (by decide) _ _ d n).trans ?_
  refine (read_miss 0 1 d.val n.val _ _ _ _ _ _ _ _ (.inl (by decide))).trans ?_
  refine (read_miss 3 1 d.val n.val _ _ _ _ _ _ _ _ (.inl (by decide))).trans ?_
  refine (read_miss 2 1 d.val n.val _ _ _ _ _ _ _ _ (.inl (by decide))).trans ?_
  exact (read_hit 1 d.val n.val _ _ _ _ _ _ _ _ d.isLt n.isLt).trans (dma149_apply hk d n)

theorem v1245_apply (hv : Holds1 fh1 val) (j : Fin 72) (n : Fin 6400) : (run.sl.v1245 (F := Ideal) c arg21 fh1 fs4 : Arr S1x72x6400) (ix3 0 j n) = valE val j (57600 + n.val) := by
  unfold run.sl.v1245
  refine (load_slot 1 (by decide) le_rfl (by decide) _ _ j n).trans ?_
  by_cases hj : j.val < 64
  · refine (read_miss 0 1 j.val n.val _ _ _ _ _ _ _ _ (.inl (by decide))).trans ?_
    refine (read_miss 3 1 j.val n.val _ _ _ _ _ _ _ _ (.inl (by decide))).trans ?_
    refine (read_miss 2 1 j.val n.val _ _ _ _ _ _ _ _ (.inl (by decide))).trans ?_
    exact (read_hit 1 j.val n.val _ _ _ _ _ _ _ _ hj n.isLt).trans (dma149_1_apply hv ⟨j.val, hj⟩ n)
  · refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (ones_read 1 j.val n.val (by decide) (by omega) (by omega) _ (by omega)).trans (valE_one j _ hj).symm

theorem v1274_apply (hk : Holds0 fh0 key) (d : Fin 64) (n : Fin 6400) : (run.sl.v1274 (F := Ideal) c arg20 fh0 fs3 : Arr S1x64x6400) (ix3 0 d n) = keyE key (64000 + n.val) d := by
  unfold run.sl.v1274
  refine (load_slot 2 (by decide) le_rfl (by decide) _ _ d n).trans ?_
  refine (read_miss 1 2 d.val n.val _ _ _ _ _ _ _ _ (.inl (by decide))).trans ?_
  refine (read_miss 0 2 d.val n.val _ _ _ _ _ _ _ _ (.inl (by decide))).trans ?_
  refine (read_miss 3 2 d.val n.val _ _ _ _ _ _ _ _ (.inl (by decide))).trans ?_
  exact (read_hit 2 d.val n.val _ _ _ _ _ _ _ _ d.isLt n.isLt).trans (dma154_apply hk d n)

theorem v1290_apply (hv : Holds1 fh1 val) (j : Fin 72) (n : Fin 6400) : (run.sl.v1290 (F := Ideal) c arg21 fh1 fs4 : Arr S1x72x6400) (ix3 0 j n) = valE val j (64000 + n.val) := by
  unfold run.sl.v1290
  refine (load_slot 2 (by decide) le_rfl (by decide) _ _ j n).trans ?_
  by_cases hj : j.val < 64
  · refine (read_miss 1 2 j.val n.val _ _ _ _ _ _ _ _ (.inl (by decide))).trans ?_
    refine (read_miss 0 2 j.val n.val _ _ _ _ _ _ _ _ (.inl (by decide))).trans ?_
    refine (read_miss 3 2 j.val n.val _ _ _ _ _ _ _ _ (.inl (by decide))).trans ?_
    exact (read_hit 2 j.val n.val _ _ _ _ _ _ _ _ hj n.isLt).trans (dma154_1_apply hv ⟨j.val, hj⟩ n)
  · refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (ones_read 2 j.val n.val (by decide) (by omega) (by omega) _ (by omega)).trans (valE_one j _ hj).symm

theorem v1319_apply (hk : Holds0 fh0 key) (d : Fin 64) (n : Fin 6400) : (run.sl.v1319 (F := Ideal) c arg20 fh0 fs3 : Arr S1x64x6400) (ix3 0 d n) = keyE key (70400 + n.val) d := by
  unfold run.sl.v1319
  refine (load_slot 3 (by decide) le_rfl (by decide) _ _ d n).trans ?_
  refine (read_miss 2 3 d.val n.val _ _ _ _ _ _ _ _ (.inl (by decide))).trans ?_
  refine (read_miss 1 3 d.val n.val _ _ _ _ _ _ _ _ (.inl (by decide))).trans ?_
  refine (read_miss 0 3 d.val n.val _ _ _ _ _ _ _ _ (.inl (by decide))).trans ?_
  exact (read_hit 3 d.val n.val _ _ _ _ _ _ _ _ d.isLt n.isLt).trans (dma159_apply hk d n)

theorem v1335_apply (hv : Holds1 fh1 val) (j : Fin 72) (n : Fin 6400) : (run.sl.v1335 (F := Ideal) c arg21 fh1 fs4 : Arr S1x72x6400) (ix3 0 j n) = valE val j (70400 + n.val) := by
  unfold run.sl.v1335
  refine (load_slot 3 (by decide) le_rfl (by decide) _ _ j n).trans ?_
  by_cases hj : j.val < 64
  · refine (read_miss 2 3 j.val n.val _ _ _ _ _ _ _ _ (.inl (by decide))).trans ?_
    refine (read_miss 1 3 j.val n.val _ _ _ _ _ _ _ _ (.inl (by decide))).trans ?_
    refine (read_miss 0 3 j.val n.val _ _ _ _ _ _ _ _ (.inl (by decide))).trans ?_
    exact (read_hit 3 j.val n.val _ _ _ _ _ _ _ _ hj n.isLt).trans (dma159_1_apply hv ⟨j.val, hj⟩ n)
  · refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (ones_read 3 j.val n.val (by decide) (by omega) (by omega) _ (by omega)).trans (valE_one j _ hj).symm

theorem v1364_apply (hk : Holds0 fh0 key) (d : Fin 64) (n : Fin 6400) : (run.sl.v1364 (F := Ideal) c arg20 fh0 fs3 : Arr S1x64x6400) (ix3 0 d n) = keyE key (76800 + n.val) d := by
  unfold run.sl.v1364
  refine (load_slot 0 (by decide) le_rfl (by decide) _ _ d n).trans ?_
  refine (read_miss 3 0 d.val n.val _ _ _ _ _ _ _ _ (.inl (by decide))).trans ?_
  refine (read_miss 2 0 d.val n.val _ _ _ _ _ _ _ _ (.inl (by decide))).trans ?_
  refine (read_miss 1 0 d.val n.val _ _ _ _ _ _ _ _ (.inl (by decide))).trans ?_
  exact (read_hit 0 d.val n.val _ _ _ _ _ _ _ _ d.isLt n.isLt).trans (dma164_apply hk d n)

theorem v1380_apply (hv : Holds1 fh1 val) (j : Fin 72) (n : Fin 6400) : (run.sl.v1380 (F := Ideal) c arg21 fh1 fs4 : Arr S1x72x6400) (ix3 0 j n) = valE val j (76800 + n.val) := by
  unfold run.sl.v1380
  refine (load_slot 0 (by decide) le_rfl (by decide) _ _ j n).trans ?_
  by_cases hj : j.val < 64
  · refine (read_miss 3 0 j.val n.val _ _ _ _ _ _ _ _ (.inl (by decide))).trans ?_
    refine (read_miss 2 0 j.val n.val _ _ _ _ _ _ _ _ (.inl (by decide))).trans ?_
    refine (read_miss 1 0 j.val n.val _ _ _ _ _ _ _ _ (.inl (by decide))).trans ?_
    exact (read_hit 0 j.val n.val _ _ _ _ _ _ _ _ hj n.isLt).trans (dma164_1_apply hv ⟨j.val, hj⟩ n)
  · refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (read_miss 3 0 j.val n.val _ _ _ _ _ _ _ _ (.inr (.inl (by omega)))).trans ?_
    refine (read_miss 2 0 j.val n.val _ _ _ _ _ _ _ _ (.inr (.inl (by omega)))).trans ?_
    refine (read_miss 1 0 j.val n.val _ _ _ _ _ _ _ _ (.inr (.inl (by omega)))).trans ?_
    refine (read_miss 0 0 j.val n.val _ _ _ _ _ _ _ _ (.inr (.inl (by omega)))).trans ?_
    refine (ones_read 0 j.val n.val (by decide) (by omega) (by omega) _ (by omega)).trans (valE_one j _ hj).symm

theorem v1399_apply (hk : Holds0 fh0 key) (d : Fin 64) (n : Fin 6400) : (run.sl.v1399 (F := Ideal) c arg20 fh0 fs3 : Arr S1x64x6400) (ix3 0 d n) = keyE key (83200 + n.val) d := by
  unfold run.sl.v1399
  refine (load_slot 1 (by decide) le_rfl (by decide) _ _ d n).trans ?_
  refine (read_miss 3 1 d.val n.val _ _ _ _ _ _ _ _ (.inl (by decide))).trans ?_
  refine (read_miss 2 1 d.val n.val _ _ _ _ _ _ _ _ (.inl (by decide))).trans ?_
  exact (read_hit 1 d.val n.val _ _ _ _ _ _ _ _ d.isLt n.isLt).trans (dma169_apply hk d n)

theorem v1415_apply (hv : Holds1 fh1 val) (j : Fin 72) (n : Fin 6400) : (run.sl.v1415 (F := Ideal) c arg21 fh1 fs4 : Arr S1x72x6400) (ix3 0 j n) = valE val j (83200 + n.val) := by
  unfold run.sl.v1415
  refine (load_slot 1 (by decide) le_rfl (by decide) _ _ j n).trans ?_
  by_cases hj : j.val < 64
  · refine (read_miss 3 1 j.val n.val _ _ _ _ _ _ _ _ (.inl (by decide))).trans ?_
    refine (read_miss 2 1 j.val n.val _ _ _ _ _ _ _ _ (.inl (by decide))).trans ?_
    exact (read_hit 1 j.val n.val _ _ _ _ _ _ _ _ hj n.isLt).trans (dma169_1_apply hv ⟨j.val, hj⟩ n)
  · refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (read_miss 3 1 j.val n.val _ _ _ _ _ _ _ _ (.inr (.inl (by omega)))).trans ?_
    refine (read_miss 2 1 j.val n.val _ _ _ _ _ _ _ _ (.inr (.inl (by omega)))).trans ?_
    refine (read_miss 1 1 j.val n.val _ _ _ _ _ _ _ _ (.inr (.inl (by omega)))).trans ?_
    refine (read_miss 0 1 j.val n.val _ _ _ _ _ _ _ _ (.inr (.inl (by omega)))).trans ?_
    refine (ones_read 1 j.val n.val (by decide) (by omega) (by omega) _ (by omega)).trans (valE_one j _ hj).symm

theorem v1434_apply (hk : Holds0 fh0 key) (d : Fin 64) (n : Fin 6400) : (run.sl.v1434 (F := Ideal) c arg20 fh0 fs3 : Arr S1x64x6400) (ix3 0 d n) = keyE key (89600 + n.val) d := by
  unfold run.sl.v1434
  refine (load_slot 2 (by decide) le_rfl (by decide) _ _ d n).trans ?_
  refine (read_miss 3 2 d.val n.val _ _ _ _ _ _ _ _ (.inl (by decide))).trans ?_
  exact (read_hit 2 d.val n.val _ _ _ _ _ _ _ _ d.isLt n.isLt).trans (dma174_apply hk d n)

theorem v1450_apply (hv : Holds1 fh1 val) (j : Fin 72) (n : Fin 6400) : (run.sl.v1450 (F := Ideal) c arg21 fh1 fs4 : Arr S1x72x6400) (ix3 0 j n) = valE val j (89600 + n.val) := by
  unfold run.sl.v1450
  refine (load_slot 2 (by decide) le_rfl (by decide) _ _ j n).trans ?_
  by_cases hj : j.val < 64
  · refine (read_miss 3 2 j.val n.val _ _ _ _ _ _ _ _ (.inl (by decide))).trans ?_
    exact (read_hit 2 j.val n.val _ _ _ _ _ _ _ _ hj n.isLt).trans (dma174_1_apply hv ⟨j.val, hj⟩ n)
  · refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (read_miss 3 2 j.val n.val _ _ _ _ _ _ _ _ (.inr (.inl (by omega)))).trans ?_
    refine (read_miss 2 2 j.val n.val _ _ _ _ _ _ _ _ (.inr (.inl (by omega)))).trans ?_
    refine (read_miss 1 2 j.val n.val _ _ _ _ _ _ _ _ (.inr (.inl (by omega)))).trans ?_
    refine (read_miss 0 2 j.val n.val _ _ _ _ _ _ _ _ (.inr (.inl (by omega)))).trans ?_
    refine (ones_read 2 j.val n.val (by decide) (by omega) (by omega) _ (by omega)).trans (valE_one j _ hj).symm

theorem v1479_apply (hk : Holds0 fh0 key) (ht : Tail0 x12 key) (d : Fin 64) (n : Fin 4096) : (run.sl.v1479 (F := Ideal) c arg12 harg12 arg20 x12 fh0 fs3 : Arr S1x64x4096) (ix3 0 d n) = keyE key (96000 + n.val) d := by
  unfold run.sl.v1479
  refine (load_slot 3 (by decide) le_rfl (by decide) _ _ d n).trans ?_
  unfold run.sl.HS3_1
  by_cases hn : n.val < 3968
  · refine (piece_miss 3 0 3968 3 d.val n.val _ _ _ _ _ _ _ (by omega)).trans ?_
    exact (read_hit 3 d.val n.val _ _ _ _ _ _ _ _ d.isLt hn).trans (dma179_apply hk d ⟨n.val, hn⟩)
  · refine (piece_hit 3 0 3968 d.val n.val _ _ _ _ _ _ _ d.isLt (by omega) (Nat.zero_le _) (by omega)).trans ?_
    rw [pay181_apply, load_tail0]
    refine (ht _ _).trans (congrArg (fun z => keyE key z _) ?_)
    show 99968 + (n.val - 3968) = 96000 + n.val; omega

theorem v1495_apply (hv : Holds1 fh1 val) (ht : Tail1 x13 val) (j : Fin 72) (n : Fin 4096) : (run.sl.v1495 (F := Ideal) c arg13 harg13 arg21 x13 fh1 fs4 : Arr S1x72x4096) (ix3 0 j n) = valE val j (96000 + n.val) := by
  unfold run.sl.v1495
  refine (load_slot 3 (by decide) le_rfl (by decide) _ _ j n).trans ?_
  by_cases hj : j.val < 64
  · unfold run.sl.HS4_1
    by_cases hn : n.val < 3968
    · refine (piece_miss 3 0 3968 3 j.val n.val _ _ _ _ _ _ _ (by omega)).trans ?_
      exact (read_hit 3 j.val n.val _ _ _ _ _ _ _ _ hj hn).trans (dma179_1_apply hv ⟨j.val, hj⟩ ⟨n.val, hn⟩)
    · refine (piece_hit 3 0 3968 j.val n.val _ _ _ _ _ _ _ hj (by omega) (Nat.zero_le _) (by omega)).trans ?_
      rw [pay183_apply]
      unfold run.sl.r_77
      rw [pay182_apply, load_tail1]
      refine (ht _ _).trans (congrArg (valE val _) ?_)
      show 99968 + (n.val - 3968) = 96000 + n.val; omega
  · unfold run.sl.HS4_1
    refine (piece_miss 3 0 3968 3 j.val n.val _ _ _ _ _ _ _ (by omega)).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (read_miss 3 3 j.val n.val _ _ _ _ _ _ _ _ (.inr (.inl (by omega)))).trans ?_
    refine (read_miss 2 3 j.val n.val _ _ _ _ _ _ _ _ (.inr (.inl (by omega)))).trans ?_
    refine (read_miss 1 3 j.val n.val _ _ _ _ _ _ _ _ (.inr (.inl (by omega)))).trans ?_
    refine (read_miss 0 3 j.val n.val _ _ _ _ _ _ _ _ (.inr (.inl (by omega)))).trans ?_
    refine (ones_read 3 j.val n.val (by decide) (by omega) (by omega) _ (by omega)).trans (valE_one j _ hj).symm

end Cert.Reads

end
-- ==== Proof.KVal.lean ====
module

public import proofs.«01_k».proof.Proof.Lstm
public import proofs.«01_k».proof.Proof.Reads

@[expose] public section

/-! What the kernel's body writes to its output: the accumulator after each chunk, the quotient at the end, and with the
    predictions the rows of `Spec.out`. -/

set_option maxRecDepth 16384

noncomputable section

namespace Cert.KVal

open Idealize.ShloMosaic Idealize.ShloMosaic.TcCoe Cert.KernelIdeal Cert.KernelIdeal.Gen Cert.KernelIdeal.Launch Cert.KernelIdeal.Body Cert.Spec Cert.Math Cert.Cell Cert.Ring Cert.Chunk
  Cert.Reads Cert.Lstm

/-- The query of a row of the stacked steps. -/
def qf (I : Inp) (i : Fin 608) : Fin 64 → EReal := query I (i.val / 32) ⟨i.val % 32, Nat.mod_lt _ (by decide)⟩

theorem qf_at {I : Inp} (t : ℕ) (r : Fin 32) (h : 32 * t + r.val < 608) : qf I ⟨32 * t + r.val, h⟩ = fun d => Ideal.div (err I t r d) (nrm (err I t r)) := by
  have h1 : (32 * t + r.val) / 32 = t := by omega
  have h2 : (⟨(32 * t + r.val) % 32, Nat.mod_lt _ (by decide)⟩ : Fin 32) = r := Fin.ext (by show (32 * t + r.val) % 32 = r.val; omega)
  funext d
  show query I ((32 * t + r.val) / 32) ⟨(32 * t + r.val) % 32, _⟩ d = _
  rw [h1, h2]
  rfl

/-- The accumulator's columns, as its written pieces hold them. -/
def Acc (L : List (View.Piece (Elt Ideal) S608x128 .f32)) (f : Fin 608 → Fin 72 → EReal) : Prop :=
  ∀ (i : Fin 608) (j : Fin 72), View.canon L (ix2 i (⟨j.val, by omega⟩ : Fin 128) : S608x128.Idx) = f i j

theorem idx2 {a b : ℕ} {x y : (⟨2, ![a, b]⟩ : Shape).Idx} (h0 : (x 0).val = (y 0).val) (h1 : (x 1).val = (y 1).val) : x = y :=
  funext fun k => Fin.ext (by match k with
    | ⟨0, _⟩ => exact h0
    | ⟨1, _⟩ => exact h1)

theorem acc_cons (L : List (View.Piece (Elt Ideal) S608x128 .f32)) (f : Fin 608 → Fin 72 → EReal) (w : Arr S608x72) (h : ∀ i j, w (ix2 i j) = f i j) :
    Acc (⟨Rect.unit ![0, 0] S608x72.size inb_S608x128_S608x72_0_0, w⟩ :: L) f := fun i j => by
  rw [show (ix2 i (⟨j.val, by omega⟩ : Fin 128) : S608x128.Idx) = (Rect.unit (s := S608x128) ![0, 0] S608x72.size inb_S608x128_S608x72_0_0).emb (ix2 i j) from
    idx2 (by show i.val = 0 + 1 * i.val; omega) (by show j.val = 0 + 1 * j.val; omega)]
  exact (View.canon_cons_emb (Val := Elt Ideal) (Rect.unit (s := S608x128) ![0, 0] S608x72.size inb_S608x128_S608x72_0_0) w L (ix2 i j)).trans (h i j)

theorem acc_read {arg19 : Memref sig .tc .vmem S608x128 .f32} {L : List (View.Piece (Elt Ideal) S608x128 .f32)} {f : Fin 608 → Fin 72 → EReal} (h : Acc L f) (i : Fin 608) (j : Fin 72) :
    (arg19.view.readCov L (Rect.unit (s := S608x128) ![0, 0] S608x72.size inb_S608x128_S608x72_0_0).toLoadRect : Arr S608x72) (ix2 i j) = f i j := by
  rw [View.readCov_eq_canon']
  refine Eq.trans (congrArg (View.canon L) ?_) (h i j)
  exact idx2 (by show 0 + 1 * i.val = i.val; omega) (by show 0 + 1 * j.val = j.val; omega)

theorem pay146_apply (i : Fin 608) (j : Fin 128) : (k0_pay146 (F := Ideal) : Arr S608x128) (ix2 i j) = 0 := by
  have h : (k0_pay146 (F := Ideal) : Arr S608x128) (ix2 i j) = Ideal.ofBits .f32 0x00000000#32 := by pointwise [k0_pay146]
  exact h.trans zero_bits

theorem HS2_1_acc {I : Inp} {key val : Fin 100000 → Fin 64 → EReal} : Acc (run.sl.HS2_1 (F := Ideal)) (fun i j => total key val (qf I i) j 0) := fun i j => by
  unfold run.sl.HS2_1
  rw [show (ix2 i (⟨j.val, by omega⟩ : Fin 128) : S608x128.Idx) = (Rect.unit (s := S608x128) ![0, 0] S608x128.size inb_S608x128_S608x128_0_0).emb (ix2 i ⟨j.val, by omega⟩) from
    idx2 (by show i.val = 0 + 1 * i.val; omega) (by show j.val = 0 + 1 * j.val; omega)]
  refine (View.canon_cons_emb (Val := Elt Ideal) (Rect.unit (s := S608x128) ![0, 0] S608x128.size inb_S608x128_S608x128_0_0) (show (Rect.unit (s := S608x128) ![0, 0] S608x128.size inb_S608x128_S608x128_0_0).shape.Idx → Elt Ideal .f32 from k0_pay146 (F := Ideal)) [] (ix2 i ⟨j.val, by omega⟩)).trans ?_
  exact pay146_apply i _

theorem chunk_step {I : Inp} {key val : Fin 100000 → Fin 64 → EReal} (o : ℕ) (q : QArr) (kb : Arr S1x64x6400) (vb : Arr S1x72x6400) (acc : Arr S608x72)
    (hq : ∀ i k, q (ix2 i k) = qf I i k) (hk : ∀ d n, kb (ix3 0 d n) = keyE key (o + n.val) d) (hv : ∀ j n, vb (ix3 0 j n) = valE val j (o + n.val))
    (ha : ∀ i j, acc (ix2 i j) = total key val (qf I i) j o) (i : Fin 608) (j : Fin 72) :
    chunkV q kb vb acc (ix2 i j) = total key val (qf I i) j (o + 6400) := by
  rw [chunkV_apply, ha]
  simp only [hq, hk, hv]
  exact total_add key val (qf I i) j o 6400

theorem last_step {I : Inp} {key val : Fin 100000 → Fin 64 → EReal} (o : ℕ) (q : QArr) (kb : Arr S1x64x4096) (vb : Arr S1x72x4096) (acc : Arr S608x72)
    (hq : ∀ i k, q (ix2 i k) = qf I i k) (hk : ∀ d n, kb (ix3 0 d n) = keyE key (o + n.val) d) (hv : ∀ j n, vb (ix3 0 j n) = valE val j (o + n.val))
    (ha : ∀ i j, acc (ix2 i j) = total key val (qf I i) j o) (i : Fin 608) (j : Fin 72) :
    k0_pay184 q k0_pay148 kb vb acc (ix2 i j) = total key val (qf I i) j (o + 4096) := by
  rw [last_apply, ha]
  simp only [hq, hk, hv]
  exact total_add key val (qf I i) j o 4096

theorem pay185_apply (l : Arr S608x1) (a : Arr S608x64) (i : Fin 608) (d : Fin 64) :
    (k0_pay185 (F := Ideal) l a : Arr S608x64) (ix2 i d) = Ideal.div (a (ix2 i d)) (l (ix2 i 0) - ((96 : ℝ) : EReal)) := by
  rw [← bits_96]
  pointwise [k0_pay185]

theorem pay1_apply (a b : Arr S608x64) (i : Fin 608) (d : Fin 64) : (k0_pay1 (F := Ideal) a b : Arr S608x64) (ix2 i d) = b (ix2 i d) + a (ix2 i d) := by
  pointwise [k0_pay1]

variable {c : Dev nD} {arg0 : Memref sig .tc .vmem S640x64 .f32} {harg0 : arg0.IsWhole}
    {arg1 : Memref sig .tc .vmem S640x64 .f32} {harg1 : arg1.IsWhole}
    {arg2 : Memref sig .tc .vmem S32x128 .f32} {harg2 : arg2.IsWhole}
    {arg3 : Memref sig .tc .vmem S32x128 .f32} {harg3 : arg3.IsWhole}
    {arg4 : Memref sig .tc .vmem S128x64 .f32} {harg4 : arg4.IsWhole}
    {arg5 : Memref sig .tc .vmem S1x128 .f32} {harg5 : arg5.IsWhole}
    {arg6 : Memref sig .tc .vmem S512x128 .f32} {harg6 : arg6.IsWhole}
    {arg7 : Memref sig .tc .vmem S512x128 .f32} {harg7 : arg7.IsWhole}
    {arg8 : Memref sig .tc .vmem S1x512 .f32} {harg8 : arg8.IsWhole}
    {arg9 : Memref sig .tc .vmem S1x512 .f32} {harg9 : arg9.IsWhole}
    {arg10 : Memref sig .tc .vmem S64x128 .f32} {harg10 : arg10.IsWhole}
    {arg11 : Memref sig .tc .vmem S1x64 .f32} {harg11 : arg11.IsWhole}
    {arg12 : Memref sig .tc .vmem S64x128 .f32} {harg12 : arg12.IsWhole}
    {arg13 : Memref sig .tc .vmem S64x128 .f32} {harg13 : arg13.IsWhole}
    {arg17 : Memref sig .tc .vmem S608x64 .f32} {arg18 : Memref sig .tc .vmem S640x64 .f32} {arg19 : Memref sig .tc .vmem S608x128 .f32} {arg20 : Memref sig .tc .vmem S4x64x6400 .f32} {arg21 : Memref sig .tc .vmem S4x72x6400 .f32}
    {x0 : Arr S640x64} {x1 : Arr S640x64} {x2 : Arr S32x128} {x3 : Arr S32x128} {x4 : Arr S128x64} {x5 : Arr S1x128} {x6 : Arr S512x128} {x7 : Arr S512x128} {x8 : Arr S1x512} {x9 : Arr S1x512} {x10 : Arr S64x128} {x11 : Arr S1x64} {x12 : Arr S64x128} {x13 : Arr S64x128} {key val : Fin 100000 → Fin 64 → EReal}
    {fh0 : HbBuf0 (F := Ideal) c hbM0_0} {fh1 : HbBuf0 (F := Ideal) c hbM0_1}
    {fs3 : Buf (Elt Ideal) (arg20.view.loc (c : Thread nD τ))} {fs4 : Buf (Elt Ideal) (arg21.view.loc (c : Thread nD τ))}

theorem r59_apply (i : Fin 608) (k : Fin 64) : (run.sl.r_59 (F := Ideal) c arg0 harg0 arg1 harg1 arg2 harg2 arg3 harg3 arg4 harg4 arg5 harg5 arg6 harg6 arg7 harg7 arg8 harg8 arg9 harg9 arg10 harg10 arg11 harg11 arg17 x0 x1 x2 x3 x4 x5 x6 x7 x8 x9 x10 x11 : QArr) (ix2 i k) = qf (inpOf x0 x1 x2 x3 x4 x5 x6 x7 x8 x9 x10 x11 key val) i k := by
  unfold run.sl.r_59 run.sl.v801
  show (arg17.view.readCov (Val := Elt Ideal) (run.sl.HS0_19 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 x9 x10 x11) (Rect.unit (s := S608x64) ![0, 0] S608x64.size inb_S608x64_S608x64_0_0).toLoadRect : Arr S608x64) (ix2 i k) = _
  rw [View.readCov_eq_canon']
  refine Eq.trans (congrArg (View.canon _) ?_) (HS0_19_rows (key := key) (val := val) (i.val / 32) (by omega) ⟨i.val % 32, Nat.mod_lt _ (by decide)⟩ k (by show 32 * (i.val / 32) + i.val % 32 < 608; omega))
  exact idx2 (by show 0 + 1 * i.val = 32 * (i.val / 32) + i.val % 32; omega) (by show 0 + 1 * k.val = k.val; omega)

theorem v843_apply  (i : Fin 608) (j : Fin 72) : (run.sl.v843 (F := Ideal) c arg19 : Arr S608x72) (ix2 i j) = total key val (qf (inpOf x0 x1 x2 x3 x4 x5 x6 x7 x8 x9 x10 x11 key val) i) j 0 := by
  unfold run.sl.v843
  exact acc_read (HS2_1_acc (I := (inpOf x0 x1 x2 x3 x4 x5 x6 x7 x8 x9 x10 x11 key val)) (key := key) (val := val)) i j

theorem HS2_2_acc (hk : Holds0 fh0 key) (hv : Holds1 fh1 val) : Acc (run.sl.HS2_2 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 6400) := by
  unfold run.sl.HS2_2 run.sl.r_60 run.sl.r_61
  exact acc_cons _ _ _ fun i j => (congrFun (form151 _ _ _ _) _).trans (chunk_step 0 _ _ _ _ (r59_apply (key := key) (val := val)) (v824_apply hk) (v840_apply hv) (v843_apply ) i j)

theorem v888_apply (hk : Holds0 fh0 key) (hv : Holds1 fh1 val) (i : Fin 608) (j : Fin 72) : (run.sl.v888 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 6400 := by
  unfold run.sl.v888
  exact acc_read ((HS2_2_acc (x1 := x1) hk hv) ) i j

theorem HS2_3_acc (hk : Holds0 fh0 key) (hv : Holds1 fh1 val) : Acc (run.sl.HS2_3 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 12800) := by
  unfold run.sl.HS2_3 run.sl.r_62
  exact acc_cons _ _ _ fun i j => (congrFun (form153 _ _ _ _) _).trans (chunk_step 6400 _ _ _ _ (r59_apply (key := key) (val := val)) (v869_apply hk) (v885_apply hv) (v888_apply hk hv) i j)

theorem v933_apply (hk : Holds0 fh0 key) (hv : Holds1 fh1 val) (i : Fin 608) (j : Fin 72) : (run.sl.v933 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 12800 := by
  unfold run.sl.v933
  exact acc_read ((HS2_3_acc (x1 := x1) hk hv) ) i j

theorem HS2_4_acc (hk : Holds0 fh0 key) (hv : Holds1 fh1 val) : Acc (run.sl.HS2_4 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 19200) := by
  unfold run.sl.HS2_4 run.sl.r_63 run.sl.r_64
  exact acc_cons _ _ _ fun i j => (congrFun (form156 _ _ _ _) _).trans (chunk_step 12800 _ _ _ _ (r59_apply (key := key) (val := val)) (v914_apply hk) (v930_apply hv) (v933_apply hk hv) i j)

theorem v978_apply (hk : Holds0 fh0 key) (hv : Holds1 fh1 val) (i : Fin 608) (j : Fin 72) : (run.sl.v978 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 19200 := by
  unfold run.sl.v978
  exact acc_read ((HS2_4_acc (x1 := x1) hk hv) ) i j

theorem HS2_5_acc (hk : Holds0 fh0 key) (hv : Holds1 fh1 val) : Acc (run.sl.HS2_5 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 25600) := by
  unfold run.sl.HS2_5 run.sl.r_65 run.sl.r_66 run.sl.cst_417
  exact acc_cons _ _ _ fun i j => (congrFun (form159 _ _ _ _) _).trans (chunk_step 19200 _ _ _ _ (r59_apply (key := key) (val := val)) (v959_apply hk) (v975_apply hv) (v978_apply hk hv) i j)

theorem v1023_apply (hk : Holds0 fh0 key) (hv : Holds1 fh1 val) (i : Fin 608) (j : Fin 72) : (run.sl.v1023 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 25600 := by
  unfold run.sl.v1023
  exact acc_read ((HS2_5_acc (x1 := x1) hk hv) ) i j

theorem HS2_6_acc (hk : Holds0 fh0 key) (hv : Holds1 fh1 val) : Acc (run.sl.HS2_6 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 32000) := by
  unfold run.sl.HS2_6
  exact acc_cons _ _ _ fun i j => (congrFun (form160 _ _ _ _) _).trans (chunk_step 25600 _ _ _ _ (r59_apply (key := key) (val := val)) (v1004_apply hk) (v1020_apply hv) (v1023_apply hk hv) i j)

theorem v1068_apply (hk : Holds0 fh0 key) (hv : Holds1 fh1 val) (i : Fin 608) (j : Fin 72) : (run.sl.v1068 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 32000 := by
  unfold run.sl.v1068
  exact acc_read ((HS2_6_acc (x1 := x1) hk hv) ) i j

theorem HS2_7_acc (hk : Holds0 fh0 key) (hv : Holds1 fh1 val) : Acc (run.sl.HS2_7 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 38400) := by
  unfold run.sl.HS2_7 run.sl.r_67
  exact acc_cons _ _ _ fun i j => (congrFun (form162 _ _ _ _) _).trans (chunk_step 32000 _ _ _ _ (r59_apply (key := key) (val := val)) (v1049_apply hk) (v1065_apply hv) (v1068_apply hk hv) i j)

theorem v1113_apply (hk : Holds0 fh0 key) (hv : Holds1 fh1 val) (i : Fin 608) (j : Fin 72) : (run.sl.v1113 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 38400 := by
  unfold run.sl.v1113
  exact acc_read ((HS2_7_acc (x1 := x1) hk hv) ) i j

theorem HS2_8_acc (hk : Holds0 fh0 key) (hv : Holds1 fh1 val) : Acc (run.sl.HS2_8 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 44800) := by
  unfold run.sl.HS2_8
  exact acc_cons _ _ _ fun i j => (congrFun (form163 _ _ _ _) _).trans (chunk_step 38400 _ _ _ _ (r59_apply (key := key) (val := val)) (v1094_apply hk) (v1110_apply hv) (v1113_apply hk hv) i j)

theorem v1158_apply (hk : Holds0 fh0 key) (hv : Holds1 fh1 val) (i : Fin 608) (j : Fin 72) : (run.sl.v1158 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 44800 := by
  unfold run.sl.v1158
  exact acc_read ((HS2_8_acc (x1 := x1) hk hv) ) i j

theorem HS2_9_acc (hk : Holds0 fh0 key) (hv : Holds1 fh1 val) : Acc (run.sl.HS2_9 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 51200) := by
  unfold run.sl.HS2_9 run.sl.r_68
  exact acc_cons _ _ _ fun i j => (congrFun (form165 _ _ _ _) _).trans (chunk_step 44800 _ _ _ _ (r59_apply (key := key) (val := val)) (v1139_apply hk) (v1155_apply hv) (v1158_apply hk hv) i j)

theorem v1203_apply (hk : Holds0 fh0 key) (hv : Holds1 fh1 val) (i : Fin 608) (j : Fin 72) : (run.sl.v1203 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 51200 := by
  unfold run.sl.v1203
  exact acc_read ((HS2_9_acc (x1 := x1) hk hv) ) i j

theorem HS2_10_acc (hk : Holds0 fh0 key) (hv : Holds1 fh1 val) : Acc (run.sl.HS2_10 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 57600) := by
  unfold run.sl.HS2_10
  exact acc_cons _ _ _ fun i j => (congrFun (form166 _ _ _ _) _).trans (chunk_step 51200 _ _ _ _ (r59_apply (key := key) (val := val)) (v1184_apply hk) (v1200_apply hv) (v1203_apply hk hv) i j)

theorem v1248_apply (hk : Holds0 fh0 key) (hv : Holds1 fh1 val) (i : Fin 608) (j : Fin 72) : (run.sl.v1248 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 57600 := by
  unfold run.sl.v1248
  exact acc_read ((HS2_10_acc (x1 := x1) hk hv) ) i j

theorem HS2_11_acc (hk : Holds0 fh0 key) (hv : Holds1 fh1 val) : Acc (run.sl.HS2_11 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 64000) := by
  unfold run.sl.HS2_11 run.sl.r_69 run.sl.r_70
  exact acc_cons _ _ _ fun i j => (congrFun (form169 _ _ _ _) _).trans (chunk_step 57600 _ _ _ _ (r59_apply (key := key) (val := val)) (v1229_apply hk) (v1245_apply hv) (v1248_apply hk hv) i j)

theorem v1293_apply (hk : Holds0 fh0 key) (hv : Holds1 fh1 val) (i : Fin 608) (j : Fin 72) : (run.sl.v1293 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 64000 := by
  unfold run.sl.v1293
  exact acc_read ((HS2_11_acc (x1 := x1) hk hv) ) i j

theorem HS2_12_acc (hk : Holds0 fh0 key) (hv : Holds1 fh1 val) : Acc (run.sl.HS2_12 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 70400) := by
  unfold run.sl.HS2_12
  exact acc_cons _ _ _ fun i j => (congrFun (form170 _ _ _ _) _).trans (chunk_step 64000 _ _ _ _ (r59_apply (key := key) (val := val)) (v1274_apply hk) (v1290_apply hv) (v1293_apply hk hv) i j)

theorem v1338_apply (hk : Holds0 fh0 key) (hv : Holds1 fh1 val) (i : Fin 608) (j : Fin 72) : (run.sl.v1338 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 70400 := by
  unfold run.sl.v1338
  exact acc_read ((HS2_12_acc (x1 := x1) hk hv) ) i j

theorem HS2_13_acc (hk : Holds0 fh0 key) (hv : Holds1 fh1 val) : Acc (run.sl.HS2_13 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 76800) := by
  unfold run.sl.HS2_13 run.sl.r_71 run.sl.r_72
  exact acc_cons _ _ _ fun i j => (congrFun (form173 _ _ _ _) _).trans (chunk_step 70400 _ _ _ _ (r59_apply (key := key) (val := val)) (v1319_apply hk) (v1335_apply hv) (v1338_apply hk hv) i j)

theorem v1383_apply (hk : Holds0 fh0 key) (hv : Holds1 fh1 val) (i : Fin 608) (j : Fin 72) : (run.sl.v1383 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 76800 := by
  unfold run.sl.v1383
  exact acc_read ((HS2_13_acc (x1 := x1) hk hv) ) i j

theorem HS2_14_acc (hk : Holds0 fh0 key) (hv : Holds1 fh1 val) : Acc (run.sl.HS2_14 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 83200) := by
  unfold run.sl.HS2_14 run.sl.r_73
  exact acc_cons _ _ _ fun i j => (congrFun (form175 _ _ _ _) _).trans (chunk_step 76800 _ _ _ _ (r59_apply (key := key) (val := val)) (v1364_apply hk) (v1380_apply hv) (v1383_apply hk hv) i j)

theorem v1418_apply (hk : Holds0 fh0 key) (hv : Holds1 fh1 val) (i : Fin 608) (j : Fin 72) : (run.sl.v1418 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 83200 := by
  unfold run.sl.v1418
  exact acc_read ((HS2_14_acc (x1 := x1) hk hv) ) i j

theorem HS2_15_acc (hk : Holds0 fh0 key) (hv : Holds1 fh1 val) : Acc (run.sl.HS2_15 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 89600) := by
  unfold run.sl.HS2_15 run.sl.r_74 run.sl.r_75
  exact acc_cons _ _ _ fun i j => (congrFun (form178 _ _ _ _) _).trans (chunk_step 83200 _ _ _ _ (r59_apply (key := key) (val := val)) (v1399_apply hk) (v1415_apply hv) (v1418_apply hk hv) i j)

theorem v1453_apply (hk : Holds0 fh0 key) (hv : Holds1 fh1 val) (i : Fin 608) (j : Fin 72) : (run.sl.v1453 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 89600 := by
  unfold run.sl.v1453
  exact acc_read ((HS2_15_acc (x1 := x1) hk hv) ) i j

theorem HS2_16_acc (hk : Holds0 fh0 key) (hv : Holds1 fh1 val) : Acc (run.sl.HS2_16 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4) (fun i j => total key val (qf (inpOf x0 x1 x2 x3 x4 x5 x6 x7 x8 x9 x10 x11 key val) i) j 96000) := by
  unfold run.sl.HS2_16 run.sl.r_76
  exact acc_cons _ _ _ fun i j => (congrFun (form180 _ _ _ _) _).trans (chunk_step 89600 _ _ _ _ (r59_apply (key := key) (val := val)) (v1434_apply hk) (v1450_apply hv) (v1453_apply hk hv) i j)

theorem v1498_apply (hk : Holds0 fh0 key) (hv : Holds1 fh1 val) (i : Fin 608) (j : Fin 72) : (run.sl.v1498 (F := Ideal) c arg0 harg0 arg1 harg1 arg2 harg2 arg3 harg3 arg4 harg4 arg5 harg5 arg6 harg6 arg7 harg7 arg8 harg8 arg9 harg9 arg10 harg10 arg11 harg11 arg17 arg19 arg20 arg21 x0 x1 x2 x3 x4 x5 x6 x7 x8 x9 x10 x11 fh0 fh1 fs3 fs4 : Arr S608x72) (ix2 i j) = total key val (qf (inpOf x0 x1 x2 x3 x4 x5 x6 x7 x8 x9 x10 x11 key val) i) j 96000 := by
  unfold run.sl.v1498
  exact acc_read ((HS2_16_acc (x1 := x1) hk hv) ) i j

theorem HS2_17_acc (hk : Holds0 fh0 key) (hv : Holds1 fh1 val) (ht0 : Tail0 x12 key) (ht1 : Tail1 x13 val) : Acc (run.sl.HS2_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg17 arg19 arg20 arg21 x0 x1 x2 x3 x4 x5 x6 x7 x8 x9 x10 x11 x12 x13 fh0 fh1 fs3 fs4) (fun i j => total key val (qf (inpOf x0 x1 x2 x3 x4 x5 x6 x7 x8 x9 x10 x11 key val) i) j 100096) := by
  unfold run.sl.HS2_17
  exact acc_cons _ _ _ fun i j => last_step 96000 _ _ _ _ (r59_apply (key := key) (val := val)) (v1479_apply hk ht0) (v1495_apply hv ht1) (v1498_apply hk hv) i j

theorem v1510_apply (r : Fin 32) (d : Fin 64) : (run.sl.v1510 (F := Ideal) c arg0 harg0 arg2 harg2 arg3 harg3 arg4 harg4 arg5 harg5 arg6 harg6 arg7 harg7 arg8 harg8 arg9 harg9 arg10 harg10 arg11 harg11 arg18 x0 x2 x3 x4 x5 x6 x7 x8 x9 x10 x11 : Arr S32x64) (ix2 r d) = pred (inpOf x0 x1 x2 x3 x4 x5 x6 x7 x8 x9 x10 x11 key val) 0 r d := by
  unfold run.sl.v1510
  rw [View.readCov_eq_canon']
  refine Eq.trans (congrArg (View.canon _) ?_) (HS1_20_rows (x1 := x1) (key := key) (val := val) 0 (by decide) r d (by omega))
  exact idx2 (by show 0 + 1 * r.val = 32 * 0 + r.val; omega) (by show 0 + 1 * d.val = d.val; omega)

theorem v1512_apply (t : ℕ) (ht : t < 19) (r : Fin 32) (d : Fin 64) :
    (run.sl.v1512 (F := Ideal) c arg0 harg0 arg2 harg2 arg3 harg3 arg4 harg4 arg5 harg5 arg6 harg6 arg7 harg7 arg8 harg8 arg9 harg9 arg10 harg10 arg11 harg11 arg18 x0 x2 x3 x4 x5 x6 x7 x8 x9 x10 x11 : Arr S608x64) (ix2 ⟨32 * t + r.val, by omega⟩ d) = pred (inpOf x0 x1 x2 x3 x4 x5 x6 x7 x8 x9 x10 x11 key val) (t + 1) r d := by
  unfold run.sl.v1512
  rw [View.readCov_eq_canon']
  refine Eq.trans (congrArg (View.canon _) ?_) (HS1_20_rows (x1 := x1) (key := key) (val := val) (t + 1) (by omega) r d (by omega))
  exact idx2 (by show 32 + 1 * (32 * t + r.val) = 32 * (t + 1) + r.val; omega) (by show 0 + 1 * d.val = d.val; omega)

theorem v1504_apply (hk : Holds0 fh0 key) (hv : Holds1 fh1 val) (ht0 : Tail0 x12 key) (ht1 : Tail1 x13 val) (i : Fin 608) :
    (run.sl.v1504 (F := Ideal) c arg0 harg0 arg1 harg1 arg2 harg2 arg3 harg3 arg4 harg4 arg5 harg5 arg6 harg6 arg7 harg7 arg8 harg8 arg9 harg9 arg10 harg10 arg11 harg11 arg12 harg12 arg13 harg13 arg17 arg19 arg20 arg21 x0 x1 x2 x3 x4 x5 x6 x7 x8 x9 x10 x11 x12 x13 fh0 fh1 fs3 fs4 : Arr S608x1) (ix2 i 0) = total key val (qf (inpOf x0 x1 x2 x3 x4 x5 x6 x7 x8 x9 x10 x11 key val) i) ⟨64, by decide⟩ 100096 := by
  unfold run.sl.v1504
  rw [View.readCov_eq_canon']
  refine Eq.trans (congrArg (View.canon _) ?_) (HS2_17_acc (x1 := x1) hk hv ht0 ht1 i ⟨64, by decide⟩)
  exact idx2 (by show 0 + 1 * i.val = i.val; omega) (by show 64 + 1 * 0 = 64; rfl)

theorem v1507_apply (hk : Holds0 fh0 key) (hv : Holds1 fh1 val) (ht0 : Tail0 x12 key) (ht1 : Tail1 x13 val) (i : Fin 608) (d : Fin 64) :
    (run.sl.v1507 (F := Ideal) c arg0 harg0 arg1 harg1 arg2 harg2 arg3 harg3 arg4 harg4 arg5 harg5 arg6 harg6 arg7 harg7 arg8 harg8 arg9 harg9 arg10 harg10 arg11 harg11 arg12 harg12 arg13 harg13 arg17 arg19 arg20 arg21 x0 x1 x2 x3 x4 x5 x6 x7 x8 x9 x10 x11 x12 x13 fh0 fh1 fs3 fs4 : Arr S608x64) (ix2 i d) = total key val (qf (inpOf x0 x1 x2 x3 x4 x5 x6 x7 x8 x9 x10 x11 key val) i) ⟨d.val, by omega⟩ 100096 := by
  unfold run.sl.v1507
  rw [View.readCov_eq_canon']
  refine Eq.trans (congrArg (View.canon _) ?_) (HS2_17_acc (x1 := x1) hk hv ht0 ht1 i ⟨d.val, by omega⟩)
  exact idx2 (by show 0 + 1 * i.val = i.val; omega) (by show 0 + 1 * d.val = d.val; omega)

/-- The memory read of a row. -/
theorem r78_apply (hk : Holds0 fh0 key) (hv : Holds1 fh1 val) (ht0 : Tail0 x12 key) (ht1 : Tail1 x13 val) (t : ℕ) (ht : t < 19) (r : Fin 32) (d : Fin 64) :
    (run.sl.r_78 (F := Ideal) c arg0 harg0 arg1 harg1 arg2 harg2 arg3 harg3 arg4 harg4 arg5 harg5 arg6 harg6 arg7 harg7 arg8 harg8 arg9 harg9 arg10 harg10 arg11 harg11 arg12 harg12 arg13 harg13 arg17 arg19 arg20 arg21 x0 x1 x2 x3 x4 x5 x6 x7 x8 x9 x10 x11 x12 x13 fh0 fh1 fs3 fs4 : Arr S608x64) (ix2 ⟨32 * t + r.val, by omega⟩ d) = Spec.read (inpOf x0 x1 x2 x3 x4 x5 x6 x7 x8 x9 x10 x11 key val) (err (inpOf x0 x1 x2 x3 x4 x5 x6 x7 x8 x9 x10 x11 key val) t r) d := by
  unfold run.sl.r_78
  rw [pay185_apply, v1504_apply hk hv ht0 ht1, v1507_apply hk hv ht0 ht1, qf_at t r (by omega)]
  exact read_eq (inpOf x0 x1 x2 x3 x4 x5 x6 x7 x8 x9 x10 x11 key val) (err (inpOf x0 x1 x2 x3 x4 x5 x6 x7 x8 x9 x10 x11 key val) t r) d

/-- What the pieces written to the output hold: every step's row. -/
theorem out_rows (hk : Holds0 fh0 key) (hv : Holds1 fh1 val) (ht0 : Tail0 x12 key) (ht1 : Tail1 x13 val) (t : ℕ) (ht : t < 20) (r : Fin 32) (d : Fin 64) :
    View.canon (run.sl.H14_2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg17 arg18 arg19 arg20 arg21 x0 x1 x2 x3 x4 x5 x6 x7 x8 x9 x10 x11 x12 x13 fh0 fh1 fs3 fs4) (ix2 ⟨32 * t + r.val, by omega⟩ d) = Spec.out (inpOf x0 x1 x2 x3 x4 x5 x6 x7 x8 x9 x10 x11 key val) t r d := by
  unfold run.sl.H14_2
  match t, ht with
  | 0, ht =>
    rw [View.canon_cons_of_not_mem _ _ fun hm => ?_]
    · rw [idx2 (x := (ix2 _ d : S640x64.Idx)) (y := (Rect.unit (s := S640x64) ![0, 0] ![32, 64] inb_S640x64_S32x64_0_0).emb (ix2 r d)) (by show 32 * 0 + r.val = 0 + 1 * r.val; omega) (by show d.val = 0 + 1 * d.val; omega)]
      exact (View.canon_cons_emb (Val := Elt Ideal) (Rect.unit (s := S640x64) ![0, 0] ![32, 64] inb_S640x64_S32x64_0_0) _ [] (ix2 r d)).trans (v1510_apply (x1 := x1) (key := key) (val := val) r d)
    · obtain ⟨x, hx⟩ := (Rect.unit (s := S640x64) ![32, 0] ![608, 64] inb_S640x64_S608x64_32_0).exists_idx_of_mem hm
      have h0 : 32 + 1 * (x 0).val = 32 * 0 + r.val := congrArg (fun z : S640x64.Idx => (z 0).val) hx
      have := r.isLt
      omega
  | t + 1, ht =>
    rw [idx2 (x := (ix2 _ d : S640x64.Idx)) (y := (Rect.unit (s := S640x64) ![32, 0] ![608, 64] inb_S640x64_S608x64_32_0).emb (ix2 (⟨32 * t + r.val, by omega⟩ : Fin 608) d)) (by show 32 * (t + 1) + r.val = 32 + 1 * (32 * t + r.val); omega) (by show d.val = 0 + 1 * d.val; omega)]
    refine (View.canon_cons_emb (Val := Elt Ideal) (Rect.unit (s := S640x64) ![32, 0] ![608, 64] inb_S640x64_S608x64_32_0) _ _ (ix2 (⟨32 * t + r.val, by omega⟩ : Fin 608) d)).trans ?_
    rw [pay1_apply, v1512_apply (x1 := x1) (key := key) (val := val) t (by omega), r78_apply hk hv ht0 ht1 t (by omega)]
    rfl

end Cert.KVal

end
-- ==== Proof.Args.lean ====
module

public import proofs.«01_k».proof.Proof.Cell

@[expose] public section

/-! The inputs of `Spec`, from the fourteen argument arrays both programs take. -/

noncomputable section

namespace Cert.Args

open Idealize.ShloMosaic Cert.Spec
open Cert.Cell (Arr)

/-- The inputs the argument arrays hold. -/
def inp (a0 a1 : Arr ⟨3, ![32, 20, 64]⟩) (a2 a3 : Arr ⟨3, ![1, 32, 128]⟩) (a4 : Arr ⟨2, ![128, 64]⟩) (a5 : Arr ⟨1, ![128]⟩)
    (a6 a7 : Arr ⟨2, ![512, 128]⟩) (a8 a9 : Arr ⟨1, ![512]⟩) (a10 : Arr ⟨2, ![64, 128]⟩) (a11 : Arr ⟨1, ![64]⟩)
    (a12 a13 : Arr ⟨2, ![100000, 64]⟩) : Inp where
  x r t k := if h : t < 20 then a0 (ix3 r ⟨t, h⟩ k) else 0
  trg r t k := if h : t < 20 then a1 (ix3 r ⟨t, h⟩ k) else 0
  h0 r d := a2 (ix3 0 r d)
  c0 r d := a3 (ix3 0 r d)
  ew d k := a4 (ix2 d k)
  eb d := a5 (ix1 d)
  wi g d := a6 (ix2 g d)
  wh g d := a7 (ix2 g d)
  bi g := a8 (ix1 g)
  bh g := a9 (ix1 g)
  ow d e := a10 (ix2 d e)
  ob d := a11 (ix1 d)
  key n d := a12 (ix2 n d)
  val n d := a13 (ix2 n d)

/-- The array both programs return. -/
def result (I : Inp) : Arr ⟨3, ![32, 20, 64]⟩ := fun i => Spec.out I (i 1).val (i 0) (i 2)

theorem ext3 {a b c : ℕ} {f g : Arr ⟨3, ![a, b, c]⟩} (h : ∀ x y z, f (ix3 x y z) = g (ix3 x y z)) : f = g := by
  funext i
  rw [show i = ix3 (i 0) (i 1) (i 2) from by
    funext k; match k with
    | ⟨0, _⟩ => rfl
    | ⟨1, _⟩ => rfl
    | ⟨2, _⟩ => rfl]
  exact h _ _ _

end Cert.Args

end
-- ==== Proof.Host.lean ====
module

public import proofs.«01_k».proof.Proof.Reads
public import proofs.«01_k».proof.Proof.Args
public import Idealize.ShloMosaic.Lib.Claim

@[expose] public section

/-! What the operations before the kernel leave in each array it reads, entry by entry of the arguments; and what the
    operations after it make of the array it writes. -/

set_option maxRecDepth 16384

noncomputable section

namespace Cert.Host

open Idealize.ShloMosaic Idealize.ShloMosaic.TcCoe Cert.KernelIdeal Cert.KernelIdeal.Gen Cert.KernelIdeal.Launch Cert.Spec Cert.Math Cert.Chunk Cert.Reads
open Cert.Cell (Arr)

variable (m : (ℓ : Loc nD τ sig) → Buf (Elt Ideal) ℓ) (c : Dev nD)

/-- The arguments on one core. -/
abbrev A (b : Ref sig .tc) : Buf (Elt Ideal) ((c : Thread nD τ).loc b) := m ((c : Thread nD τ).loc b)

/-- Moving the steps of a `32 × 20` stack outermost and flattening. -/
theorem flat_apply (a : Arr S32x20x64) (i : Fin 640) (k : Fin 64) :
    (shapeCast S640x64 (transpose S20x32x64 [1, 0, 2] a transposes_S32x20x64_S20x32x64_1_0_2) shapeCasts_S20x32x64_S640x64 : Arr S640x64) (ix2 i k)
      = a (ix3 ⟨i.val % 32, Nat.mod_lt _ (by decide)⟩ ⟨i.val / 32, by omega⟩ k) := by
  pointwise []

theorem v1_eq : V m c main_v1 = (shapeCast S640x64 (transpose S20x32x64 [1, 0, 2] (A m c main_arg0 : Arr S32x20x64) transposes_S32x20x64_S20x32x64_1_0_2) shapeCasts_S20x32x64_S640x64 : Arr S640x64) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v3_eq : V m c main_v3 = (shapeCast S640x64 (transpose S20x32x64 [1, 0, 2] (A m c main_arg1 : Arr S32x20x64) transposes_S32x20x64_S20x32x64_1_0_2) shapeCasts_S20x32x64_S640x64 : Arr S640x64) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v6_eq : V m c main_v6 = (pad S64x128 ![0, 0] ![0, 96] ![0, 0] (transpose S64x32 [1, 0] (extractStridedSlice S32x64 ![99968, 0] (A m c main_arg12 : Arr S100000x64) slices_S100000x64_S32x64_99968_0) transposes_S32x64_S64x32_1_0) (sitofp (F := Ideal) .f32 (constantI S_ 32 0#32)) pads_S64x32_S64x128_000_0960 h_S_ : Arr S64x128) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v9_eq : V m c main_v9 = (pad S64x128 ![0, 0] ![0, 96] ![0, 0] (transpose S64x32 [1, 0] (extractStridedSlice S32x64 ![99968, 0] (A m c main_arg13 : Arr S100000x64) slices_S100000x64_S32x64_99968_0) transposes_S32x64_S64x32_1_0) (sitofp (F := Ideal) .f32 (constantI S_ 32 0#32)) pads_S64x32_S64x128_000_0960 h_S_ : Arr S64x128) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v10_eq : V m c main_v10 = (shapeCast S32x128 (A m c main_arg2 : Arr S1x32x128) shapeCasts_S1x32x128_S32x128 : Arr S32x128) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v11_eq : V m c main_v11 = (shapeCast S32x128 (A m c main_arg3 : Arr S1x32x128) shapeCasts_S1x32x128_S32x128 : Arr S32x128) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v12_eq : V m c main_v12 = (shapeCast S1x128 (A m c main_arg5 : Arr S128) shapeCasts_S128_S1x128 : Arr S1x128) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v13_eq : V m c main_v13 = (shapeCast S1x512 (A m c main_arg8 : Arr S512) shapeCasts_S512_S1x512 : Arr S1x512) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v14_eq : V m c main_v14 = (shapeCast S1x512 (A m c main_arg9 : Arr S512) shapeCasts_S512_S1x512 : Arr S1x512) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v15_eq : V m c main_v15 = (shapeCast S1x64 (A m c main_arg11 : Arr S64) shapeCasts_S64_S1x64 : Arr S1x64) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v16_eq : V m c main_v16 = (transpose S64x100000 [1, 0] (A m c main_arg12 : Arr S100000x64) transposes_S100000x64_S64x100000_1_0 : Arr S64x100000) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem v17_eq : V m c main_v17 = (transpose S64x100000 [1, 0] (A m c main_arg13 : Arr S100000x64) transposes_S100000x64_S64x100000_1_0 : Arr S64x100000) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  try rfl

theorem at0_0 : ∀ t : Fin cfg0.N, win0_0.index t (0 : Fin 2) = 0 ∧ win0_0.index t (1 : Fin 2) = 0 := (by decide +kernel : ∀ t : Fin grid0.N, _)

theorem emb0_0 (t : Fin cfg0.N) (j : S640x64.Idx) : ((cfg0.win 0).blk t).view.emb j = j := by
  obtain ⟨e0, e1⟩ := at0_0 t
  funext a; apply Fin.ext
  match a with
  | ⟨0, _⟩ => show win0_0.index t (0 : Fin 2) * 640 + 1 * (j 0).val = (j 0).val; omega
  | ⟨1, _⟩ => show win0_0.index t (1 : Fin 2) * 64 + 1 * (j 1).val = (j 1).val; omega

theorem blk0_0 (t : Fin cfg0.N) : iblk m c 0 t = V m c main_v1 := by
  funext j; show V m c main_v1 (((cfg0.win 0).blk t).view.emb j) = V m c main_v1 j; rw [emb0_0]

theorem at0_1 : ∀ t : Fin cfg0.N, win0_1.index t (0 : Fin 2) = 0 ∧ win0_1.index t (1 : Fin 2) = 0 := (by decide +kernel : ∀ t : Fin grid0.N, _)

theorem emb0_1 (t : Fin cfg0.N) (j : S640x64.Idx) : ((cfg0.win 1).blk t).view.emb j = j := by
  obtain ⟨e0, e1⟩ := at0_1 t
  funext a; apply Fin.ext
  match a with
  | ⟨0, _⟩ => show win0_1.index t (0 : Fin 2) * 640 + 1 * (j 0).val = (j 0).val; omega
  | ⟨1, _⟩ => show win0_1.index t (1 : Fin 2) * 64 + 1 * (j 1).val = (j 1).val; omega

theorem blk0_1 (t : Fin cfg0.N) : iblk m c 1 t = V m c main_v3 := by
  funext j; show V m c main_v3 (((cfg0.win 1).blk t).view.emb j) = V m c main_v3 j; rw [emb0_1]

theorem at0_2 : ∀ t : Fin cfg0.N, win0_2.index t (0 : Fin 2) = 0 ∧ win0_2.index t (1 : Fin 2) = 0 := (by decide +kernel : ∀ t : Fin grid0.N, _)

theorem emb0_2 (t : Fin cfg0.N) (j : S32x128.Idx) : ((cfg0.win 2).blk t).view.emb j = j := by
  obtain ⟨e0, e1⟩ := at0_2 t
  funext a; apply Fin.ext
  match a with
  | ⟨0, _⟩ => show win0_2.index t (0 : Fin 2) * 32 + 1 * (j 0).val = (j 0).val; omega
  | ⟨1, _⟩ => show win0_2.index t (1 : Fin 2) * 128 + 1 * (j 1).val = (j 1).val; omega

theorem blk0_2 (t : Fin cfg0.N) : iblk m c 2 t = V m c main_v10 := by
  funext j; show V m c main_v10 (((cfg0.win 2).blk t).view.emb j) = V m c main_v10 j; rw [emb0_2]

theorem at0_3 : ∀ t : Fin cfg0.N, win0_3.index t (0 : Fin 2) = 0 ∧ win0_3.index t (1 : Fin 2) = 0 := (by decide +kernel : ∀ t : Fin grid0.N, _)

theorem emb0_3 (t : Fin cfg0.N) (j : S32x128.Idx) : ((cfg0.win 3).blk t).view.emb j = j := by
  obtain ⟨e0, e1⟩ := at0_3 t
  funext a; apply Fin.ext
  match a with
  | ⟨0, _⟩ => show win0_3.index t (0 : Fin 2) * 32 + 1 * (j 0).val = (j 0).val; omega
  | ⟨1, _⟩ => show win0_3.index t (1 : Fin 2) * 128 + 1 * (j 1).val = (j 1).val; omega

theorem blk0_3 (t : Fin cfg0.N) : iblk m c 3 t = V m c main_v11 := by
  funext j; show V m c main_v11 (((cfg0.win 3).blk t).view.emb j) = V m c main_v11 j; rw [emb0_3]

theorem at0_4 : ∀ t : Fin cfg0.N, win0_4.index t (0 : Fin 2) = 0 ∧ win0_4.index t (1 : Fin 2) = 0 := (by decide +kernel : ∀ t : Fin grid0.N, _)

theorem emb0_4 (t : Fin cfg0.N) (j : S128x64.Idx) : ((cfg0.win 4).blk t).view.emb j = j := by
  obtain ⟨e0, e1⟩ := at0_4 t
  funext a; apply Fin.ext
  match a with
  | ⟨0, _⟩ => show win0_4.index t (0 : Fin 2) * 128 + 1 * (j 0).val = (j 0).val; omega
  | ⟨1, _⟩ => show win0_4.index t (1 : Fin 2) * 64 + 1 * (j 1).val = (j 1).val; omega

theorem blk0_4 (t : Fin cfg0.N) : iblk m c 4 t = V m c main_arg4 := by
  funext j; show V m c main_arg4 (((cfg0.win 4).blk t).view.emb j) = V m c main_arg4 j; rw [emb0_4]

theorem at0_5 : ∀ t : Fin cfg0.N, win0_5.index t (0 : Fin 2) = 0 ∧ win0_5.index t (1 : Fin 2) = 0 := (by decide +kernel : ∀ t : Fin grid0.N, _)

theorem emb0_5 (t : Fin cfg0.N) (j : S1x128.Idx) : ((cfg0.win 5).blk t).view.emb j = j := by
  obtain ⟨e0, e1⟩ := at0_5 t
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem blk0_5 (t : Fin cfg0.N) : iblk m c 5 t = V m c main_v12 := by
  funext j; show V m c main_v12 (((cfg0.win 5).blk t).view.emb j) = V m c main_v12 j; rw [emb0_5]

theorem at0_6 : ∀ t : Fin cfg0.N, win0_6.index t (0 : Fin 2) = 0 ∧ win0_6.index t (1 : Fin 2) = 0 := (by decide +kernel : ∀ t : Fin grid0.N, _)

theorem emb0_6 (t : Fin cfg0.N) (j : S512x128.Idx) : ((cfg0.win 6).blk t).view.emb j = j := by
  obtain ⟨e0, e1⟩ := at0_6 t
  funext a; apply Fin.ext
  match a with
  | ⟨0, _⟩ => show win0_6.index t (0 : Fin 2) * 512 + 1 * (j 0).val = (j 0).val; omega
  | ⟨1, _⟩ => show win0_6.index t (1 : Fin 2) * 128 + 1 * (j 1).val = (j 1).val; omega

theorem blk0_6 (t : Fin cfg0.N) : iblk m c 6 t = V m c main_arg6 := by
  funext j; show V m c main_arg6 (((cfg0.win 6).blk t).view.emb j) = V m c main_arg6 j; rw [emb0_6]

theorem at0_7 : ∀ t : Fin cfg0.N, win0_7.index t (0 : Fin 2) = 0 ∧ win0_7.index t (1 : Fin 2) = 0 := (by decide +kernel : ∀ t : Fin grid0.N, _)

theorem emb0_7 (t : Fin cfg0.N) (j : S512x128.Idx) : ((cfg0.win 7).blk t).view.emb j = j := by
  obtain ⟨e0, e1⟩ := at0_7 t
  funext a; apply Fin.ext
  match a with
  | ⟨0, _⟩ => show win0_7.index t (0 : Fin 2) * 512 + 1 * (j 0).val = (j 0).val; omega
  | ⟨1, _⟩ => show win0_7.index t (1 : Fin 2) * 128 + 1 * (j 1).val = (j 1).val; omega

theorem blk0_7 (t : Fin cfg0.N) : iblk m c 7 t = V m c main_arg7 := by
  funext j; show V m c main_arg7 (((cfg0.win 7).blk t).view.emb j) = V m c main_arg7 j; rw [emb0_7]

theorem at0_8 : ∀ t : Fin cfg0.N, win0_8.index t (0 : Fin 2) = 0 ∧ win0_8.index t (1 : Fin 2) = 0 := (by decide +kernel : ∀ t : Fin grid0.N, _)

theorem emb0_8 (t : Fin cfg0.N) (j : S1x512.Idx) : ((cfg0.win 8).blk t).view.emb j = j := by
  obtain ⟨e0, e1⟩ := at0_8 t
  funext a; apply Fin.ext
  match a with
  | ⟨0, _⟩ => show win0_8.index t (0 : Fin 2) * 1 + 1 * (j 0).val = (j 0).val; omega
  | ⟨1, _⟩ => show win0_8.index t (1 : Fin 2) * 512 + 1 * (j 1).val = (j 1).val; omega

theorem blk0_8 (t : Fin cfg0.N) : iblk m c 8 t = V m c main_v13 := by
  funext j; show V m c main_v13 (((cfg0.win 8).blk t).view.emb j) = V m c main_v13 j; rw [emb0_8]

theorem at0_9 : ∀ t : Fin cfg0.N, win0_9.index t (0 : Fin 2) = 0 ∧ win0_9.index t (1 : Fin 2) = 0 := (by decide +kernel : ∀ t : Fin grid0.N, _)

theorem emb0_9 (t : Fin cfg0.N) (j : S1x512.Idx) : ((cfg0.win 9).blk t).view.emb j = j := by
  obtain ⟨e0, e1⟩ := at0_9 t
  funext a; apply Fin.ext
  match a with
  | ⟨0, _⟩ => show win0_9.index t (0 : Fin 2) * 1 + 1 * (j 0).val = (j 0).val; omega
  | ⟨1, _⟩ => show win0_9.index t (1 : Fin 2) * 512 + 1 * (j 1).val = (j 1).val; omega

theorem blk0_9 (t : Fin cfg0.N) : iblk m c 9 t = V m c main_v14 := by
  funext j; show V m c main_v14 (((cfg0.win 9).blk t).view.emb j) = V m c main_v14 j; rw [emb0_9]

theorem at0_10 : ∀ t : Fin cfg0.N, win0_10.index t (0 : Fin 2) = 0 ∧ win0_10.index t (1 : Fin 2) = 0 := (by decide +kernel : ∀ t : Fin grid0.N, _)

theorem emb0_10 (t : Fin cfg0.N) (j : S64x128.Idx) : ((cfg0.win 10).blk t).view.emb j = j := by
  obtain ⟨e0, e1⟩ := at0_10 t
  funext a; apply Fin.ext
  match a with
  | ⟨0, _⟩ => show win0_10.index t (0 : Fin 2) * 64 + 1 * (j 0).val = (j 0).val; omega
  | ⟨1, _⟩ => show win0_10.index t (1 : Fin 2) * 128 + 1 * (j 1).val = (j 1).val; omega

theorem blk0_10 (t : Fin cfg0.N) : iblk m c 10 t = V m c main_arg10 := by
  funext j; show V m c main_arg10 (((cfg0.win 10).blk t).view.emb j) = V m c main_arg10 j; rw [emb0_10]

theorem at0_11 : ∀ t : Fin cfg0.N, win0_11.index t (0 : Fin 2) = 0 ∧ win0_11.index t (1 : Fin 2) = 0 := (by decide +kernel : ∀ t : Fin grid0.N, _)

theorem emb0_11 (t : Fin cfg0.N) (j : S1x64.Idx) : ((cfg0.win 11).blk t).view.emb j = j := by
  obtain ⟨e0, e1⟩ := at0_11 t
  funext a; apply Fin.ext
  match a with
  | ⟨0, _⟩ => show win0_11.index t (0 : Fin 2) * 1 + 1 * (j 0).val = (j 0).val; omega
  | ⟨1, _⟩ => show win0_11.index t (1 : Fin 2) * 64 + 1 * (j 1).val = (j 1).val; omega

theorem blk0_11 (t : Fin cfg0.N) : iblk m c 11 t = V m c main_v15 := by
  funext j; show V m c main_v15 (((cfg0.win 11).blk t).view.emb j) = V m c main_v15 j; rw [emb0_11]

theorem at0_12 : ∀ t : Fin cfg0.N, win0_12.index t (0 : Fin 2) = 0 ∧ win0_12.index t (1 : Fin 2) = 0 := (by decide +kernel : ∀ t : Fin grid0.N, _)

theorem emb0_12 (t : Fin cfg0.N) (j : S64x128.Idx) : ((cfg0.win 12).blk t).view.emb j = j := by
  obtain ⟨e0, e1⟩ := at0_12 t
  funext a; apply Fin.ext
  match a with
  | ⟨0, _⟩ => show win0_12.index t (0 : Fin 2) * 64 + 1 * (j 0).val = (j 0).val; omega
  | ⟨1, _⟩ => show win0_12.index t (1 : Fin 2) * 128 + 1 * (j 1).val = (j 1).val; omega

theorem blk0_12 (t : Fin cfg0.N) : iblk m c 12 t = V m c main_v6 := by
  funext j; show V m c main_v6 (((cfg0.win 12).blk t).view.emb j) = V m c main_v6 j; rw [emb0_12]

theorem at0_13 : ∀ t : Fin cfg0.N, win0_13.index t (0 : Fin 2) = 0 ∧ win0_13.index t (1 : Fin 2) = 0 := (by decide +kernel : ∀ t : Fin grid0.N, _)

theorem emb0_13 (t : Fin cfg0.N) (j : S64x128.Idx) : ((cfg0.win 13).blk t).view.emb j = j := by
  obtain ⟨e0, e1⟩ := at0_13 t
  funext a; apply Fin.ext
  match a with
  | ⟨0, _⟩ => show win0_13.index t (0 : Fin 2) * 64 + 1 * (j 0).val = (j 0).val; omega
  | ⟨1, _⟩ => show win0_13.index t (1 : Fin 2) * 128 + 1 * (j 1).val = (j 1).val; omega

theorem blk0_13 (t : Fin cfg0.N) : iblk m c 13 t = V m c main_v9 := by
  funext j; show V m c main_v9 (((cfg0.win 13).blk t).view.emb j) = V m c main_v9 j; rw [emb0_13]

theorem at0_14 : ∀ t : Fin cfg0.N, win0_14.index t (0 : Fin 2) = 0 ∧ win0_14.index t (1 : Fin 2) = 0 := (by decide +kernel : ∀ t : Fin grid0.N, _)

theorem emb0_14 (t : Fin cfg0.N) (j : S640x64.Idx) : ((cfg0.win 14).blk t).view.emb j = j := by
  obtain ⟨e0, e1⟩ := at0_14 t
  funext a; apply Fin.ext
  match a with
  | ⟨0, _⟩ => show win0_14.index t (0 : Fin 2) * 640 + 1 * (j 0).val = (j 0).val; omega
  | ⟨1, _⟩ => show win0_14.index t (1 : Fin 2) * 64 + 1 * (j 1).val = (j 1).val; omega

theorem flat2_apply (a : Arr S1x32x128) (r : Fin 32) (d : Fin 128) : (shapeCast S32x128 a shapeCasts_S1x32x128_S32x128 : Arr S32x128) (ix2 r d) = a (ix3 0 r d) := by
  pointwise []

theorem row128_apply (a : Arr S128) (d : Fin 128) : (shapeCast S1x128 a shapeCasts_S128_S1x128 : Arr S1x128) (ix2 0 d) = a (ix1 d) := by
  pointwise []

theorem row512_apply (a : Arr S512) (d : Fin 512) : (shapeCast S1x512 a shapeCasts_S512_S1x512 : Arr S1x512) (ix2 0 d) = a (ix1 d) := by
  pointwise []

theorem row64_apply (a : Arr S64) (d : Fin 64) : (shapeCast S1x64 a shapeCasts_S64_S1x64 : Arr S1x64) (ix2 0 d) = a (ix1 d) := by
  pointwise []

theorem table_apply (x : Arr S100000x64) (d : Fin 64) (n : Fin 100000) :
    (transpose S64x100000 [1, 0] x transposes_S100000x64_S64x100000_1_0 : Arr S64x100000) (ix2 d n) = x (ix2 n d) := by
  pointwise []

/-- The last 32 rows of a table, on their side and filled up to 128. -/
def tail (x : Arr S100000x64) : Arr S64x128 :=
  pad S64x128 ![0, 0] ![0, 96] ![0, 0] (transpose S64x32 [1, 0] (extractStridedSlice S32x64 ![99968, 0] x slices_S100000x64_S32x64_99968_0) transposes_S32x64_S64x32_1_0) (sitofp (F := Ideal) .f32 (constantI S_ 32 0#32)) pads_S64x32_S64x128_000_0960 h_S_

theorem zero_word : (FloatOps.sitofp (F := Ideal) .f32 (0#32) : EReal) = 0 := by
  show (((0#32 : BitVec 32).toInt : ℝ) : EReal) = 0
  simp

theorem tail_apply (x : Arr S100000x64) (d : Fin 64) (p : Fin 128) : tail x (ix2 d p) = if h : 99968 + p.val < 100000 then x (ix2 ⟨99968 + p.val, h⟩ d) else 0 := by
  unfold tail
  by_cases h : 99968 + p.val < 100000
  · rw [dif_pos h]
    have hp : p.val < 32 := by omega
    pointwise []
    rw [dif_pos hp]
  · rw [dif_neg h]
    have hp : ¬p.val < 32 := by omega
    pointwise []
    rw [dif_neg hp]
    exact zero_word

theorem holds0 : Holds0 (c := c) (V m c main_v16) fun n d => (A m c main_arg12 : Arr S100000x64) (ix2 n d) := fun d n =>
  (congrFun (v16_eq m c) (ix2 d n : S64x100000.Idx)).trans (table_apply _ d n)

theorem holds1 : Holds1 (c := c) (V m c main_v17) fun n d => (A m c main_arg13 : Arr S100000x64) (ix2 n d) := fun d n =>
  (congrFun (v17_eq m c) (ix2 d n : S64x100000.Idx)).trans (table_apply _ d n)

theorem tail0 (t : Fin cfg0.N) : Tail0 (iblk m c 12 t) fun n d => (A m c main_arg12 : Arr S100000x64) (ix2 n d) := fun d p => by
  rw [blk0_12, v6_eq]
  exact tail_apply _ d p

theorem tail1 (t : Fin cfg0.N) : Tail1 (iblk m c 13 t) fun n d => (A m c main_arg13 : Arr S100000x64) (ix2 n d) := fun d p => by
  rw [blk0_13, v9_eq]
  exact (tail_apply _ d p).trans (by
    unfold valE
    rw [dif_pos d.isLt])

/-- What the arguments on core `c` say. -/
def I (c : Dev nD) : Inp := Args.inp (A m c main_arg0) (A m c main_arg1) (A m c main_arg2) (A m c main_arg3) (A m c main_arg4) (A m c main_arg5) (A m c main_arg6) (A m c main_arg7)
  (A m c main_arg8) (A m c main_arg9) (A m c main_arg10) (A m c main_arg11) (A m c main_arg12) (A m c main_arg13)

theorem stack_eq (a : Arr S32x20x64) (r : Fin 32) (t : ℕ) (k : Fin 64) :
    (if h : t < 20 then (shapeCast S640x64 (transpose S20x32x64 [1, 0, 2] a transposes_S32x20x64_S20x32x64_1_0_2) shapeCasts_S20x32x64_S640x64 : Arr S640x64) (ix2 ⟨32 * t + r.val, by omega⟩ k) else 0)
      = if h : t < 20 then a (ix3 r ⟨t, h⟩ k) else 0 := by
  split
  · rw [flat_apply]
    congr 2
    · exact Fin.ext (by show (32 * t + r.val) % 32 = r.val; omega)
    · exact Fin.ext (by show (32 * t + r.val) / 32 = t; omega)
  · rfl

/-- The arrays the kernel reads hold exactly the arguments. -/
theorem inpOf_eq (t : Fin cfg0.N) : Cell.inpOf (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (fun n d => (A m c main_arg12 : Arr S100000x64) (ix2 n d)) (fun n d => (A m c main_arg13 : Arr S100000x64) (ix2 n d)) = I m c := by
  rw [blk0_0, blk0_1, blk0_2, blk0_3, blk0_4, blk0_5, blk0_6, blk0_7, blk0_8, blk0_9, blk0_10, blk0_11, v1_eq, v3_eq, v10_eq, v11_eq, v12_eq, v13_eq, v14_eq, v15_eq,
    V_main_arg4, V_main_arg6, V_main_arg7, V_main_arg10]
  unfold Cell.inpOf I Args.inp
  congr 1
  · funext r t k
    exact stack_eq _ r t k
  · funext r t k
    exact stack_eq _ r t k
  · funext r d
    exact flat2_apply _ r d
  · funext r d
    exact flat2_apply _ r d
  · funext d
    exact row128_apply _ d
  · funext g
    exact row512_apply _ g
  · funext g
    exact row512_apply _ g
  · funext d
    exact row64_apply _ d

/-- Unflattening the result and moving the batch outermost. -/
theorem unflat_apply (a : Arr S640x64) (r : Fin 32) (t : Fin 20) (d : Fin 64) :
    (transpose S32x20x64 [1, 0, 2] (shapeCast S20x32x64 a shapeCasts_S640x64_S20x32x64) transposes_S20x32x64_S32x20x64_1_0_2 : Arr S32x20x64) (ix3 r t d)
      = a (ix2 ⟨32 * t.val + r.val, by omega⟩ d) := by
  pointwise []
  congr 2
  exact Fin.ext (by show t.val * 32 + r.val = 32 * t.val + r.val; omega)

end Cert.Host

end
-- ==== Proof.Value.lean ====
module

public import proofs.«01_k».proof.Proof.KVal
public import proofs.«01_k».proof.Proof.Host

@[expose] public section

/-! The kernel's launch with what it writes named: the result is `Spec.out` of the arguments. -/

set_option maxRecDepth 16384

noncomputable section

namespace Cert.KernelIdeal.Value

open Cert.KernelIdeal Cert.KernelIdeal.Gen Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Cell (Arr)
open Cert.Host (A I)

local notation "𝕄" => MT nD τ sig Unit (Elt Ideal) ℕ (Pipeline.UD sig nD τ) ℕ

variable (m : (ℓ : Loc nD τ sig) → Buf (Elt Ideal) ℓ) (ρ : Dev nD → PrngReg)

/-- The array the kernel writes: row `32 t + r` is row `r` of step `t`. -/
def rows (I : Spec.Inp) : Arr S640x64 := fun i => Spec.out I ((i 0).val / 32) ⟨(i 0).val % 32, Nat.mod_lt _ (by decide)⟩ (i 1)

theorem rows_apply (I : Spec.Inp) (t : ℕ) (r : Fin 32) (d : Fin 64) (h : 32 * t + r.val < 640) : rows I (ix2 ⟨32 * t + r.val, h⟩ d) = Spec.out I t r d := by
  have h1 : (32 * t + r.val) / 32 = t := by omega
  have h2 : (⟨(32 * t + r.val) % 32, Nat.mod_lt _ (by decide)⟩ : Fin 32) = r := Fin.ext (by show (32 * t + r.val) % 32 = r.val; omega)
  show Spec.out I ((32 * t + r.val) / 32) ⟨(32 * t + r.val) % 32, _⟩ d = _
  rw [h1, h2]

section Written

variable {c : Dev nD} {arg0 : Memref sig .tc .vmem S640x64 .f32} {harg0 : arg0.IsWhole} {arg1 : Memref sig .tc .vmem S640x64 .f32} {harg1 : arg1.IsWhole} {arg2 : Memref sig .tc .vmem S32x128 .f32} {harg2 : arg2.IsWhole} {arg3 : Memref sig .tc .vmem S32x128 .f32} {harg3 : arg3.IsWhole} {arg4 : Memref sig .tc .vmem S128x64 .f32} {harg4 : arg4.IsWhole} {arg5 : Memref sig .tc .vmem S1x128 .f32} {harg5 : arg5.IsWhole} {arg6 : Memref sig .tc .vmem S512x128 .f32} {harg6 : arg6.IsWhole} {arg7 : Memref sig .tc .vmem S512x128 .f32} {harg7 : arg7.IsWhole} {arg8 : Memref sig .tc .vmem S1x512 .f32} {harg8 : arg8.IsWhole} {arg9 : Memref sig .tc .vmem S1x512 .f32} {harg9 : arg9.IsWhole} {arg10 : Memref sig .tc .vmem S64x128 .f32} {harg10 : arg10.IsWhole} {arg11 : Memref sig .tc .vmem S1x64 .f32} {harg11 : arg11.IsWhole} {arg12 : Memref sig .tc .vmem S64x128 .f32} {harg12 : arg12.IsWhole} {arg13 : Memref sig .tc .vmem S64x128 .f32} {harg13 : arg13.IsWhole} {arg16 : Memref sig .tc .vmem S640x64 .f32} {harg16 : arg16.IsWhole} {arg17 : Memref sig .tc .vmem S608x64 .f32} {harg17 : arg17.IsWhole} {arg18 : Memref sig .tc .vmem S640x64 .f32} {harg18 : arg18.IsWhole} {arg19 : Memref sig .tc .vmem S608x128 .f32} {harg19 : arg19.IsWhole} {arg20 : Memref sig .tc .vmem S4x64x6400 .f32} {harg20 : arg20.IsWhole} {arg21 : Memref sig .tc .vmem S4x72x6400 .f32} {harg21 : arg21.IsWhole}
    {x0 : Vec Ideal S640x64 .f32} {x1 : Vec Ideal S640x64 .f32} {x2 : Vec Ideal S32x128 .f32} {x3 : Vec Ideal S32x128 .f32} {x4 : Vec Ideal S128x64 .f32} {x5 : Vec Ideal S1x128 .f32} {x6 : Vec Ideal S512x128 .f32} {x7 : Vec Ideal S512x128 .f32} {x8 : Vec Ideal S1x512 .f32} {x9 : Vec Ideal S1x512 .f32} {x10 : Vec Ideal S64x128 .f32} {x11 : Vec Ideal S1x64 .f32} {x12 : Vec Ideal S64x128 .f32} {x13 : Vec Ideal S64x128 .f32} {fh0 : HbBuf0 (F := Ideal) c hbM0_0} {fh1 : HbBuf0 (F := Ideal) c hbM0_1}
  {key val : Fin 100000 → Fin 64 → EReal}

set_option maxHeartbeats 1000000 in
/-- The pieces the body writes cover the output and make up `rows`. -/
theorem written (hk : Reads.Holds0 fh0 key) (hv : Reads.Holds1 fh1 val) (ht0 : Reads.Tail0 x12 key) (ht1 : Reads.Tail1 x13 val)
    (f3 : Buf (Elt Ideal) (arg20.view.loc (c : Thread nD τ))) (f4 : Buf (Elt Ideal) (arg21.view.loc (c : Thread nD τ))) (f : arg16.view.ty.Contents (Elt Ideal)) :
    arg16.view.read (Elt Ideal) (arg16.view.writes (Elt Ideal) f ((Body.run (F := Ideal) c arg0 harg0 arg1 harg1 arg2 harg2 arg3 harg3 arg4 harg4 arg5 harg5 arg6 harg6 arg7 harg7 arg8 harg8 arg9 harg9 arg10 harg10 arg11 harg11 arg12 harg12 arg13 harg13 arg16 harg16 arg17 harg17 arg18 harg18 arg19 harg19 arg20 harg20 arg21 harg21 x0 x1 x2 x3 x4 x5 x6 x7 x8 x9 x10 x11 x12 x13 fh0 fh1).1 f3 f4))
      = rows (Cell.inpOf x0 x1 x2 x3 x4 x5 x6 x7 x8 x9 x10 x11 key val) := by
  refine (View.read_writes_eq_canon _ f _ ?_).trans ?_
  · show ∀ y, ∃ p ∈ (Body.run.sl.H14_2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg17 arg18 arg19 arg20 arg21 x0 x1 x2 x3 x4 x5 x6 x7 x8 x9 x10 x11 x12 x13 fh0 fh1 f3 f4), y ∈ p.1.set
    unfold Body.run.sl.H14_2
    exact View.cover_of_tiledBy _ ![32, 64] (by sl_kernel_rfl)
  · funext i
    have h0 := (i 0).isLt
    have h1 : (i 0).val < 640 := h0
    rw [KVal.idx2 (x := i) (y := ix2 (⟨32 * ((i 0).val / 32) + (⟨(i 0).val % 32, Nat.mod_lt _ (by decide)⟩ : Fin 32).val, by show 32 * ((i 0).val / 32) + (i 0).val % 32 < 640; omega⟩ : Fin 640) (i 1))
      (by show (i 0).val = 32 * ((i 0).val / 32) + (i 0).val % 32; omega) rfl]
    exact (KVal.out_rows hk hv ht0 ht1 ((i 0).val / 32) (by omega) ⟨(i 0).val % 32, Nat.mod_lt _ (by decide)⟩ (i 1)).trans (rows_apply _ _ _ _ _).symm

end Written

/-- The proof data of the one pipeline on core `c`: the arrays as the region finds them (`V`); after the body at
    point `t` each input's buffer at its block and the output at `rows`; the invariant
    (Lib/Pipeline/Frame.lean `ΦD`: the scoped rest, the generator register, the own cells at zero, the HBM operands at
    their launch contents); nothing owed; full shares. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => rows (I m c)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

theorem after0_14 (c : Dev nD) (t : Fin cfg0.N) : (dats m 0 c).after 14 t = rows (I m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 2000000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    after0_0, after0_1, after0_2, after0_3, after0_4, after0_5, after0_6, after0_7, after0_8, after0_9, after0_10, after0_11, after0_12, after0_13, after0_14]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((Body.run c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (V m c main_v16) (V m c main_v17)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [HW]; · iexact HW
  iintro ⟨H0, H1, H2, H3, H4, H5, H6, H7, H8, H9, H10, H11, H12, H13, ⟨%f3, %f4, %f14, H14⟩, HS0, HS1, HS2, HS3, HS4, Hq0, Hq1, Hq2, Hq3, Hq4, Hq5, Hq6, Hq7, Hh0, Hh1, ⟨%W', HW'⟩⟩
  isplitl [HS0 HS1 HS2 HS3 HS4 Hg Hq0 Hq1 Hq2 Hq3 Hq4 Hq5 Hq6 Hq7 Hh0 Hh1]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns
  iexists _; isplitr; swap; · iexact H14
  ipureintro
  exact (written (Host.holds0 m c) (Host.holds1 m c) (Host.tail0 m c t) (Host.tail1 m c t) f3 f4 f14).trans (congrArg rows (Host.inpOf_eq m c t))

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch, every array of the pipeline and every other buffer named at the end, and every counter at zero. -/
theorem run_main : θ_run defs (onTc (τ := τ) (main (F := Ideal))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

theorem cut14_eq (t : Fin cfg0.N) (X : Arr S640x64) : (cfg0.win 14).cut (grid0.coords t) X = ((cfg0.win 14).blk t).view.read (Elt Ideal) X := by
  funext j
  show X j = X (((cfg0.win 14).blk t).view.emb j)
  rw [Host.emb0_14]

theorem flushed14_eq (c : Dev nD) (t : Fin cfg0.N) : (dats m 0 c).flushed 14 t = ((cfg0.win 14).blk t).view.read (Elt Ideal) (rows (I m c)) := by
  show (cfg0.win 14).cut (grid0.coords t) ((dats m 0 c).after 14 t) = _
  rw [after0_14]
  exact cut14_eq t _

theorem covered14 (i : S640x64.Idx) : ∃ t : Fin cfg0.N, (cfg0.win 14).flush t = true ∧ i ∈ ((cfg0.win 14).blk t).view.set :=
  ⟨(⟨0, by decide⟩ : Fin cfg0.N), flush0_14 _, by
    have h := ((cfg0.win 14).blk (⟨0, by decide⟩ : Fin cfg0.N)).view.emb_mem_set i; rwa [Host.emb0_14] at h⟩

/-- The written array after the run. -/
theorem final14 (c : Dev nD) : (dats m 0 c).arrAt 14 cfg0.N = rows (I m c) :=
  (dats m 0 c).arrAt_eq_of_cover 14 (rows (I m c)) (fun t _ => flushed14_eq m c t) covered14

/-- The result the operations after the kernel make of it. -/
theorem tail_eq (c : Dev nD) : Pipeline.afterTail₀ cfgs (dats m) 0 (V0 m) [hostOps1] c main_v20 = Args.result (I m c) := by
  have e : Pipeline.afterTail₀ cfgs (dats m) 0 (V0 m) [hostOps1] c main_v20
      = (transpose S32x20x64 [1, 0, 2] (shapeCast S20x32x64 (Pipeline.withArrays spec0 c (V0 m c) (fun w => (dats m 0 c).arrAt w cfg0.N) (Proc.devRef .tc main_v18) : Arr S640x64) shapeCasts_S640x64_S20x32x64) transposes_S20x32x64_S32x20x64_1_0_2 : Arr S32x20x64) := by
    unfold Pipeline.afterTail₀
    simp only [hostOps1, List.flatten_cons, List.flatten_nil, List.append_nil, List.cons_append, List.nil_append]
    after_results
    try rfl
  have f : Pipeline.withArrays spec0 c (V0 m c) (fun w => (dats m 0 c).arrAt w cfg0.N) (Proc.devRef .tc main_v18) = rows (I m c) :=
    (Pipeline.withArrays_arr spec0 launch0.win.arr_inj c (V0 m c) (fun w => (dats m 0 c).arrAt w cfg0.N) 14).trans (final14 m c)
  rw [e, f]
  refine Args.ext3 fun r t d => ?_
  rw [Host.unflat_apply]
  exact rows_apply (I m c) t.val r d _

/-- An array that the kernel only reads ends as the kernel found it. -/
theorem keep {r : PUnit × MemSt nD τ sig (Elt Ideal)} (h : Pipeline.FramePost cfgs (dats m) 0 (Pipeline.afterTail₀ cfgs (dats m) 0 (V0 m) [hostOps1]) r)
    (c : Dev nD) (w : Fin cfg0.W) (hw : (cfg0.spec w).isOut = false) : r.2.mem ((c.tc : Thread nD τ).loc (Pipeline.arrRef spec0 w)) = V m c (Pipeline.arrRef spec0 w) :=
  ((h c).1 w).trans (((dats m 0 c).arrAt_in w hw cfg0.N).trans (A_eq m c w))

/-- Every run of the kernel ends with its arguments as they were. -/
theorem unchanged {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      (keep m h c 4 rfl).trans (V_main_arg4 m c),
      ((h c).2 main_arg5 (Pipeline.mem_restRefs_of main_arg5 (by decide) (by decide))).trans (W_main_arg5 m (dats m) c),
      (keep m h c 6 rfl).trans (V_main_arg6 m c),
      (keep m h c 7 rfl).trans (V_main_arg7 m c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      (keep m h c 10 rfl).trans (V_main_arg10 m c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩

/-- The ideal kernel runs, leaves its arguments unchanged and every counter at zero. -/
theorem frame : θ_run defs (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)) ∧ r.2.sem = fun _ => 0 :=
  (θ_run defs _ _).mono (fun _ h => ⟨unchanged m h.1, h.2⟩) (run_main m ρ)

/-- Every run of the kernel ends with the result at `Spec.out` of its arguments, and those unchanged. -/
theorem run : θ_run defs (onTc (τ := τ) (main (F := Ideal))) ⟨m, fun _ => 0, ρ⟩ fun r => ∀ c : Dev nD,
    r.2.mem ((c.tc : Thread nD τ).loc main_v20) = Args.result (I m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  (θ_run defs _ _).mono (fun _ h c => ⟨((h.1 c).2 main_v20 (by decide)).trans (tail_eq m c), unchanged m h.1 c⟩) (run_main m ρ)

end Cert.KernelIdeal.Value

end
-- ==== Proof.RefCell.lean ====
module

public import proofs.«01_k».proof.Proof.Cell
public import proofs.«01_k».proof.Proof.Chunk
public import proofs.«01_k».proof.Proof.Gen.ReferenceIdeal.Step
public import Idealize.ShloMosaic.Lib.DynamicIndex
public import Idealize.ShloMosaic.Lib.WordCmp

@[expose] public section

/-! The reference's operations within one step, each entry as a number: the gates, the states, the prediction, and the
    read of the memory. -/

set_option maxRecDepth 16384

noncomputable section

namespace Cert.RefCell

open Idealize.ShloMosaic Cert.ReferenceIdeal Cert.ReferenceIdeal.Gen Cert.ReferenceIdeal.Step Cert.Spec Cert.Math
open Cert.Cell (Arr)

variable (j : ℕ) (s : State Ideal)

theorem b18_apply (r : Fin 32) (g : Fin 512) :
    (b18 j s : Arr S32x512) (ix2 r g)
      = (((∑ d : Fin 128, (b3 j s : Arr S32x128) (ix2 r d) * (s.main_v16_2 : Arr S512x128) (ix2 g d)) + (s.main_v16_3 : Arr S512) (ix1 g))
        + ∑ d : Fin 128, (s.main_v16_12 : Arr S32x128) (ix2 r d) * (s.main_v16_4 : Arr S512x128) (ix2 g d)) + (s.main_v16_5 : Arr S512) (ix1 g) := by
  pointwise [b18, b17, b16, b15, b14, b13, b12, b11, b10, b9, b8]

theorem logistic_one (x : EReal) : Ideal.div (Ideal.ofBits .f32 0x3F800000#32) (Ideal.ofBits .f32 0x3F800000#32 + Ideal.exp (-x)) = Ideal.logistic x := by
  rw [Chunk.one_bits]
  rfl

theorem b19_apply (r : Fin 32) (d : Fin 128) : (b19 j s : Arr S32x128) (ix2 r d) = (b18 j s : Arr S32x512) (ix2 r (gcol 0 (by decide) d)) := by
  have h : (b19 j s : Arr S32x128) (ix2 r d) = (b18 j s : Arr S32x512) (ix2 r ⟨d.val, by omega⟩) := by pointwise [b19]
  rw [h, show gcol 0 (by decide) d = ⟨d.val, by omega⟩ from Fin.ext (zero_add d.val)]

theorem b20_apply (r : Fin 32) (d : Fin 128) : (b20 j s : Arr S32x128) (ix2 r d) = (b18 j s : Arr S32x512) (ix2 r (gcol 128 (by decide) d)) := by
  have h : (b20 j s : Arr S32x128) (ix2 r d) = (b18 j s : Arr S32x512) (ix2 r ⟨128 + d.val, by omega⟩) := by pointwise [b20]
  exact h

theorem b21_apply (r : Fin 32) (d : Fin 128) : (b21 j s : Arr S32x128) (ix2 r d) = (b18 j s : Arr S32x512) (ix2 r (gcol 256 (by decide) d)) := by
  have h : (b21 j s : Arr S32x128) (ix2 r d) = (b18 j s : Arr S32x512) (ix2 r ⟨256 + d.val, by omega⟩) := by pointwise [b21]
  exact h

theorem b22_apply (r : Fin 32) (d : Fin 128) : (b22 j s : Arr S32x128) (ix2 r d) = (b18 j s : Arr S32x512) (ix2 r (gcol 384 (by decide) d)) := by
  have h : (b22 j s : Arr S32x128) (ix2 r d) = (b18 j s : Arr S32x512) (ix2 r ⟨384 + d.val, by omega⟩) := by pointwise [b22]
  exact h

theorem b30_apply (r : Fin 32) (d : Fin 128) : (b30 j s : Arr S32x128) (ix2 r d) = Ideal.logistic ((b19 j s : Arr S32x128) (ix2 r d)) := by
  rw [← logistic_one]
  pointwise [b30, b29, b28, b27, b26, b25, b24, b23]

theorem b38_apply (r : Fin 32) (d : Fin 128) : (b38 j s : Arr S32x128) (ix2 r d) = Ideal.logistic ((b20 j s : Arr S32x128) (ix2 r d)) := by
  rw [← logistic_one]
  pointwise [b38, b37, b36, b35, b34, b33, b32, b31]

theorem b39_apply (r : Fin 32) (d : Fin 128) : (b39 j s : Arr S32x128) (ix2 r d) = Ideal.tanh ((b21 j s : Arr S32x128) (ix2 r d)) := by
  pointwise [b39]

theorem b47_apply (r : Fin 32) (d : Fin 128) : (b47 j s : Arr S32x128) (ix2 r d) = Ideal.logistic ((b22 j s : Arr S32x128) (ix2 r d)) := by
  rw [← logistic_one]
  pointwise [b47, b46, b45, b44, b43, b42, b41, b40]

theorem b50_apply (r : Fin 32) (d : Fin 128) : (b50 j s : Arr S32x128) (ix2 r d)
    = (b38 j s : Arr S32x128) (ix2 r d) * (s.main_v16_13 : Arr S32x128) (ix2 r d) + (b30 j s : Arr S32x128) (ix2 r d) * (b39 j s : Arr S32x128) (ix2 r d) := by
  pointwise [b50, b49, b48]

theorem b52_apply (r : Fin 32) (d : Fin 128) : (b52 j s : Arr S32x128) (ix2 r d)
    = (b47 j s : Arr S32x128) (ix2 r d) * Ideal.tanh ((b50 j s : Arr S32x128) (ix2 r d)) := by
  pointwise [b52, b51]

theorem b57_apply (r : Fin 32) (d : Fin 64) : (b57 j s : Arr S32x64) (ix2 r d)
    = (∑ e : Fin 128, (b52 j s : Arr S32x128) (ix2 r e) * (s.main_v16_6 : Arr S64x128) (ix2 d e)) + (s.main_v16_7 : Arr S64) (ix1 d) := by
  pointwise [b57, b56, b55, b54, b53]

theorem b65_apply (r : Fin 32) (d : Fin 64) : (b65 j s : Arr S32x64) (ix2 r d) = Ideal.logistic ((b57 j s : Arr S32x64) (ix2 r d)) := by
  rw [← logistic_one]
  pointwise [b65, b64, b63, b62, b61, b60, b59, b58]

theorem b66_apply (r : Fin 32) (d : Fin 64) : (b66 j s : Arr S32x64) (ix2 r d) = (b7 j s : Arr S32x64) (ix2 r d) - (b65 j s : Arr S32x64) (ix2 r d) := by
  pointwise [b66]

theorem b97_apply (r : Fin 32) (d : Fin 64) : (b97 j s : Arr S32x64) (ix2 r d) = (b65 j s : Arr S32x64) (ix2 r d) + (s.main_v16_14 : Arr S32x64) (ix2 r d) := by
  pointwise [b97]

theorem b69_apply (r : Fin 32) : (b69 j s : Arr S32) (ix1 r) = ∑ d : Fin 64, (b66 j s : Arr S32x64) (ix2 r d) * (b66 j s : Arr S32x64) (ix2 r d) := by
  have h : (b69 j s : Arr S32) (ix1 r) = Ideal.ofBits .f32 0x00000000#32 + ∑ d : Fin 64, (b66 j s : Arr S32x64) (ix2 r d) * (b66 j s : Arr S32x64) (ix2 r d) := by
    pointwise [b69, b68, b67]
  rw [h, Chunk.zero_bits, zero_add]

theorem b74_apply (r : Fin 32) : (b74 j s : Arr S32x1) (ix2 r 0) = nrm (fun d : Fin 64 => (b66 j s : Arr S32x64) (ix2 r d)) := by
  unfold nrm eps
  rw [← b69_apply]
  pointwise [b74, b73, b72, b71, b70]

theorem b76_apply (r : Fin 32) (n : Fin 100000) : (b76 j s : Arr S32x100000) (ix2 r n)
    = ∑ d : Fin 64, (b66 j s : Arr S32x64) (ix2 r d) * (s.main_v16_8 : Arr S100000x64) (ix2 n d) := by
  pointwise [b76, b75]

theorem b81_apply (r : Fin 32) (n : Fin 100000) : (b81 j s : Arr S32x100000) (ix2 r n)
    = Ideal.div ((b76 j s : Arr S32x100000) (ix2 r n)) ((b74 j s : Arr S32x1) (ix2 r 0) * (s.main_v16_9 : Arr S100000) (ix1 n)) := by
  pointwise [b81, b80, b79, b78, b77]

theorem bot_bits : Ideal.ofBits .f32 0xFF800000#32 = ⊥ := by
  unfold Ideal.ofBits Ideal.ieee
  norm_num [Nat.shiftRight_eq_div_pow, show BitVec.extractLsb' 31 1 4286578688#32 = 1#1 by decide]

/-- The largest entry of a row, from the bottom element up. -/
theorem rowMax {a n : ℕ} (x : Arr ⟨2, ![a, n]⟩) (h : (⟨2, ![a, n]⟩ : Shape).ReducesTo [1] ⟨1, ![a]⟩) (r : Fin a) :
    (Host.reduce (FloatOps.maximumf (F := Ideal) (φ := .f32)) x (constant (F := Ideal) S_ .f32 0xFF800000#32) h h_S_ : Arr ⟨1, ![a]⟩) (ix1 r)
      = Finset.univ.fold max ⊥ fun k : Fin n => x (ix2 r k) := by
  rw [← bot_bits]
  pointwise []

theorem maxBot (v : Arr S32) (r : Fin 32) :
    (maximumf (broadcastInDim S32 ![] bcast_S_S32 (constant (F := Ideal) S_ .f32 0xFF800000#32)) v : Arr S32) (ix1 r) = v (ix1 r) := by
  have h : (maximumf (broadcastInDim S32 ![] bcast_S_S32 (constant (F := Ideal) S_ .f32 0xFF800000#32)) v : Arr S32) (ix1 r)
      = max (Ideal.ofBits .f32 0xFF800000#32) (v (ix1 r)) := by pointwise []
  rw [h, bot_bits]
  exact max_eq_right bot_le

theorem b83_apply (r : Fin 32) : (b83 j s : Arr S32) (ix1 r) = Finset.univ.fold max ⊥ fun n : Fin 100000 => (b81 j s : Arr S32x100000) (ix2 r n) := by
  unfold b83 b82
  exact rowMax (b81 j s) _ r

theorem b86_apply (r : Fin 32) : (b86 j s : Arr S32) (ix1 r) = (b83 j s : Arr S32) (ix1 r) := by
  unfold b86 b85 b84
  exact maxBot (b83 j s) r

theorem b90_apply (r : Fin 32) (n : Fin 100000) : (b90 j s : Arr S32x100000) (ix2 r n)
    = Ideal.exp ((b81 j s : Arr S32x100000) (ix2 r n) - (b86 j s : Arr S32) (ix1 r)) := by
  pointwise [b90, b89, b88, b87]

theorem b92_apply (r : Fin 32) : (b92 j s : Arr S32) (ix1 r) = ∑ n : Fin 100000, (b90 j s : Arr S32x100000) (ix2 r n) := by
  have h : (b92 j s : Arr S32) (ix1 r) = Ideal.ofBits .f32 0x00000000#32 + ∑ n : Fin 100000, (b90 j s : Arr S32x100000) (ix2 r n) := by
    pointwise [b92, b91]
  rw [h, Chunk.zero_bits, zero_add]

theorem b95_apply (r : Fin 32) (n : Fin 100000) : (b95 j s : Arr S32x100000) (ix2 r n)
    = Ideal.div ((b90 j s : Arr S32x100000) (ix2 r n)) ((b92 j s : Arr S32) (ix1 r)) := by
  pointwise [b95, b94, b93]

theorem b96_apply (r : Fin 32) (d : Fin 64) : (b96 j s : Arr S32x64) (ix2 r d)
    = ∑ n : Fin 100000, (b95 j s : Arr S32x100000) (ix2 r n) * (s.main_v16_10 : Arr S100000x64) (ix2 n d) := by
  pointwise [b96]

theorem toInt_ofNat (h : j < 20) : (BitVec.ofNat 32 j).toInt = (j : ℤ) := by
  interval_cases j <;> rfl

theorem b3_apply (h : j < 20) (r : Fin 32) (d : Fin 128) : (b3 j s : Arr S32x128) (ix2 r d) = (s.main_v16_0 : Arr S20x32x128) (ix3 ⟨j, h⟩ r d) := by
  have hs : S20x32x128.Slices ![j, 0, 0] S1x32x128 := ⟨rfl, fun a => by
    match a with
    | ⟨0, _⟩ => show j + 1 ≤ 20; omega
    | ⟨1, _⟩ => show 0 + 32 ≤ 32; omega
    | ⟨2, _⟩ => show 0 + 128 ≤ 128; omega⟩
  have e : b2 j s = extractStridedSlice S1x32x128 ![j, 0, 0] s.main_v16_0 hs :=
    Host.dynamicSlice_eq_extractStridedSlice _ _ _ _ _ hs fun a => by
      match a with
      | ⟨0, _⟩ => exact toInt_ofNat j h
      | ⟨1, _⟩ => rfl
      | ⟨2, _⟩ => rfl
  unfold b3
  rw [e]
  pointwise []

theorem b7_apply (h : j < 20) (r : Fin 32) (d : Fin 64) : (b7 j s : Arr S32x64) (ix2 r d) = (s.main_v16_1 : Arr S20x32x64) (ix3 ⟨j, h⟩ r d) := by
  have hs : S20x32x64.Slices ![j, 0, 0] S1x32x64 := ⟨rfl, fun a => by
    match a with
    | ⟨0, _⟩ => show j + 1 ≤ 20; omega
    | ⟨1, _⟩ => show 0 + 32 ≤ 32; omega
    | ⟨2, _⟩ => show 0 + 64 ≤ 64; omega⟩
  have e : b6 j s = extractStridedSlice S1x32x64 ![j, 0, 0] s.main_v16_1 hs :=
    Host.dynamicSlice_eq_extractStridedSlice _ _ _ _ _ hs fun a => by
      match a with
      | ⟨0, _⟩ => exact toInt_ofNat j h
      | ⟨1, _⟩ => rfl
      | ⟨2, _⟩ => rfl
  unfold b7
  rw [e]
  pointwise []

theorem b98_apply (r : Fin 32) (d : Fin 64) : (b98 j s : Arr S1x32x64) (ix3 0 r d) = (b97 j s : Arr S32x64) (ix2 r d) := by
  pointwise [b98]

/-- The stack after a step: the step's plane is the new row, the others stay. -/
theorem b101_apply (h : j < 20) (t : Fin 20) (r : Fin 32) (d : Fin 64) : (b101 j s : Arr S20x32x64) (ix3 t r d)
    = if t.val = j then (b97 j s : Arr S32x64) (ix2 r d) else (s.main_v16_15 : Arr S20x32x64) (ix3 t r d) := by
  have hs : S20x32x64.Slices ![j, 0, 0] S1x32x64 := ⟨rfl, fun a => by
    match a with
    | ⟨0, _⟩ => show j + 1 ≤ 20; omega
    | ⟨1, _⟩ => show 0 + 32 ≤ 32; omega
    | ⟨2, _⟩ => show 0 + 64 ≤ 64; omega⟩
  have e : b101 j s = updateSlice s.main_v16_15 (b98 j s) ![j, 0, 0] hs :=
    WordCmp.dynamicUpdateSlice_eq_update _ _ _ _ _ hs fun a => by
      match a with
      | ⟨0, _⟩ => exact toInt_ofNat j h
      | ⟨1, _⟩ => rfl
      | ⟨2, _⟩ => rfl
  rw [e]
  split
  · rename_i ht
    rw [← b98_apply]
    refine (dif_pos fun a => ?_).trans ?_
    · match a with
      | ⟨0, _⟩ => exact ⟨ht.ge, by show t.val < j + 1; omega⟩
      | ⟨1, _⟩ => exact ⟨Nat.zero_le _, by show r.val < 0 + 32; omega⟩
      | ⟨2, _⟩ => exact ⟨Nat.zero_le _, by show d.val < 0 + 64; omega⟩
    · refine congrArg (b98 j s) (funext fun a => Fin.ext ?_)
      match a with
      | ⟨0, _⟩ => show t.val - j = 0; omega
      | ⟨1, _⟩ => show r.val - 0 = r.val; omega
      | ⟨2, _⟩ => show d.val - 0 = d.val; omega
  · rename_i ht
    refine dif_neg fun hc => ht ?_
    have h0 := hc ⟨0, by decide⟩
    have h1 : j ≤ t.val ∧ t.val < j + 1 := h0
    omega

end Cert.RefCell

end
-- ==== Proof.RefSpec.lean ====
module

public import proofs.«01_k».proof.Proof.RefCell
public import proofs.«01_k».proof.Proof.Args
public import proofs.«01_k».proof.Proof.Claims

@[expose] public section

/-! Every state the reference goes through is the one `Spec` describes, so its result is `Spec.out`. -/

set_option maxRecDepth 16384

noncomputable section

namespace Cert.RefSpec

open Idealize.ShloMosaic Cert.ReferenceIdeal Cert.ReferenceIdeal.Gen Cert.ReferenceIdeal.Step Cert.Spec Cert.Math Cert.RefCell
open Cert.Cell (Arr)

/-- The error predicted before step `n`: nothing at first, then the read with the error of the step before. -/
def prev (I : Inp) : ℕ → Fin 32 → Fin 64 → EReal
  | 0 => fun _ _ => 0
  | n + 1 => fun r => Spec.read I (err I n r)

theorem out_eq (I : Inp) (n : ℕ) (r : Fin 32) (d : Fin 64) : pred I n r d + prev I n r d = Spec.out I n r d := by
  cases n with
  | zero => exact add_zero _
  | succ n => rfl

/-- What the state before step `n` holds. -/
structure At (I : Inp) (n : ℕ) (s : State Ideal) : Prop where
  h : ∀ r d, (s.main_v16_12 : Arr S32x128) (ix2 r d) = (hc I n).1 r d
  c : ∀ r d, (s.main_v16_13 : Arr S32x128) (ix2 r d) = (hc I n).2 r d
  p : ∀ r d, (s.main_v16_14 : Arr S32x64) (ix2 r d) = prev I n r d
  o : ∀ (t : Fin 20) r d, t.val < n → (s.main_v16_15 : Arr S20x32x64) (ix3 t r d) = Spec.out I t r d
  x : ∀ (t : Fin 20) r d, (s.main_v16_0 : Arr S20x32x128) (ix3 t r d) = emb I r t d
  y : ∀ (t : Fin 20) r d, (s.main_v16_1 : Arr S20x32x64) (ix3 t r d) = I.trg r t d
  wi : ∀ g d, (s.main_v16_2 : Arr S512x128) (ix2 g d) = I.wi g d
  bi : ∀ g, (s.main_v16_3 : Arr S512) (ix1 g) = I.bi g
  wh : ∀ g d, (s.main_v16_4 : Arr S512x128) (ix2 g d) = I.wh g d
  bh : ∀ g, (s.main_v16_5 : Arr S512) (ix1 g) = I.bh g
  ow : ∀ d e, (s.main_v16_6 : Arr S64x128) (ix2 d e) = I.ow d e
  ob : ∀ d, (s.main_v16_7 : Arr S64) (ix1 d) = I.ob d
  key : ∀ n d, (s.main_v16_8 : Arr S100000x64) (ix2 n d) = I.key n d
  kn : ∀ n, (s.main_v16_9 : Arr S100000) (ix1 n) = nrm (I.key n)
  val : ∀ n d, (s.main_v16_10 : Arr S100000x64) (ix2 n d) = I.val n d

variable {I : Inp} {n : ℕ} {s : State Ideal}

theorem gates (H : At I n s) (hn : n < 20) (r : Fin 32) (g : Fin 512) : (b18 n s : Arr S32x512) (ix2 r g) = gate I n (hc I n).1 r g := by
  rw [b18_apply]
  simp only [b3_apply n s hn, H.x, H.wi, H.bi, H.h, H.wh, H.bh]
  rfl

theorem nextC_eq (H : At I n s) (hn : n < 20) (r : Fin 32) (d : Fin 128) : (b50 n s : Arr S32x128) (ix2 r d) = (hc I (n + 1)).2 r d := by
  rw [b50_apply, b38_apply, b30_apply, b39_apply, b20_apply, b19_apply, b21_apply, gates H hn, gates H hn, gates H hn, H.c]
  rfl

theorem nextH_eq (H : At I n s) (hn : n < 20) (r : Fin 32) (d : Fin 128) : (b52 n s : Arr S32x128) (ix2 r d) = (hc I (n + 1)).1 r d := by
  rw [b52_apply, b47_apply, b22_apply, gates H hn, nextC_eq H hn]
  rfl

theorem pred_eq (H : At I n s) (hn : n < 20) (r : Fin 32) (d : Fin 64) : (b65 n s : Arr S32x64) (ix2 r d) = pred I n r d := by
  rw [b65_apply, b57_apply]
  simp only [nextH_eq H hn, H.ow, H.ob]
  rfl

theorem err_eq (H : At I n s) (hn : n < 20) (r : Fin 32) (d : Fin 64) : (b66 n s : Arr S32x64) (ix2 r d) = err I n r d := by
  rw [b66_apply, b7_apply n s hn, H.y, pred_eq H hn]
  rfl

theorem cos_eq (H : At I n s) (hn : n < 20) (r : Fin 32) (k : Fin 100000) : (b81 n s : Arr S32x100000) (ix2 r k) = cosR (err I n r) (I.key k) := by
  rw [b81_apply, b76_apply, b74_apply]
  simp only [err_eq H hn, H.key, H.kn]
  rfl

theorem exp_eq (H : At I n s) (hn : n < 20) (r : Fin 32) (k : Fin 100000) : (b90 n s : Arr S32x100000) (ix2 r k)
    = Ideal.exp (cosR (err I n r) (I.key k) - Finset.univ.fold max ⊥ fun j => cosR (err I n r) (I.key j)) := by
  rw [b90_apply, b86_apply, b83_apply]
  simp only [cos_eq H hn]

theorem read_eq (H : At I n s) (hn : n < 20) (r : Fin 32) (d : Fin 64) : (b96 n s : Arr S32x64) (ix2 r d) = Spec.read I (err I n r) d := by
  rw [b96_apply]
  unfold Spec.read
  refine Finset.sum_congr rfl fun k _ => ?_
  rw [b95_apply, b92_apply, H.val]
  simp only [exp_eq H hn]

theorem row_eq (H : At I n s) (hn : n < 20) (r : Fin 32) (d : Fin 64) : (b97 n s : Arr S32x64) (ix2 r d) = Spec.out I n r d := by
  rw [b97_apply, pred_eq H hn, H.p, out_eq]

/-- A step of the reference is a step of the recurrence. -/
theorem step_at (H : At I n s) (hn : n < 20) : At I (n + 1) (step n s) where
  h := nextH_eq H hn
  c := nextC_eq H hn
  p := read_eq H hn
  o t r d ht := by
    refine (b101_apply n s hn t r d).trans ?_
    split
    · rename_i e
      rw [row_eq H hn, e]
    · exact H.o t r d (by omega)
  x := H.x
  y := H.y
  wi := H.wi
  bi := H.bi
  wh := H.wh
  bh := H.bh
  ow := H.ow
  ob := H.ob
  key := H.key
  kn := H.kn
  val := H.val

section Start

variable (a0 a1 : Arr S32x20x64) (a2 a3 : Arr S1x32x128) (a4 : Arr S128x64) (a5 : Arr S128) (a6 a7 : Arr S512x128) (a8 a9 : Arr S512)
  (a10 : Arr S64x128) (a11 : Arr S64) (a12 a13 : Arr S100000x64)

theorem emb_start (t : Fin 20) (r : Fin 32) (d : Fin 128) : (A_main_v8 (F := Ideal) a0 a1 a2 a3 a4 a5 a12 : Arr S20x32x128) (ix3 t r d)
    = (∑ k : Fin 64, a0 (ix3 r t k) * a4 (ix2 d k)) + a5 (ix1 d) := by
  pointwise [A_main_v8, A_main_v4, A_main_v3, A_main_v2, A_main_v1, A_main_v0]

theorem trg_start (t : Fin 20) (r : Fin 32) (d : Fin 64) : (A_main_v9 (F := Ideal) a0 a1 a2 a3 a4 a5 a12 : Arr S20x32x64) (ix3 t r d) = a1 (ix3 r t d) := by
  pointwise [A_main_v9]

theorem h_start (r : Fin 32) (d : Fin 128) : (A_main_v10 (F := Ideal) a0 a1 a2 a3 a4 a5 a12 : Arr S32x128) (ix2 r d) = a2 (ix3 0 r d) := by
  pointwise [A_main_v10]

theorem c_start (r : Fin 32) (d : Fin 128) : (A_main_v11 (F := Ideal) a0 a1 a2 a3 a4 a5 a12 : Arr S32x128) (ix2 r d) = a3 (ix3 0 r d) := by
  pointwise [A_main_v11]

theorem p_start (r : Fin 32) (d : Fin 64) : (K_main_v14 (F := Ideal) : Arr S32x64) (ix2 r d) = 0 := by
  have h : (K_main_v14 (F := Ideal) : Arr S32x64) (ix2 r d) = Ideal.ofBits .f32 0x00000000#32 := by pointwise [K_main_v14, K_main_cst_0]
  exact h.trans Chunk.zero_bits

/-- The sum of a row's squares, at any number of rows. -/
theorem rowSquares {a n : ℕ} (x : Arr ⟨2, ![a, n]⟩) (h : (⟨2, ![a, n]⟩ : Shape).ReducesTo [1] ⟨1, ![a]⟩) (r : Fin a) :
    (Host.reduceAdd (mulf x x) (constant (F := Ideal) S_ .f32 0x00000000#32) h h_S_ : Arr ⟨1, ![a]⟩) (ix1 r) = ∑ k : Fin n, x (ix2 r k) * x (ix2 r k) := by
  have e : (Host.reduceAdd (mulf x x) (constant (F := Ideal) S_ .f32 0x00000000#32) h h_S_ : Arr ⟨1, ![a]⟩) (ix1 r)
      = Ideal.ofBits .f32 0x00000000#32 + ∑ k : Fin n, x (ix2 r k) * x (ix2 r k) := by pointwise []
  rw [e, Chunk.zero_bits, zero_add]

theorem floor_start (v : Arr S100000) (k : Fin 100000) : (maximumf (Host.sqrt v) (K_main_v6 (F := Ideal)) : Arr S100000) (ix1 k) = max (Ideal.sqrt (v (ix1 k))) eps := by
  unfold eps
  pointwise [K_main_v6, K_main_cst]

theorem kn_start (k : Fin 100000) : (A_main_v7 (F := Ideal) a0 a1 a2 a3 a4 a5 a12 : Arr S100000) (ix1 k) = nrm (fun d : Fin 64 => a12 (ix2 k d)) := by
  unfold A_main_v7 A_main_v5 A_main_call0_v1 A_main_call0_v0 K_main_call0_cst
  refine (floor_start _ k).trans ?_
  unfold nrm
  exact congrArg (fun z => max (Ideal.sqrt z) eps) (rowSquares a12 _ k)

/-- The state the first step starts from. -/
theorem init_at : At (Args.inp a0 a1 a2 a3 a4 a5 a6 a7 a8 a9 a10 a11 a12 a13) 0 (init a6 a8 a7 a9 a10 a11 a12 a13 a0 a1 a2 a3 a4 a5) where
  h := h_start a0 a1 a2 a3 a4 a5 a12
  c := c_start a0 a1 a2 a3 a4 a5 a12
  p := p_start
  o t r d ht := absurd ht (Nat.not_lt_zero _)
  x t r d := (emb_start a0 a1 a2 a3 a4 a5 a12 t r d).trans (by
    unfold emb Args.inp
    simp only [dif_pos t.isLt])
  y t r d := (trg_start a0 a1 a2 a3 a4 a5 a12 t r d).trans (by
    unfold Args.inp
    simp only [dif_pos t.isLt])
  wi _ _ := rfl
  bi _ := rfl
  wh _ _ := rfl
  bh _ := rfl
  ow _ _ := rfl
  ob _ := rfl
  key _ _ := rfl
  kn := kn_start a0 a1 a2 a3 a4 a5 a12
  val _ _ := rfl

end Start

/-- Every state, from the start on. -/
theorem states_at (m : (ℓ : Loc nD τ sig) → Buf (Elt Ideal) ℓ) (c : Dev nD) (h0 : At I 0 (Claims.states m c 0)) : ∀ n, n ≤ 20 → At I n (Claims.states m c n)
  | 0, _ => h0
  | n + 1, hn => step_at (states_at m c h0 n (by omega)) (by omega)

theorem result_eq (s : State Ideal) (H : At I 20 s) : (R_main_v17 s : Arr S32x20x64) = Args.result I := by
  refine Args.ext3 fun r t d => ?_
  have e : (R_main_v17 s : Arr S32x20x64) (ix3 r t d) = (s.main_v16_15 : Arr S20x32x64) (ix3 t r d) := by pointwise [R_main_v17]
  exact e.trans (H.o t r d t.isLt)

end Cert.RefSpec

end
-- ==== Proof.Algebraic.lean ====
module

public import proofs.«01_k».proof.Defs
public import proofs.«01_k».proof.Proof.Value
public import proofs.«01_k».proof.Proof.RefSpec

@[expose] public section

/-! The two programs return the same array: `Args.result` of the arguments. -/

set_option maxRecDepth 16384

noncomputable section

namespace Cert.Algebraic

open Idealize.ShloMosaic Idealize.SL.Sem

/-- The first state of the reference, started on arguments that agree with the kernel's. -/
theorem start_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    RefSpec.At (Host.I m c) 0 (Claims.states m' c 0) := by
  have e := RefSpec.init_at (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
  unfold Host.I Host.A
  rw [← h0, ← h1, ← h2, ← h3, ← h4, ← h5, ← h6, ← h7, ← h8, ← h9, ← h10, ← h11, ← h12, ← h13]
  exact e

theorem algebraic : Cert.algebraic_KernelIdeal_ReferenceIdeal := by
  intro m g m' g' _ hagree
  refine ⟨fun c => Args.result (Host.I m c), ?_, ?_⟩
  · exact KernelIdeal.Value.run m g
  · refine (θ_run Cert.ReferenceIdeal.defs _ _).mono (fun _ h c => ⟨(h c).1.trans ?_, (h c).2⟩)
      (Cert.ReferenceIdeal.Trips.run_iter (F := Ideal) m' g' (Claims.states m') (fun _ => rfl) (fun _ _ => rfl))
    obtain ⟨h0, h1, h2, h3, h4, h5, h6, h7, h8, h9, h10, h11, h12, h13⟩ := hagree c
    exact RefSpec.result_eq _ (RefSpec.states_at m' c (start_at m m' c h0 h1 h2 h3 h4 h5 h6 h7 h8 h9 h10 h11 h12 h13) 20 le_rfl)

end Cert.Algebraic

end
-- ==== Proof.lean ====
/- The proof of the five claims about the kernel, assembled. -/
module

public import proofs.«01_k».proof.Defs
public import proofs.«01_k».proof.Proof.KernelFrame.Frame
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, fun m g _ => Cert.Kernel.Unnamed.frame m g,
    fun m g _ => Cert.KernelIdeal.Value.frame m g, Cert.Claims.frame_ri, Cert.Claims.preserves, Cert.Algebraic.algebraic⟩

end Cert.Proof

end
